-- ==== Defs.lean ====
def Pre_Kernel [hPre_in_pool : Cert.Pre_in_pool.Facts] (m : (ℓ : Loc Cert.Kernel.nD Cert.Kernel.τ Cert.Kernel.sig) → Buf (Elt Bits) ℓ) : Prop :=
  ∀ c : Dev Cert.Kernel.nD,
    (Cert.Pre_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_pool : Cert.Pre_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_attends [hPre_attends : Cert.Pre_attends.Facts] (m : (ℓ : Loc Cert.KernelIdeal.nD Cert.KernelIdeal.τ Cert.KernelIdeal.sig) → Buf (Elt Ideal) ℓ) : Prop :=
  ∀ c : Dev Cert.KernelIdeal.nD,
    (Cert.Pre_attends.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends [hPre_attends : Cert.Pre_attends.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite [hPre_finite : Cert.Pre_finite.Facts] (m : (ℓ : Loc Cert.CrossIdeal.nD Cert.CrossIdeal.τ Cert.CrossIdeal.sig) → Buf (Elt Ideal) ℓ) : Prop :=
  ∀ c : Dev Cert.CrossIdeal.nD,
    (Cert.Pre_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6))) = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite [hPre_finite : Cert.Pre_finite.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6))) = (fun _ => 1#1)

def quiescent_Kernel [hKernel : Cert.Kernel.Facts] [hPre_in_pool : Cert.Pre_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_attends [hKernelIdeal : Cert.KernelIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_attends [hReferenceIdeal : Cert.ReferenceIdeal.Facts] [hPre_attends : Cert.Pre_attends.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossIdeal_pre_finite [hCrossIdeal : Cert.CrossIdeal.Facts] [hPre_finite : Cert.Pre_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6))
      ∧ r.2.sem = fun _ => 0)

def quiescent_CrossReferenceIdeal_pre_finite [hCrossReferenceIdeal : Cert.CrossReferenceIdeal.Facts] [hPre_finite : Cert.Pre_finite.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attends [hKernelIdeal : Cert.KernelIdeal.Facts] [hReferenceIdeal : Cert.ReferenceIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)) →
    ∃ (v0 : (c : Dev Cert.FeedForwardIdeal.nD) → Buf (Elt Ideal) ((c.tc : Thread Cert.FeedForwardIdeal.nD Cert.FeedForwardIdeal.τ).loc Cert.FeedForwardIdeal.main_v7)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v7) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v30) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v5) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v0) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v6)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v27) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v7)) (v1 : (c : Dev Cert.MemoryIdeal.nD) → Buf (Elt Ideal) ((c.tc : Thread Cert.MemoryIdeal.nD Cert.MemoryIdeal.τ).loc Cert.MemoryIdeal.main_v8)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v7) = v0 c
          ∧ r.2.mem ((c.tc : Thread Cert.MemoryIdeal.nD Cert.MemoryIdeal.τ).loc Cert.MemoryIdeal.main_v8) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v1) = v0 c
          ∧ r.2.mem ((c.tc : Thread Cert.MemoryReferenceIdeal.nD Cert.MemoryReferenceIdeal.τ).loc Cert.MemoryReferenceIdeal.main_v3) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Cross_CrossIdeal : Prop :=
  True

def algebraic_CrossIdeal_CrossReferenceIdeal_pre_finite [hCrossIdeal : Cert.CrossIdeal.Facts] [hCrossReferenceIdeal : Cert.CrossReferenceIdeal.Facts] [hPre_finite : Cert.Pre_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)
      ∧ m' ((c.tc : Thread Cert.CrossReferenceIdeal.nD Cert.CrossReferenceIdeal.τ).loc Cert.CrossReferenceIdeal.main_arg4) = m ((c.tc : Thread Cert.CrossIdeal.nD Cert.CrossIdeal.τ).loc Cert.CrossIdeal.main_arg4)
      ∧ m' ((c.tc : Thread Cert.CrossReferenceIdeal.nD Cert.CrossReferenceIdeal.τ).loc Cert.CrossReferenceIdeal.main_arg5) = m ((c.tc : Thread Cert.CrossIdeal.nD Cert.CrossIdeal.τ).loc Cert.CrossIdeal.main_arg5)
      ∧ m' ((c.tc : Thread Cert.CrossReferenceIdeal.nD Cert.CrossReferenceIdeal.τ).loc Cert.CrossReferenceIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v12)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v12) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v46) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4)
          ∧ r.2.mem ((c.tc : Thread Cert.CrossReferenceIdeal.nD Cert.CrossReferenceIdeal.τ).loc Cert.CrossReferenceIdeal.main_arg5) = m' ((c.tc : Thread Cert.CrossReferenceIdeal.nD Cert.CrossReferenceIdeal.τ).loc Cert.CrossReferenceIdeal.main_arg5)
          ∧ r.2.mem ((c.tc : Thread Cert.CrossReferenceIdeal.nD Cert.CrossReferenceIdeal.τ).loc Cert.CrossReferenceIdeal.main_arg6) = m' ((c.tc : Thread Cert.CrossReferenceIdeal.nD Cert.CrossReferenceIdeal.τ).loc Cert.CrossReferenceIdeal.main_arg6))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardReferenceIdeal : Cert.FeedForwardReferenceIdeal.Facts) (hProject : Cert.Project.Facts) (hProjectIdeal : Cert.ProjectIdeal.Facts) (hProjectReferenceIdeal : Cert.ProjectReferenceIdeal.Facts) (hMixOut : Cert.MixOut.Facts) (hMixOutIdeal : Cert.MixOutIdeal.Facts) (hMixOutReferenceIdeal : Cert.MixOutReferenceIdeal.Facts) (hMemory : Cert.Memory.Facts) (hMemoryIdeal : Cert.MemoryIdeal.Facts) (hMemoryReferenceIdeal : Cert.MemoryReferenceIdeal.Facts) (hCross : Cert.Cross.Facts) (hCrossIdeal : Cert.CrossIdeal.Facts) (hCrossReferenceIdeal : Cert.CrossReferenceIdeal.Facts) (hPre_in_pool : Cert.Pre_in_pool.Facts) (hPre_attends : Cert.Pre_attends.Facts) (hPre_finite : Cert.Pre_finite.Facts),
    quiescent_Kernel (hKernel := hKernel) (hPre_in_pool := hPre_in_pool)
    ∧ quiescent_KernelIdeal (hKernelIdeal := hKernelIdeal) (hPre_in_pool := hPre_in_pool)
    ∧ quiescent_KernelIdeal_pre_attends (hKernelIdeal := hKernelIdeal) (hPre_attends := hPre_attends)
    ∧ quiescent_ReferenceIdeal (hReferenceIdeal := hReferenceIdeal)
    ∧ quiescent_ReferenceIdeal_pre_attends (hReferenceIdeal := hReferenceIdeal) (hPre_attends := hPre_attends)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Cross (hCross := hCross)
    ∧ quiescent_CrossIdeal (hCrossIdeal := hCrossIdeal)
    ∧ quiescent_CrossIdeal_pre_finite (hCrossIdeal := hCrossIdeal) (hPre_finite := hPre_finite)
    ∧ quiescent_CrossReferenceIdeal (hCrossReferenceIdeal := hCrossReferenceIdeal)
    ∧ quiescent_CrossReferenceIdeal_pre_finite (hCrossReferenceIdeal := hCrossReferenceIdeal) (hPre_finite := hPre_finite)
    ∧ preserves_Kernel_KernelIdeal
    ∧ algebraic_KernelIdeal_ReferenceIdeal_pre_attends (hKernelIdeal := hKernelIdeal) (hReferenceIdeal := hReferenceIdeal) (hPre_attends := hPre_attends)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_Project_ProjectIdeal
    ∧ algebraic_ProjectIdeal_ProjectReferenceIdeal (hProjectIdeal := hProjectIdeal) (hProjectReferenceIdeal := hProjectReferenceIdeal)
    ∧ preserves_MixOut_MixOutIdeal
    ∧ algebraic_MixOutIdeal_MixOutReferenceIdeal (hMixOutIdeal := hMixOutIdeal) (hMixOutReferenceIdeal := hMixOutReferenceIdeal)
    ∧ preserves_Memory_MemoryIdeal
    ∧ algebraic_MemoryIdeal_MemoryReferenceIdeal (hMemoryIdeal := hMemoryIdeal) (hMemoryReferenceIdeal := hMemoryReferenceIdeal)
    ∧ preserves_Cross_CrossIdeal
    ∧ algebraic_CrossIdeal_CrossReferenceIdeal_pre_finite (hCrossIdeal := hCrossIdeal) (hCrossReferenceIdeal := hCrossReferenceIdeal) (hPre_finite := hPre_finite)
-- ==== Pre_attends.lean ====
abbrev S32x8x8x64 : Shape := ⟨4, ![32, 8, 8, 64]⟩
abbrev S32x8x4x64 : Shape := ⟨4, ![32, 8, 4, 64]⟩
abbrev S32x8x8200 : Shape := ⟨3, ![32, 8, 8200]⟩
abbrev S2x2560x128x4x64 : Shape := ⟨5, ![2, 2560, 128, 4, 64]⟩
abbrev S32x64 : Shape := ⟨2, ![32, 64]⟩
abbrev S_ : Shape := ⟨0, ![]⟩
abbrev S32x8 : Shape := ⟨2, ![32, 8]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32x8x8x64 : S_.BroadcastsInDim S32x8x8x64 (![] : Fin 0 → Fin S32x8x8x64.rank)
  reducesTo_S32x8x8x64_S_d0_1_2_3 : S32x8x8x64.ReducesTo [0, 1, 2, 3] S_
  bcast_S_S32x8x4x64 : S_.BroadcastsInDim S32x8x4x64 (![] : Fin 0 → Fin S32x8x4x64.rank)
  reducesTo_S32x8x4x64_S_d0_1_2_3 : S32x8x4x64.ReducesTo [0, 1, 2, 3] S_
  bcast_S_S2x2560x128x4x64 : S_.BroadcastsInDim S2x2560x128x4x64 (![] : Fin 0 → Fin S2x2560x128x4x64.rank)
  reducesTo_S2x2560x128x4x64_S_d0_1_2_3_4 : S2x2560x128x4x64.ReducesTo [0, 1, 2, 3, 4] S_
  bcast_S_S32x8x8200 : S_.BroadcastsInDim S32x8x8200 (![] : Fin 0 → Fin S32x8x8200.rank)
  reducesTo_S32x8x8200_S32x8_d2 : S32x8x8200.ReducesTo [2] S32x8
  reducesTo_S32x8_S_d0_1 : S32x8.ReducesTo [0, 1] S_

variable [Facts]

def fn_part1 {F : FTy → Type} [FloatOps F] (main_arg3 : IVec S32x8x8200 32) (main_v5 : IVec S_ 1) (main_v14 : IVec S_ 1) (main_v15 : FVec F S2x2560x128x4x64 .f32) (main_cst_5 : FVec F S_ .f32) : IVec S_ 1 :=
  let main_v16 : FVec F S2x2560x128x4x64 .f32 := broadcastInDim S2x2560x128x4x64 ![] bcast_S_S2x2560x128x4x64 main_cst_5
  let main_v17 : IVec S2x2560x128x4x64 1 := cmpf .olt main_v15 main_v16
  let main_c_6 : IVec S_ 1 := constantI S_ 1 1#1
  let main_v18 : IVec S_ 1 := (fun x v => Host.reduce IntOp.andi x v reducesTo_S2x2560x128x4x64_S_d0_1_2_3_4 h_S_) main_v17 main_c_6
  let main_v19 : IVec S_ 1 := andi main_v14 main_v18
  let main_v20 : IVec S_ 1 := andi main_v5 main_v19
  let main_c_7 : IVec S_ 32 := constantI S_ 32 0#32
  let main_v21 : IVec S32x8x8200 32 := broadcastInDim S32x8x8200 ![] bcast_S_S32x8x8200 main_c_7
  let main_v22 : IVec S32x8x8200 1 := cmpi .ne main_arg3 main_v21
  let main_c_8 : IVec S_ 1 := constantI S_ 1 0#1
  let main_v23 : IVec S32x8 1 := (fun x v => Host.reduce IntOp.ori x v reducesTo_S32x8x8200_S32x8_d2 h_S_) main_v22 main_c_8
  let main_c_9 : IVec S_ 1 := constantI S_ 1 1#1
  let main_v24 : IVec S_ 1 := (fun x v => Host.reduce IntOp.andi x v reducesTo_S32x8_S_d0_1 h_S_) main_v23 main_c_9
  let main_v25 : IVec S_ 1 := andi main_v20 main_v24
  main_v25

def fn {F : FTy → Type} [FloatOps F] (main_arg0 : FVec F S32x8x8x64 .f32) (main_arg1 : FVec F S32x8x4x64 .f32) (main_arg2 : FVec F S32x8x4x64 .f32) (main_arg3 : IVec S32x8x8200 32) (main_arg4 : FVec F S2x2560x128x4x64 .f32) (main_arg5 : FVec F S2x2560x128x4x64 .f32) (main_arg6 : IVec S32x64 32) : IVec S_ 1 :=
  let main_c : IVec S_ 32 := constantI S_ 32 0#32
  let main_v0 : IVec S32x64 32 := broadcastInDim S32x64 ![] bcast_S_S32x64 main_c
  let main_v1 : IVec S32x64 1 := cmpi .sge main_arg6 main_v0
  let main_c_0 : IVec S_ 32 := constantI S_ 32 2560#32
  let main_v2 : IVec S32x64 32 := broadcastInDim S32x64 ![] bcast_S_S32x64 main_c_0
  let main_v3 : IVec S32x64 1 := cmpi .slt main_arg6 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  let main_v6 : FVec F S32x8x8x64 .f32 := Host.absf main_arg0
  let main_cst : FVec F S_ .f32 := constant S_ .f32 0x7F800000#32
  let main_v7 : FVec F S32x8x8x64 .f32 := broadcastInDim S32x8x8x64 ![] bcast_S_S32x8x8x64 main_cst
  let main_v8 : IVec S32x8x8x64 1 := cmpf .olt main_v6 main_v7
  let main_c_2 : IVec S_ 1 := constantI S_ 1 1#1
  let main_v9 : IVec S_ 1 := (fun x v => Host.reduce IntOp.andi x v reducesTo_S32x8x8x64_S_d0_1_2_3 h_S_) main_v8 main_c_2
  let main_v10 : FVec F S32x8x4x64 .f32 := Host.absf main_arg1
  let main_cst_3 : FVec F S_ .f32 := constant S_ .f32 0x7F800000#32
  let main_v11 : FVec F S32x8x4x64 .f32 := broadcastInDim S32x8x4x64 ![] bcast_S_S32x8x4x64 main_cst_3
  let main_v12 : IVec S32x8x4x64 1 := cmpf .olt main_v10 main_v11
  let main_c_4 : IVec S_ 1 := constantI S_ 1 1#1
  let main_v13 : IVec S_ 1 := (fun x v => Host.reduce IntOp.andi x v reducesTo_S32x8x4x64_S_d0_1_2_3 h_S_) main_v12 main_c_4
  let main_v14 : IVec S_ 1 := andi main_v9 main_v13
  let main_v15 : FVec F S2x2560x128x4x64 .f32 := Host.absf main_arg4
  let main_cst_5 : FVec F S_ .f32 := constant S_ .f32 0x7F800000#32
  fn_part1 (F := F) main_arg3 main_v5 main_v14 main_v15 main_cst_5
-- ==== Pre_finite.lean ====
abbrev S4x4096x1024 : Shape := ⟨3, ![4, 4096, 1024]⟩
abbrev S4x256x4x128 : Shape := ⟨4, ![4, 256, 4, 128]⟩
abbrev S1024x512 : Shape := ⟨2, ![1024, 512]⟩
abbrev S512x1024 : Shape := ⟨2, ![512, 1024]⟩
abbrev S1024 : Shape := ⟨1, ![1024]⟩
abbrev S_ : Shape := ⟨0, ![]⟩

class Facts : Prop where
  bcast_S_S4x256x4x128 : S_.BroadcastsInDim S4x256x4x128 (![] : Fin 0 → Fin S4x256x4x128.rank)
  reducesTo_S4x256x4x128_S_d0_1_2_3 : S4x256x4x128.ReducesTo [0, 1, 2, 3] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S4x4096x1024 .f32) (main_arg1 : FVec F S4x256x4x128 .f32) (main_arg2 : FVec F S4x256x4x128 .f32) (main_arg3 : FVec F S1024x512 .f32) (main_arg4 : FVec F S512x1024 .f32) (main_arg5 : FVec F S1024 .f32) (main_arg6 : FVec F S1024 .f32) : IVec S_ 1 :=
  let main_v0 : FVec F S4x256x4x128 .f32 := Host.absf main_arg1
  let main_cst : FVec F S_ .f32 := constant S_ .f32 0x7F800000#32
  let main_v1 : FVec F S4x256x4x128 .f32 := broadcastInDim S4x256x4x128 ![] bcast_S_S4x256x4x128 main_cst
  let main_v2 : IVec S4x256x4x128 1 := cmpf .olt main_v0 main_v1
  let main_c : IVec S_ 1 := constantI S_ 1 1#1
  let main_v3 : IVec S_ 1 := (fun x v => Host.reduce IntOp.andi x v reducesTo_S4x256x4x128_S_d0_1_2_3 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Pre_in_pool.lean ====
abbrev S32x8x8x64 : Shape := ⟨4, ![32, 8, 8, 64]⟩
abbrev S32x8x4x64 : Shape := ⟨4, ![32, 8, 4, 64]⟩
abbrev S32x8x8200 : Shape := ⟨3, ![32, 8, 8200]⟩
abbrev S2x2560x128x4x64 : Shape := ⟨5, ![2, 2560, 128, 4, 64]⟩
abbrev S32x64 : Shape := ⟨2, ![32, 64]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : FVec F S32x8x8x64 .f32) (main_arg1 : FVec F S32x8x4x64 .f32) (main_arg2 : FVec F S32x8x4x64 .f32) (main_arg3 : IVec S32x8x8200 32) (main_arg4 : FVec F S2x2560x128x4x64 .f32) (main_arg5 : FVec F S2x2560x128x4x64 .f32) (main_arg6 : IVec S32x64 32) : IVec S32x64 1 :=
  let main_c : IVec S_ 32 := constantI S_ 32 0#32
  let main_v0 : IVec S32x64 32 := broadcastInDim S32x64 ![] bcast_S_S32x64 main_c
  let main_v1 : IVec S32x64 1 := cmpi .sge main_arg6 main_v0
  let main_c_0 : IVec S_ 32 := constantI S_ 32 2560#32
  let main_v2 : IVec S32x64 32 := broadcastInDim S32x64 ![] bcast_S_S32x64 main_c_0
  let main_v3 : IVec S32x64 1 := cmpi .slt main_arg6 main_v2
  let main_v4 : IVec S32x64 1 := andi main_v1 main_v3
  main_v4
-- ==== Kernel.lean ====
abbrev S32x8x8x64 : Shape := ⟨4, ![32, 8, 8, 64]⟩
abbrev S32x8x4x64 : Shape := ⟨4, ![32, 8, 4, 64]⟩
abbrev S32x8x8200 : Shape := ⟨3, ![32, 8, 8200]⟩
abbrev S2x2560x128x4x64 : Shape := ⟨5, ![2, 2560, 128, 4, 64]⟩
abbrev S32x64 : Shape := ⟨2, ![32, 64]⟩
abbrev S2x2560x128x256 : Shape := ⟨4, ![2, 2560, 128, 256]⟩
abbrev S32x8x8192 : Shape := ⟨3, ![32, 8, 8192]⟩
abbrev S_ : Shape := ⟨0, ![]⟩
abbrev S32x8x8320 : Shape := ⟨3, ![32, 8, 8320]⟩
abbrev S32x8x4x2x64 : Shape := ⟨5, ![32, 8, 4, 2, 64]⟩
abbrev S32x4x2x8x64 : Shape := ⟨5, ![32, 4, 2, 8, 64]⟩
abbrev S32x4x2x8x1x64 : Shape := ⟨6, ![32, 4, 2, 8, 1, 64]⟩
abbrev S4x4 : Shape := ⟨2, ![4, 4]⟩
abbrev S1x4x1x1x4x1 : Shape := ⟨6, ![1, 4, 1, 1, 4, 1]⟩
abbrev S32x4x2x8x4x64 : Shape := ⟨6, ![32, 4, 2, 8, 4, 64]⟩
abbrev S32x64x256 : Shape := ⟨3, ![32, 64, 256]⟩
abbrev S32x8x256 : Shape := ⟨3, ![32, 8, 256]⟩
abbrev S32x128x256 : Shape := ⟨3, ![32, 128, 256]⟩
abbrev S32x16x256 : Shape := ⟨3, ![32, 16, 256]⟩
abbrev S1x64x256 : Shape := ⟨3, ![1, 64, 256]⟩
abbrev S1x8x1024 : Shape := ⟨3, ![1, 8, 1024]⟩
abbrev S1x8x128 : Shape := ⟨3, ![1, 8, 128]⟩
abbrev S1x128x256 : Shape := ⟨3, ![1, 128, 256]⟩
abbrev S1x1x128x256 : Shape := ⟨4, ![1, 1, 128, 256]⟩
abbrev S1x1 : Shape := ⟨2, ![1, 1]⟩
abbrev S1x16x256 : Shape := ⟨3, ![1, 16, 256]⟩
abbrev S64x1 : Shape := ⟨2, ![64, 1]⟩
abbrev S64x256 : Shape := ⟨2, ![64, 256]⟩
abbrev S128x256 : Shape := ⟨2, ![128, 256]⟩
abbrev S1024x256 : Shape := ⟨2, ![1024, 256]⟩
abbrev S8x1024 : Shape := ⟨2, ![8, 1024]⟩
abbrev S64x1024 : Shape := ⟨2, ![64, 1024]⟩
abbrev S64 : Shape := ⟨1, ![64]⟩
abbrev S8x128 : Shape := ⟨2, ![8, 128]⟩
abbrev S64x128 : Shape := ⟨2, ![64, 128]⟩
abbrev S1x256 : Shape := ⟨2, ![1, 256]⟩
abbrev S16x256 : Shape := ⟨2, ![16, 256]⟩

abbrev nBuf : Space → Nat
  | .hbm => 70
  | .vmem => 47
  | .smem => 1
  | _ => 0

abbrev bufTy : (tb : Table) → Fin (tcTables nBuf tb) → BufTy
  | .hbm, ⟨0, _⟩ => ⟨S32x8x8x64, .f32⟩
  | .hbm, ⟨1, _⟩ => ⟨S32x8x4x64, .f32⟩
  | .hbm, ⟨2, _⟩ => ⟨S32x8x4x64, .f32⟩
  | .hbm, ⟨3, _⟩ => ⟨S32x8x8200, .i32⟩
  | .hbm, ⟨4, _⟩ => ⟨S2x2560x128x4x64, .f32⟩
  | .hbm, ⟨5, _⟩ => ⟨S2x2560x128x4x64, .f32⟩
  | .hbm, ⟨6, _⟩ => ⟨S2x2560x128x256, .f32⟩
  | .hbm, ⟨7, _⟩ => ⟨S2x2560x128x256, .f32⟩
  | .hbm, ⟨8, _⟩ => ⟨S2x2560x128x256, .f32⟩
  | .hbm, ⟨9, _⟩ => ⟨S2x2560x128x256, .f32⟩
  | .hbm, ⟨10, _⟩ => ⟨S2x2560x128x256, .f32⟩
  | .hbm, ⟨11, _⟩ => ⟨S2x2560x128x256, .f32⟩
  | .hbm, ⟨12, _⟩ => ⟨S2x2560x128x256, .f32⟩
  | .hbm, ⟨13, _⟩ => ⟨S2x2560x128x256, .f32⟩
  | .hbm, ⟨14, _⟩ => ⟨S2x2560x128x256, .f32⟩
  | .hbm, ⟨15, _⟩ => ⟨S2x2560x128x256, .f32⟩
  | .hbm, ⟨16, _⟩ => ⟨S2x2560x128x256, .f32⟩
  | .hbm, ⟨17, _⟩ => ⟨S2x2560x128x256, .f32⟩
  | .hbm, ⟨18, _⟩ => ⟨S2x2560x128x256, .f32⟩
  | .hbm, ⟨19, _⟩ => ⟨S2x2560x128x256, .f32⟩
  | .hbm, ⟨20, _⟩ => ⟨S2x2560x128x256, .f32⟩
  | .hbm, ⟨21, _⟩ => ⟨S2x2560x128x256, .f32⟩
  | .hbm, ⟨22, _⟩ => ⟨S32x8x8192, .i32⟩
  | .hbm, ⟨23, _⟩ => ⟨S_, .i32⟩
  | .hbm, ⟨24, _⟩ => ⟨S32x8x8192, .i32⟩
  | .hbm, ⟨25, _⟩ => ⟨S32x8x8192, .i1⟩
  | .hbm, ⟨26, _⟩ => ⟨S_, .f32⟩
  | .hbm, ⟨27, _⟩ => ⟨S_, .f32⟩
  | .hbm, ⟨28, _⟩ => ⟨S32x8x8192, .f32⟩
  | .hbm, ⟨29, _⟩ => ⟨S32x8x8192, .f32⟩
  | .hbm, ⟨30, _⟩ => ⟨S32x8x8192, .f32⟩
  | .hbm, ⟨31, _⟩ => ⟨S_, .i32⟩
  | .hbm, ⟨32, _⟩ => ⟨S_, .i32⟩
  | .hbm, ⟨33, _⟩ => ⟨S32x8x8320, .i32⟩
  | .hbm, ⟨34, _⟩ => ⟨S_, .i32⟩
  | .hbm, ⟨35, _⟩ => ⟨S32x8x8320, .i32⟩
  | .hbm, ⟨36, _⟩ => ⟨S32x8x8320, .i1⟩
  | .hbm, ⟨37, _⟩ => ⟨S_, .f32⟩
  | .hbm, ⟨38, _⟩ => ⟨S_, .f32⟩
  | .hbm, ⟨39, _⟩ => ⟨S32x8x8320, .f32⟩
  | .hbm, ⟨40, _⟩ => ⟨S32x8x8320, .f32⟩
  | .hbm, ⟨41, _⟩ => ⟨S32x8x8320, .f32⟩
  | .hbm, ⟨42, _⟩ => ⟨S_, .f32⟩
  | .hbm, ⟨43, _⟩ => ⟨S32x8x8x64, .f32⟩
  | .hbm, ⟨44, _⟩ => ⟨S32x8x8x64, .f32⟩
  | .hbm, ⟨45, _⟩ => ⟨S32x8x4x2x64, .f32⟩
  | .hbm, ⟨46, _⟩ => ⟨S32x4x2x8x64, .f32⟩
  | .hbm, ⟨47, _⟩ => ⟨S32x4x2x8x1x64, .f32⟩
  | .hbm, ⟨48, _⟩ => ⟨S4x4, .i32⟩
  | .hbm, ⟨49, _⟩ => ⟨S4x4, .i32⟩
  | .hbm, ⟨50, _⟩ => ⟨S_, .i32⟩
  | .hbm, ⟨51, _⟩ => ⟨S4x4, .i32⟩
  | .hbm, ⟨52, _⟩ => ⟨S4x4, .i32⟩
  | .hbm, ⟨53, _⟩ => ⟨S4x4, .i1⟩
  | .hbm, ⟨54, _⟩ => ⟨S4x4, .f32⟩
  | .hbm, ⟨55, _⟩ => ⟨S1x4x1x1x4x1, .f32⟩
  | .hbm, ⟨56, _⟩ => ⟨S32x4x2x8x4x64, .f32⟩
  | .hbm, ⟨57, _⟩ => ⟨S32x4x2x8x4x64, .f32⟩
  | .hbm, ⟨58, _⟩ => ⟨S32x4x2x8x4x64, .f32⟩
  | .hbm, ⟨59, _⟩ => ⟨S32x64x256, .f32⟩
  | .hbm, ⟨60, _⟩ => ⟨S32x64x256, .bf16⟩
  | .hbm, ⟨61, _⟩ => ⟨S32x8x256, .f32⟩
  | .hbm, ⟨62, _⟩ => ⟨S_, .i32⟩
  | .hbm, ⟨63, _⟩ => ⟨S_, .f32⟩
  | .hbm, ⟨64, _⟩ => ⟨S32x128x256, .f32⟩
  | .hbm, ⟨65, _⟩ => ⟨S32x8x256, .f32⟩
  | .hbm, ⟨66, _⟩ => ⟨S_, .i32⟩
  | .hbm, ⟨67, _⟩ => ⟨S_, .f32⟩
  | .hbm, ⟨68, _⟩ => ⟨S32x128x256, .f32⟩
  | .hbm, ⟨69, _⟩ => ⟨S32x16x256, .f32⟩
  | .local _ .vmem, ⟨0, _⟩ => ⟨S1x64x256, .bf16⟩
  | .local _ .vmem, ⟨1, _⟩ => ⟨S1x64x256, .bf16⟩
  | .local _ .vmem, ⟨2, _⟩ => ⟨S1x8x1024, .f32⟩
  | .local _ .vmem, ⟨3, _⟩ => ⟨S1x8x1024, .f32⟩
  | .local _ .vmem, ⟨4, _⟩ => ⟨S1x8x128, .f32⟩
  | .local _ .vmem, ⟨5, _⟩ => ⟨S1x8x128, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x1x128x256, .f32⟩
  | .local _ .vmem, ⟨11, _⟩ => ⟨S1x1x128x256, .f32⟩
  | .local _ .vmem, ⟨12, _⟩ => ⟨S1x1x128x256, .f32⟩
  | .local _ .vmem, ⟨13, _⟩ => ⟨S1x1x128x256, .f32⟩
  | .local _ .vmem, ⟨14, _⟩ => ⟨S1x1x128x256, .f32⟩
  | .local _ .vmem, ⟨15, _⟩ => ⟨S1x1x128x256, .f32⟩
  | .local _ .vmem, ⟨16, _⟩ => ⟨S1x1x128x256, .f32⟩
  | .local _ .vmem, ⟨17, _⟩ => ⟨S1x1x128x256, .f32⟩
  | .local _ .vmem, ⟨18, _⟩ => ⟨S1x1x128x256, .f32⟩
  | .local _ .vmem, ⟨19, _⟩ => ⟨S1x1x128x256, .f32⟩
  | .local _ .vmem, ⟨20, _⟩ => ⟨S1x1x128x256, .f32⟩
  | .local _ .vmem, ⟨21, _⟩ => ⟨S1x1x128x256, .f32⟩
  | .local _ .vmem, ⟨22, _⟩ => ⟨S1x1x128x256, .f32⟩
  | .local _ .vmem, ⟨23, _⟩ => ⟨S1x1x128x256, .f32⟩
  | .local _ .vmem, ⟨24, _⟩ => ⟨S1x1x128x256, .f32⟩
  | .local _ .vmem, ⟨25, _⟩ => ⟨S1x1x128x256, .f32⟩
  | .local _ .vmem, ⟨26, _⟩ => ⟨S1x1x128x256, .f32⟩
  | .local _ .vmem, ⟨27, _⟩ => ⟨S1x1x128x256, .f32⟩
  | .local _ .vmem, ⟨28, _⟩ => ⟨S1x1x128x256, .f32⟩
  | .local _ .vmem, ⟨29, _⟩ => ⟨S1x1x128x256, .f32⟩
  | .local _ .vmem, ⟨30, _⟩ => ⟨S1x1x128x256, .f32⟩
  | .local _ .vmem, ⟨31, _⟩ => ⟨S1x1x128x256, .f32⟩
  | .local _ .vmem, ⟨32, _⟩ => ⟨S1x1x128x256, .f32⟩
  | .local _ .vmem, ⟨33, _⟩ => ⟨S1x1x128x256, .f32⟩
  | .local _ .vmem, ⟨34, _⟩ => ⟨S1x1x128x256, .f32⟩
  | .local _ .vmem, ⟨35, _⟩ => ⟨S1x1x128x256, .f32⟩
  | .local _ .vmem, ⟨36, _⟩ => ⟨S1x1x128x256, .f32⟩
  | .local _ .vmem, ⟨37, _⟩ => ⟨S1x1x128x256, .f32⟩
  | .local _ .vmem, ⟨38, _⟩ => ⟨S1x1x128x256, .f32⟩
  | .local _ .vmem, ⟨39, _⟩ => ⟨S1x1x128x256, .f32⟩
  | .local _ .vmem, ⟨40, _⟩ => ⟨S1x1x128x256, .f32⟩
  | .local _ .vmem, ⟨41, _⟩ => ⟨S1x1x128x256, .f32⟩
  | .local _ .vmem, ⟨42, _⟩ => ⟨S1x16x256, .f32⟩
  | .local _ .vmem, ⟨43, _⟩ => ⟨S1x16x256, .f32⟩
  | .local _ .vmem, ⟨44, _⟩ => ⟨S64x1, .f32⟩
  | .local _ .vmem, ⟨45, _⟩ => ⟨S64x1, .f32⟩
  | .local _ .vmem, ⟨46, _⟩ => ⟨S64x256, .f32⟩
  | .local _ .smem, ⟨0, _⟩ => ⟨S32x64, .i32⟩
  | _, _ => ⟨S32x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_c_1 : Ref sig .tc := ⟨.hbm, 31, rfl⟩
abbrev main_call1_v0 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_call3_v0 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_call4_v0 : Ref sig .tc := ⟨.hbm, 67, rfl⟩
abbrev main_v44 : Ref sig .tc := ⟨.hbm, 68, rfl⟩
abbrev main_v45 : Ref sig .tc := ⟨.hbm, 69, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_85 : BitVec 32 := 0#32
  let v77 : BitVec 1 := Scalar.cmpi .ne v76 c0_i32_85
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c64_i32 : BitVec 32 := 64#32
  let c0_i32_0 : BitVec 32 := 0#32
  ![arg0.toNat, c0_i32.toNat, c64_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_6 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_9 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_10 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_11 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_12 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_13 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_14 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_15 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_16 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_17 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_18 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_19 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_20 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x128x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32x8x8x64 : Shape := ⟨4, ![32, 8, 8, 64]⟩
abbrev S32x8x4x64 : Shape := ⟨4, ![32, 8, 4, 64]⟩
abbrev S32x8x8200 : Shape := ⟨3, ![32, 8, 8200]⟩
abbrev S2x2560x128x4x64 : Shape := ⟨5, ![2, 2560, 128, 4, 64]⟩
abbrev S32x64 : Shape := ⟨2, ![32, 64]⟩
abbrev S_ : Shape := ⟨0, ![]⟩
abbrev S32x64x1 : Shape := ⟨3, ![32, 64, 1]⟩
abbrev S32x64x2 : Shape := ⟨3, ![32, 64, 2]⟩
abbrev S32x64x128x4x64 : Shape := ⟨5, ![32, 64, 128, 4, 64]⟩
abbrev S32x8192x4x64 : Shape := ⟨4, ![32, 8192, 4, 64]⟩
abbrev S32x8200x4x64 : Shape := ⟨4, ![32, 8200, 4, 64]⟩
abbrev S32x8x4x2x64 : Shape := ⟨5, ![32, 8, 4, 2, 64]⟩
abbrev S32x4x8200x8x2 : Shape := ⟨5, ![32, 4, 8200, 8, 2]⟩
abbrev S32x8x4x2x8200 : Shape := ⟨5, ![32, 8, 4, 2, 8200]⟩
abbrev S32x8x1x1x8200 : Shape := ⟨5, ![32, 8, 1, 1, 8200]⟩
abbrev S32x8x4x2 : Shape := ⟨4, ![32, 8, 4, 2]⟩
abbrev S32x8x4x2x1 : Shape := ⟨5, ![32, 8, 4, 2, 1]⟩
abbrev S32x4x64x8x2 : Shape := ⟨5, ![32, 4, 64, 8, 2]⟩
abbrev S32x2x8x4x64 : Shape := ⟨5, ![32, 2, 8, 4, 64]⟩
abbrev S32x16x256 : Shape := ⟨3, ![32, 16, 256]⟩

abbrev nBuf : Space → Nat
  | .hbm => 72
  | .vmem => 0
  | .smem => 0
  | _ => 0

abbrev bufTy : (tb : Table) → Fin (tcTables nBuf tb) → BufTy
  | .hbm, ⟨0, _⟩ => ⟨S32x8x8x64, .f32⟩
  | .hbm, ⟨1, _⟩ => ⟨S32x8x4x64, .f32⟩
  | .hbm, ⟨2, _⟩ => ⟨S32x8x4x64, .f32⟩
  | .hbm, ⟨3, _⟩ => ⟨S32x8x8200, .i32⟩
  | .hbm, ⟨4, _⟩ => ⟨S2x2560x128x4x64, .f32⟩
  | .hbm, ⟨5, _⟩ => ⟨S2x2560x128x4x64, .f32⟩
  | .hbm, ⟨6, _⟩ => ⟨S32x64, .i32⟩
  | .hbm, ⟨7, _⟩ => ⟨S_, .i32⟩
  | .hbm, ⟨8, _⟩ => ⟨S32x64, .i32⟩
  | .hbm, ⟨9, _⟩ => ⟨S32x64, .i1⟩
  | .hbm, ⟨10, _⟩ => ⟨S_, .i32⟩
  | .hbm, ⟨11, _⟩ => ⟨S32x64, .i32⟩
  | .hbm, ⟨12, _⟩ => ⟨S32x64, .i32⟩
  | .hbm, ⟨13, _⟩ => ⟨S32x64, .i32⟩
  | .hbm, ⟨14, _⟩ => ⟨S_, .i32⟩
  | .hbm, ⟨15, _⟩ => ⟨S32x64, .i32⟩
  | .hbm, ⟨16, _⟩ => ⟨S32x64, .i32⟩
  | .hbm, ⟨17, _⟩ => ⟨S32x64x1, .i32⟩
  | .hbm, ⟨18, _⟩ => ⟨S32x64x1, .i32⟩
  | .hbm, ⟨19, _⟩ => ⟨S32x64x2, .i32⟩
  | .hbm, ⟨20, _⟩ => ⟨S32x64x128x4x64, .f32⟩
  | .hbm, ⟨21, _⟩ => ⟨S32x8192x4x64, .f32⟩
  | .hbm, ⟨22, _⟩ => ⟨S32x8200x4x64, .f32⟩
  | .hbm, ⟨23, _⟩ => ⟨S_, .i32⟩
  | .hbm, ⟨24, _⟩ => ⟨S32x64, .i32⟩
  | .hbm, ⟨25, _⟩ => ⟨S32x64, .i1⟩
  | .hbm, ⟨26, _⟩ => ⟨S_, .i32⟩
  | .hbm, ⟨27, _⟩ => ⟨S32x64, .i32⟩
  | .hbm, ⟨28, _⟩ => ⟨S32x64, .i32⟩
  | .hbm, ⟨29, _⟩ => ⟨S32x64, .i32⟩
  | .hbm, ⟨30, _⟩ => ⟨S_, .i32⟩
  | .hbm, ⟨31, _⟩ => ⟨S32x64, .i32⟩
  | .hbm, ⟨32, _⟩ => ⟨S32x64, .i32⟩
  | .hbm, ⟨33, _⟩ => ⟨S32x64x1, .i32⟩
  | .hbm, ⟨34, _⟩ => ⟨S32x64x1, .i32⟩
  | .hbm, ⟨35, _⟩ => ⟨S32x64x2, .i32⟩
  | .hbm, ⟨36, _⟩ => ⟨S32x64x128x4x64, .f32⟩
  | .hbm, ⟨37, _⟩ => ⟨S32x8192x4x64, .f32⟩
  | .hbm, ⟨38, _⟩ => ⟨S32x8200x4x64, .f32⟩
  | .hbm, ⟨39, _⟩ => ⟨S32x8x4x2x64, .f32⟩
  | .hbm, ⟨40, _⟩ => ⟨S32x4x8200x8x2, .f32⟩
  | .hbm, ⟨41, _⟩ => ⟨S32x8x4x2x8200, .f32⟩
  | .hbm, ⟨42, _⟩ => ⟨S_, .f32⟩
  | .hbm, ⟨43, _⟩ => ⟨S32x8x4x2x8200, .f32⟩
  | .hbm, ⟨44, _⟩ => ⟨S32x8x4x2x8200, .f32⟩
  | .hbm, ⟨45, _⟩ => ⟨S32x8x1x1x8200, .i32⟩
  | .hbm, ⟨46, _⟩ => ⟨S_, .i32⟩
  | .hbm, ⟨47, _⟩ => ⟨S32x8x1x1x8200, .i32⟩
  | .hbm, ⟨48, _⟩ => ⟨S32x8x1x1x8200, .i1⟩
  | .hbm, ⟨49, _⟩ => ⟨S_, .f32⟩
  | .hbm, ⟨50, _⟩ => ⟨S_, .f32⟩
  | .hbm, ⟨51, _⟩ => ⟨S32x8x4x2x8200, .i1⟩
  | .hbm, ⟨52, _⟩ => ⟨S32x8x4x2x8200, .f32⟩
  | .hbm, ⟨53, _⟩ => ⟨S32x8x4x2x8200, .f32⟩
  | .hbm, ⟨54, _⟩ => ⟨S_, .f32⟩
  | .hbm, ⟨55, _⟩ => ⟨S32x8x4x2, .f32⟩
  | .hbm, ⟨56, _⟩ => ⟨S_, .f32⟩
  | .hbm, ⟨57, _⟩ => ⟨S32x8x4x2, .f32⟩
  | .hbm, ⟨58, _⟩ => ⟨S32x8x4x2, .f32⟩
  | .hbm, ⟨59, _⟩ => ⟨S32x8x4x2x1, .f32⟩
  | .hbm, ⟨60, _⟩ => ⟨S32x8x4x2x8200, .f32⟩
  | .hbm, ⟨61, _⟩ => ⟨S32x8x4x2x8200, .f32⟩
  | .hbm, ⟨62, _⟩ => ⟨S32x8x4x2x8200, .f32⟩
  | .hbm, ⟨63, _⟩ => ⟨S_, .f32⟩
  | .hbm, ⟨64, _⟩ => ⟨S32x8x4x2, .f32⟩
  | .hbm, ⟨65, _⟩ => ⟨S32x8x4x2x1, .f32⟩
  | .hbm, ⟨66, _⟩ => ⟨S32x8x4x2x8200, .f32⟩
  | .hbm, ⟨67, _⟩ => ⟨S32x8x4x2x8200, .f32⟩
  | .hbm, ⟨68, _⟩ => ⟨S32x4x64x8x2, .f32⟩
  | .hbm, ⟨69, _⟩ => ⟨S32x8x4x2x64, .f32⟩
  | .hbm, ⟨70, _⟩ => ⟨S32x2x8x4x64, .f32⟩
  | .hbm, ⟨71, _⟩ => ⟨S32x16x256, .f32⟩
  | _, _ => ⟨S32x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== FeedForward.lean ====
abbrev S4x4096x1024 : Shape := ⟨3, ![4, 4096, 1024]⟩
abbrev S1024x4096 : Shape := ⟨2, ![1024, 4096]⟩
abbrev S4096x1024 : Shape := ⟨2, ![4096, 1024]⟩
abbrev S1024 : Shape := ⟨1, ![1024]⟩
abbrev S16384x1024 : Shape := ⟨2, ![16384, 1024]⟩
abbrev S16384x4096 : Shape := ⟨2, ![16384, 4096]⟩
abbrev S512x1024 : Shape := ⟨2, ![512, 1024]⟩
abbrev S1024x1024 : Shape := ⟨2, ![1024, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S16384x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S256x4096, .bf16⟩
  | .local _ .vmem, ⟨7, _⟩ => ⟨S256x4096, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== FeedForwardReferenceIdeal.lean ====
abbrev S4x4096x1024 : Shape := ⟨3, ![4, 4096, 1024]⟩
abbrev S1024x4096 : Shape := ⟨2, ![1024, 4096]⟩
abbrev S4096x1024 : Shape := ⟨2, ![4096, 1024]⟩
abbrev S1024 : Shape := ⟨1, ![1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S4x4096x4096, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Project.lean ====
abbrev S4x4096x1024 : Shape := ⟨3, ![4, 4096, 1024]⟩
abbrev S1024x3112 : Shape := ⟨2, ![1024, 3112]⟩
abbrev S_ : Shape := ⟨0, ![]⟩
abbrev S1024x3200 : Shape := ⟨2, ![1024, 3200]⟩
abbrev S16384x1024 : Shape := ⟨2, ![16384, 1024]⟩
abbrev S16384x3200 : Shape := ⟨2, ![16384, 3200]⟩
abbrev S512x1024 : Shape := ⟨2, ![512, 1024]⟩
abbrev S1024x640 : Shape := ⟨2, ![1024, 640]⟩
abbrev S512x640 : Shape := ⟨2, ![512, 640]⟩
abbrev S4x4096x3200 : Shape := ⟨3, ![4, 4096, 3200]⟩
abbrev S4x4096x3112 : Shape := ⟨3, ![4, 4096, 3112]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x3112, .f32⟩
  | .hbm, ⟨2, _⟩ => ⟨S_, .i32⟩
  | .hbm, ⟨3, _⟩ => ⟨S_, .f32⟩
  | .hbm, ⟨4, _⟩ => ⟨S1024x3200, .f32⟩
  | .hbm, ⟨5, _⟩ => ⟨S1024x3200, .bf16⟩
  | .hbm, ⟨6, _⟩ => ⟨S16384x1024, .f32⟩
  | .hbm, ⟨7, _⟩ => ⟨S16384x3200, .f32⟩
  | .hbm, ⟨8, _⟩ => ⟨S4x4096x3200, .f32⟩
  | .hbm, ⟨9, _⟩ => ⟨S4x4096x3112, .f32⟩
  | .local _ .vmem, ⟨0, _⟩ => ⟨S512x1024, .f32⟩
  | .local _ .vmem, ⟨1, _⟩ => ⟨S512x1024, .f32⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S4x4096x1024 : Shape := ⟨3, ![4, 4096, 1024]⟩
abbrev S1024x3112 : Shape := ⟨2, ![1024, 3112]⟩
abbrev S4x4096x3112 : Shape := ⟨3, ![4, 4096, 3112]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3112, .f32⟩
  | .hbm, ⟨2, _⟩ => ⟨S4x4096x3112, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixOut.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x1024, .bf16⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutReferenceIdeal.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S1x1x1024, .f32⟩
  | .hbm, ⟨37, _⟩ => ⟨S4x4096x1024, .f32⟩
  | .hbm, ⟨38, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Memory.lean ====
abbrev S4x256x1024 : Shape := ⟨3, ![4, 256, 1024]⟩
abbrev S1024x512 : Shape := ⟨2, ![1024, 512]⟩
abbrev S1024x1024 : Shape := ⟨2, ![1024, 1024]⟩
abbrev S512x1024 : Shape := ⟨2, ![512, 1024]⟩
abbrev S4x256x512 : Shape := ⟨3, ![4, 256, 512]⟩
abbrev S4x256x4x128 : Shape := ⟨4, ![4, 256, 4, 128]⟩

abbrev nBuf : Space → Nat
  | .hbm => 12
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S1024x512, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x512, .f32⟩
  | .hbm, ⟨9, _⟩ => ⟨S4x256x512, .f32⟩
  | .hbm, ⟨10, _⟩ => ⟨S4x256x4x128, .f32⟩
  | .hbm, ⟨11, _⟩ => ⟨S4x256x4x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemoryReferenceIdeal.lean ====
abbrev S4x256x1024 : Shape := ⟨3, ![4, 256, 1024]⟩
abbrev S1024x512 : Shape := ⟨2, ![1024, 512]⟩
abbrev S4x256x512 : Shape := ⟨3, ![4, 256, 512]⟩
abbrev S4x256x4x128 : Shape := ⟨4, ![4, 256, 4, 128]⟩

abbrev nBuf : Space → Nat
  | .hbm => 7
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S1024x512, .f32⟩
  | .hbm, ⟨3, _⟩ => ⟨S4x256x512, .f32⟩
  | .hbm, ⟨4, _⟩ => ⟨S4x256x4x128, .f32⟩
  | .hbm, ⟨5, _⟩ => ⟨S4x256x512, .f32⟩
  | .hbm, ⟨6, _⟩ => ⟨S4x256x4x128, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Cross.lean ====
abbrev S4x4096x1024 : Shape := ⟨3, ![4, 4096, 1024]⟩
abbrev S4x256x4x128 : Shape := ⟨4, ![4, 256, 4, 128]⟩
abbrev S1024x512 : Shape := ⟨2, ![1024, 512]⟩
abbrev S512x1024 : Shape := ⟨2, ![512, 1024]⟩
abbrev S1024 : Shape := ⟨1, ![1024]⟩
abbrev S16384x1024 : Shape := ⟨2, ![16384, 1024]⟩
abbrev S16384x512 : Shape := ⟨2, ![16384, 512]⟩
abbrev S512x512 : Shape := ⟨2, ![512, 512]⟩
abbrev S4x4096x512 : Shape := ⟨3, ![4, 4096, 512]⟩
abbrev S4x256x512 : Shape := ⟨3, ![4, 256, 512]⟩
abbrev S1x512x512 : Shape := ⟨3, ![1, 512, 512]⟩
abbrev S1x256x512 : Shape := ⟨3, ![1, 256, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x256x4x128, .f32⟩
  | .hbm, ⟨2, _⟩ => ⟨S4x256x4x128, .f32⟩
  | .hbm, ⟨3, _⟩ => ⟨S1024x512, .f32⟩
  | .hbm, ⟨4, _⟩ => ⟨S512x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S1024x512, .bf16⟩
  | .hbm, ⟨9, _⟩ => ⟨S16384x512, .f32⟩
  | .hbm, ⟨10, _⟩ => ⟨S4x4096x512, .f32⟩
  | .hbm, ⟨11, _⟩ => ⟨S4x256x512, .f32⟩
  | .hbm, ⟨12, _⟩ => ⟨S4x256x512, .f32⟩
  | .hbm, ⟨13, _⟩ => ⟨S4x4096x512, .f32⟩
  | .hbm, ⟨14, _⟩ => ⟨S16384x512, .f32⟩
  | .hbm, ⟨15, _⟩ => ⟨S512x1024, .bf16⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S1x512x512, .f32⟩
  | .local _ .vmem, ⟨6, _⟩ => ⟨S1x512x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x512x512, .f32⟩
  | .local _ .vmem, ⟨12, _⟩ => ⟨S1x512x512, .f32⟩
  | .local _ .vmem, ⟨13, _⟩ => ⟨S256x512, .f32⟩
  | .local _ .vmem, ⟨14, _⟩ => ⟨S256x512, .f32⟩
  | .local _ .vmem, ⟨15, _⟩ => ⟨S512x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== CrossReferenceIdeal.lean ====
abbrev S4x4096x1024 : Shape := ⟨3, ![4, 4096, 1024]⟩
abbrev S4x256x4x128 : Shape := ⟨4, ![4, 256, 4, 128]⟩
abbrev S1024x512 : Shape := ⟨2, ![1024, 512]⟩
abbrev S512x1024 : Shape := ⟨2, ![512, 1024]⟩
abbrev S1024 : Shape := ⟨1, ![1024]⟩
abbrev S4x4096x512 : Shape := ⟨3, ![4, 4096, 512]⟩
abbrev S4x4096x4x128 : Shape := ⟨4, ![4, 4096, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x4x128, .f32⟩
  | .hbm, ⟨2, _⟩ => ⟨S4x256x4x128, .f32⟩
  | .hbm, ⟨3, _⟩ => ⟨S1024x512, .f32⟩
  | .hbm, ⟨4, _⟩ => ⟨S512x1024, .f32⟩
  | .hbm, ⟨5, _⟩ => ⟨S1024, .f32⟩
  | .hbm, ⟨6, _⟩ => ⟨S1024, .f32⟩
  | .hbm, ⟨7, _⟩ => ⟨S4x4096x512, .f32⟩
  | .hbm, ⟨8, _⟩ => ⟨S4x4096x4x128, .f32⟩
  | .hbm, ⟨9, _⟩ => ⟨S4x4x4096x256, .f32⟩
  | .hbm, ⟨10, _⟩ => ⟨S_, .f32⟩
  | .hbm, ⟨11, _⟩ => ⟨S4x4x4096x256, .f32⟩
  | .hbm, ⟨12, _⟩ => ⟨S4x4x4096x256, .f32⟩
  | .hbm, ⟨13, _⟩ => ⟨S_, .f32⟩
  | .hbm, ⟨14, _⟩ => ⟨S4x4x4096, .f32⟩
  | .hbm, ⟨15, _⟩ => ⟨S_, .f32⟩
  | .hbm, ⟨16, _⟩ => ⟨S4x4x4096, .f32⟩
  | .hbm, ⟨17, _⟩ => ⟨S4x4x4096, .f32⟩
  | .hbm, ⟨18, _⟩ => ⟨S4x4x4096x1, .f32⟩
  | .hbm, ⟨19, _⟩ => ⟨S4x4x4096x256, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S4x4x4096x1, .f32⟩
  | .hbm, ⟨25, _⟩ => ⟨S4x4x4096x256, .f32⟩
  | .hbm, ⟨26, _⟩ => ⟨S4x4x4096x256, .f32⟩
  | .hbm, ⟨27, _⟩ => ⟨S4x4x128x4096, .f32⟩
  | .hbm, ⟨28, _⟩ => ⟨S4x4096x4x128, .f32⟩
  | .hbm, ⟨29, _⟩ => ⟨S4x4096x512, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S1x1x1024, .f32⟩
  | .hbm, ⟨62, _⟩ => ⟨S4x4096x1024, .f32⟩
  | .hbm, ⟨63, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.AttendLaunch.lean ====
/- The paged attention's launch, what its three cases share: the body's two conditions in closed form over the grid points
   (the first page block of a sequence, the last), which points a window is idle at, the staging buffers at a point, and the
   scratch operands. -/
module

public import proofs.«01_k».proof.Proof.Gen.KernelIdeal.Frame
public import proofs.«01_k».proof.Proof.Gen.KernelIdeal.Skeleton

@[expose] public section

set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin grid0.N, cond0_0 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin grid0.N, cond0_1 (grid0.coords t) ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-- Window 11 is never idle (an input). -/
theorem liveAt0_11 (hO : Ok m) : ∀ t : Fin (cfgM m hO).N, (cfgM m hO).idle 11 (grid0.coords t) = false :=
  (fun _ => rfl : ∀ t : Fin grid0.N, idle0 11 (grid0.coords t) = false)
/-- Window 12 is never idle (an input). -/
theorem liveAt0_12 (hO : Ok m) : ∀ t : Fin (cfgM m hO).N, (cfgM m hO).idle 12 (grid0.coords t) = false :=
  (fun _ => rfl : ∀ t : Fin grid0.N, idle0 12 (grid0.coords t) = false)
/-- Window 13 is never idle (an input). -/
theorem liveAt0_13 (hO : Ok m) : ∀ t : Fin (cfgM m hO).N, (cfgM m hO).idle 13 (grid0.coords t) = false :=
  (fun _ => rfl : ∀ t : Fin grid0.N, idle0 13 (grid0.coords t) = false)
/-- Window 14 is never idle (an input). -/
theorem liveAt0_14 (hO : Ok m) : ∀ t : Fin (cfgM m hO).N, (cfgM m hO).idle 14 (grid0.coords t) = false :=
  (fun _ => rfl : ∀ t : Fin grid0.N, idle0 14 (grid0.coords t) = false)
/-- Window 15 is never idle (an input). -/
theorem liveAt0_15 (hO : Ok m) : ∀ t : Fin (cfgM m hO).N, (cfgM m hO).idle 15 (grid0.coords t) = false :=
  (fun _ => rfl : ∀ t : Fin grid0.N, idle0 15 (grid0.coords t) = false)
/-- Window 16 is never idle (an input). -/
theorem liveAt0_16 (hO : Ok m) : ∀ t : Fin (cfgM m hO).N, (cfgM m hO).idle 16 (grid0.coords t) = false :=
  (fun _ => rfl : ∀ t : Fin grid0.N, idle0 16 (grid0.coords t) = false)
/-- Window 17 is never idle (an input). -/
theorem liveAt0_17 (hO : Ok m) : ∀ t : Fin (cfgM m hO).N, (cfgM m hO).idle 17 (grid0.coords t) = false :=
  (fun _ => rfl : ∀ t : Fin grid0.N, idle0 17 (grid0.coords t) = false)
/-- Window 18 is never idle (an input). -/
theorem liveAt0_18 (hO : Ok m) : ∀ t : Fin (cfgM m hO).N, (cfgM m hO).idle 18 (grid0.coords t) = false :=
  (fun _ => rfl : ∀ t : Fin grid0.N, idle0 18 (grid0.coords t) = false)
/-- Window 19 is never idle (an input). -/
theorem liveAt0_19 (hO : Ok m) : ∀ t : Fin (cfgM m hO).N, (cfgM m hO).idle 19 (grid0.coords t) = false :=
  (fun _ => rfl : ∀ t : Fin grid0.N, idle0 19 (grid0.coords t) = false)
/-- Window 20 is never idle (an input). -/
theorem liveAt0_20 (hO : Ok m) : ∀ t : Fin (cfgM m hO).N, (cfgM m hO).idle 20 (grid0.coords t) = false :=
  (fun _ => rfl : ∀ t : Fin grid0.N, idle0 20 (grid0.coords t) = false)
/-- At the points of case A the printed configuration (`Cfg.idle`) calls output 21 idle: the case stores nothing into it. -/
theorem idleAt0_21_A (hO : Ok m) : ∀ t : Fin (cfgM m hO).N, cond0_0 (grid0.coords t) → ¬cond0_1 (grid0.coords t) → (cfgM m hO).idle 21 (grid0.coords t) = true :=
  (by decide +kernel : ∀ t : Fin grid0.N, cond0_0 (grid0.coords t) → ¬cond0_1 (grid0.coords t) → idle0 21 (grid0.coords t) = true)
/-- At the points of case A the pipeline does not write output 21's block back. -/
theorem noFlush0_21_A (hO : Ok m) : ∀ t : Fin (cfgM m hO).N, cond0_0 (grid0.coords t) → ¬cond0_1 (grid0.coords t) → ((cfgM m hO).win 21).flush t = false :=
  (by decide +kernel : ∀ t : Fin grid0.N, cond0_0 (grid0.coords t) → ¬cond0_1 (grid0.coords t) → Pipeline.Window.flushOf grid0 true cc0_transform_21 t = false)
/-- At the points of case B the printed configuration (`Cfg.idle`) calls output 21 idle: the case stores nothing into it. -/
theorem idleAt0_21_B (hO : Ok m) : ∀ t : Fin (cfgM m hO).N, ¬cond0_0 (grid0.coords t) → ¬cond0_1 (grid0.coords t) → (cfgM m hO).idle 21 (grid0.coords t) = true :=
  (by decide +kernel : ∀ t : Fin grid0.N, ¬cond0_0 (grid0.coords t) → ¬cond0_1 (grid0.coords t) → idle0 21 (grid0.coords t) = true)
/-- At the points of case B the pipeline does not write output 21's block back. -/
theorem noFlush0_21_B (hO : Ok m) : ∀ t : Fin (cfgM m hO).N, ¬cond0_0 (grid0.coords t) → ¬cond0_1 (grid0.coords t) → ((cfgM m hO).win 21).flush t = false :=
  (by decide +kernel : ∀ t : Fin grid0.N, ¬cond0_0 (grid0.coords t) → ¬cond0_1 (grid0.coords t) → Pipeline.Window.flushOf grid0 true cc0_transform_21 t = false)
/-- At the points of case C the printed configuration (`Cfg.idle`) calls output 21 live: the case stores into it. -/
theorem liveAt0_21_C (hO : Ok m) : ∀ t : Fin (cfgM m hO).N, ¬cond0_0 (grid0.coords t) → cond0_1 (grid0.coords t) → (cfgM m hO).idle 21 (grid0.coords t) = false :=
  (by decide +kernel : ∀ t : Fin grid0.N, ¬cond0_0 (grid0.coords t) → cond0_1 (grid0.coords t) → idle0 21 (grid0.coords t) = false)

/-! ## The kernel body on any staging memrefs: a subtype the run finds -/

/-- One staging buffer of output window 21, through which its contents are stated (`View.read_writes_of_cover`: the
    choice does not matter). -/
abbrev VO0_21 : View sig .tc .vmem S1x16x256 .f32 := (Memref.whole cc0_stg21_0 : Memref sig .tc .vmem S1x16x256 .f32).view
/-- Each window's current staging memref at point `t`, spelled as the pipeline passes it (`bodyAt0`), and its wholeness. -/
abbrev ms0_0 (hO : Ok m) (t : Fin (cfgM m hO).N) : Memref sig .tc .vmem S1x64x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x128x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x128x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x128x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x128x256 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x128x256 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x128x256 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1x128x256 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x1x128x256 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x1x128x256 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x1x128x256 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x1x128x256 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x1x128x256 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x1x128x256 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x1x128x256 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x1x128x256 .f32 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x1x128x256 .f32 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x16x256 .f32 := spec0_21.stage ((cfgM m hO).slots t 21)
abbrev hs0_21 (hO : Ok m) (t : Fin (cfgM m hO).N) : (ms0_21 m hO t).IsWhole := hstage0_21 (((cfgM m hO).slots t 21).cast nbuf0_21)
/-- The scratch operands: whole scoped buffers of the kernel's own, passed beside the windows. -/
abbrev scM0_0 : Memref sig .tc .vmem S64x1 .f32 := Memref.whole cc0_scratch0
abbrev scM0_1 : Memref sig .tc .vmem S64x1 .f32 := Memref.whole cc0_scratch1
abbrev scM0_2 : Memref sig .tc .vmem S64x256 .f32 := Memref.whole cc0_scratch2
/-- The scratch `arg25` the kernel carries between points, as a view: what it holds is stated through it. -/
abbrev VS0_0 : View sig .tc .vmem S64x1 .f32 := scM0_0.view
/-- The scratch `arg26` the kernel carries between points, as a view: what it holds is stated through it. -/
abbrev VS0_1 : View sig .tc .vmem S64x1 .f32 := scM0_1.view
/-- The scratch `arg27` the kernel carries between points, as a view: what it holds is stated through it. -/
abbrev VS0_2 : View sig .tc .vmem S64x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Attend

end
-- ==== Proof.AttendRunA.lean ====
/- The paged attention's body at the first page block of a sequence, which resets the running maximum, sum and weighted sum:
   the triple of the whole body, the pieces it leaves in each buffer being the witness the run finds. -/
module

public import proofs.«01_k».proof.Proof.AttendLaunch

@[expose] public section

set_option maxRecDepth 16384
-- the kernel takes 22 windows and three scratch buffers, all of them in the context of every step of the run
set_option maxHeartbeats 12000000

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body's stores leave in each output's staging memref, as pieces (last first) IN CASE A (`scf.if` 0 taken, `scf.if` 1 not taken: points 0, 8, … 248: 32 of 256), WITH the
    proof that on whole staging memrefs — the inputs' at their contents, the outputs it leaves idle (21: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) :
    Σ' (L21 : List (View.Piece (Elt F) S1x16x256 .f32)), Σ' (LS0 : List (View.Piece (Elt F) S64x1 .f32)), Σ' (LS1 : List (View.Piece (Elt F) S64x1 .f32)), { LS2 : List (View.Piece (Elt F) S64x256 .f32) //
      ∀ (xi21 : Vec F S1x16x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ (∃ d, owns (c : Thread nD τ) arg25 fullShare d) ∗ (∃ d, owns (c : Thread nD τ) arg26 fullShare d) ∗ (∃ d, owns (c : Thread nD τ) arg27 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2) ∗ tbPt0 c tbM0_0 xt0) -∗ K ⟨⟩))
          ⊢ wp frame (wpE (defs₀ (F := F)) Variants.none c none) E (cc0_dsa_sample_attend i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], ?_, ?_, ?_, fun xi21 E K => ?run⟩
  case run =>
    simp only [cc0_dsa_sample_attend_eq_skeleton]; unfold cc0_dsa_sample_attend_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%ds0, %fs0, -, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [HS0]; · iexists _; iexact HS0
    isplitl [HS1]; · iexists _; iexact HS1
    isplitl [HS2]; · iexists _; iexact HS2
    iexact HT0

end Cert.KernelIdeal.Attend

end
-- ==== Proof.AttendRunB.lean ====
/- The paged attention's body at a page block between the first and the last:
   the triple of the whole body, the pieces it leaves in each buffer being the witness the run finds. -/
module

public import proofs.«01_k».proof.Proof.AttendRunA

@[expose] public section

set_option maxRecDepth 16384
-- the kernel takes 22 windows and three scratch buffers, all of them in the context of every step of the run
set_option maxHeartbeats 12000000

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body's stores leave in each output's staging memref, as pieces (last first) IN CASE B (`scf.if` 0 not taken, `scf.if` 1 not taken: points 1, 2, … 254: 192 of 256), WITH the
    proof that on whole staging memrefs — the inputs' at their contents, the outputs it leaves idle (21: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) :
    Σ' (L21 : List (View.Piece (Elt F) S1x16x256 .f32)), Σ' (LS0 : List (View.Piece (Elt F) S64x1 .f32)), Σ' (LS1 : List (View.Piece (Elt F) S64x1 .f32)), { LS2 : List (View.Piece (Elt F) S64x256 .f32) //
      ∀ (xi21 : Vec F S1x16x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ owns (c : Thread nD τ) arg25 fullShare xs0 ∗ owns (c : Thread nD τ) arg26 fullShare xs1 ∗ owns (c : Thread nD τ) arg27 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2) ∗ tbPt0 c tbM0_0 xt0) -∗ K ⟨⟩))
          ⊢ wp frame (wpE (defs₀ (F := F)) Variants.none c none) E (cc0_dsa_sample_attend i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], ?_, ?_, ?_, fun xi21 E K => ?run⟩
  case run =>
    simp only [cc0_dsa_sample_attend_eq_skeleton]; unfold cc0_dsa_sample_attend_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hfs0; obtain rfl := harg26.eq_unread hfs1; obtain rfl := harg27.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [HS0]; · iexists _; iexact HS0
    isplitl [HS1]; · iexists _; iexact HS1
    isplitl [HS2]; · iexists _; iexact HS2
    iexact HT0

end Cert.KernelIdeal.Attend

end
-- ==== Proof.AttendRunC.lean ====
/- The paged attention's body at the last page block, which also takes in the new keys and writes the output:
   the triple of the whole body, the pieces it leaves in each buffer being the witness the run finds. -/
module

public import proofs.«01_k».proof.Proof.AttendRunB

@[expose] public section

set_option maxRecDepth 16384
-- the kernel takes 22 windows and three scratch buffers, all of them in the context of every step of the run
set_option maxHeartbeats 12000000

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body's stores leave in each output's staging memref, as pieces (last first) IN CASE C (`scf.if` 0 not taken, `scf.if` 1 taken: points 7, 15, … 255: 32 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) :
    Σ' (L21 : List (View.Piece (Elt F) S1x16x256 .f32)), Σ' (LS0 : List (View.Piece (Elt F) S64x1 .f32)), Σ' (LS1 : List (View.Piece (Elt F) S64x1 .f32)), { LS2 : List (View.Piece (Elt F) S64x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ (∃ d, owns (c : Thread nD τ) arg24 fullShare d) ∗ owns (c : Thread nD τ) arg25 fullShare xs0 ∗ owns (c : Thread nD τ) arg26 fullShare xs1 ∗ owns (c : Thread nD τ) arg27 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ (∃ f, arg24.view.loc (c : Thread nD τ) ↦[arg24.view.set]{fullShare} arg24.view.writes (Elt F) f L21) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2) ∗ tbPt0 c tbM0_0 xt0) -∗ K ⟨⟩))
          ⊢ wp frame (wpE (defs₀ (F := F)) Variants.none c none) E (cc0_dsa_sample_attend i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_dsa_sample_attend_eq_skeleton]; unfold cc0_dsa_sample_attend_skel
    simp only [k0_part3_eq_skeleton, k0_part4_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg25.eq_unread hfs0; obtain rfl := harg26.eq_unread hfs1; obtain rfl := harg27.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]; · iexists _; iexact H21
    isplitl [HS0]; · iexists _; iexact HS0
    isplitl [HS1]; · iexists _; iexact HS1
    isplitl [HS2]; · iexists _; iexact HS2
    iexact HT0

end Cert.KernelIdeal.Attend

end
-- ==== Proof.AttendHolds.lean ====
/- What the paged attention's buffers hold after each grid point: the pieces of the three runs read back, and the accumulation
   over the points. -/
module

public import proofs.«01_k».proof.Proof.AttendRunC
public import Idealize.ShloMosaic.Lib.Claim

@[expose] public section

set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A stores nothing into output 21 (the window is idle at its points and not written back there):
    no pieces — a placeholder (junk read back) that nothing consults, since at these points the window is neither
    written back nor read at the next point (Lib/Pipeline.lean "Idle points"). -/
def out0_A_21 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) : Vec F S1x16x256 .f32 :=
  VO0_21.read (Elt F) (VO0_21.writes (Elt F) VO0_21.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).1)

/-- Case A's pieces for scratch `arg25`, which the kernel carries between points, cover it: 2 pieces of `S64x1` tiling it (Lib/Ring.lean `Piece.tiledL`). -/
theorem scover0_A_0 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (y : S64x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.1 S64x1.size (by sl_kernel_rfl) y

/-- What case A leaves in scratch `arg25`: its pieces read back over junk. -/
def sout0_A_0 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) : Vec F S64x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.1)

/-- Case A's pieces for scratch `arg26`, which the kernel carries between points, cover it: 2 pieces of `S64x1` tiling it (Lib/Ring.lean `Piece.tiledL`). -/
theorem scover0_A_1 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (y : S64x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.1 S64x1.size (by sl_kernel_rfl) y

/-- What case A leaves in scratch `arg26`: its pieces read back over junk. -/
def sout0_A_1 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) : Vec F S64x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.1)

/-- Case A's pieces for scratch `arg27`, which the kernel carries between points, cover it: 2 pieces of `S64x256` tiling it (Lib/Ring.lean `Piece.tiledL`). -/
theorem scover0_A_2 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (y : S64x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.2.1 S64x256.size (by sl_kernel_rfl) y

/-- What case A leaves in scratch `arg27`: its pieces read back over junk. -/
def sout0_A_2 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) : Vec F S64x256 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.2.1)

/-- Case B stores nothing into output 21 (the window is idle at its points and not written back there):
    no pieces — a placeholder (junk read back) that nothing consults, since at these points the window is neither
    written back nor read at the next point (Lib/Pipeline.lean "Idle points"). -/
def out0_B_21 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S1x16x256 .f32 :=
  VO0_21.read (Elt F) (VO0_21.writes (Elt F) VO0_21.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1)

/-- Case B's pieces for scratch `arg25`, which the kernel carries between points, cover it: 1 piece of `S64x1` tiling it (Lib/Ring.lean `Piece.tiledL`). -/
theorem scover0_B_0 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) (y : S64x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1 S64x1.size (by sl_kernel_rfl) y

/-- What case B leaves in scratch `arg25`: its pieces read back over junk. -/
def sout0_B_0 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S64x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1)

/-- Case B's pieces for scratch `arg26`, which the kernel carries between points, cover it: 1 piece of `S64x1` tiling it (Lib/Ring.lean `Piece.tiledL`). -/
theorem scover0_B_1 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) (y : S64x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1 S64x1.size (by sl_kernel_rfl) y

/-- What case B leaves in scratch `arg26`: its pieces read back over junk. -/
def sout0_B_1 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S64x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1)

/-- Case B's pieces for scratch `arg27`, which the kernel carries between points, cover it: 1 piece of `S64x256` tiling it (Lib/Ring.lean `Piece.tiledL`). -/
theorem scover0_B_2 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) (y : S64x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1 S64x256.size (by sl_kernel_rfl) y

/-- What case B leaves in scratch `arg27`: its pieces read back over junk. -/
def sout0_B_2 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : ¬cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S64x256 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1)

/-- Case C's pieces for output 21 tile its block (1 store of `S1x16x256`, checked by the kernel's evaluation: Lib/Ring.lean `Piece.tiledL`, linear in the pieces, through a loop's `@[irreducible]` trip theorem too), so they cover it. -/
theorem cover0_C_21 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) (y : S1x16x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1 S1x16x256.size (by sl_kernel_rfl) y

/-- What case C leaves in output 21's staging buffer: its pieces read back over junk. -/
def out0_C_21 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S1x16x256 .f32 :=
  VO0_21.read (Elt F) (VO0_21.writes (Elt F) VO0_21.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1)

/-- Case C's pieces for scratch `arg25`, which the kernel carries between points, cover it: 2 pieces of `S64x1` tiling it (Lib/Ring.lean `Piece.tiledL`). -/
theorem scover0_C_0 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) (y : S64x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1 S64x1.size (by sl_kernel_rfl) y

/-- What case C leaves in scratch `arg25`: its pieces read back over junk. -/
def sout0_C_0 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S64x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1)

/-- Case C's pieces for scratch `arg26`, which the kernel carries between points, cover it: 2 pieces of `S64x1` tiling it (Lib/Ring.lean `Piece.tiledL`). -/
theorem scover0_C_1 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) (y : S64x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1 S64x1.size (by sl_kernel_rfl) y

/-- What case C leaves in scratch `arg26`: its pieces read back over junk. -/
def sout0_C_1 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S64x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1)

/-- Case C's pieces for scratch `arg27`, which the kernel carries between points, cover it: 2 pieces of `S64x256` tiling it (Lib/Ring.lean `Piece.tiledL`). -/
theorem scover0_C_2 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) (y : S64x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1 S64x256.size (by sl_kernel_rfl) y

/-- What case C leaves in scratch `arg27`: its pieces read back over junk. -/
def sout0_C_2 (c : Dev nD) (i : grid0.Coords) (arg3 : Memref sig .tc .vmem S1x64x256 .bf16) (harg3 : arg3.IsWhole) (arg4 : Memref sig .tc .vmem S1x8x1024 .f32) (harg4 : arg4.IsWhole) (arg5 : Memref sig .tc .vmem S1x8x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x1x128x256 .f32) (harg8 : arg8.IsWhole) (arg9 : Memref sig .tc .vmem S1x1x128x256 .f32) (harg9 : arg9.IsWhole) (arg10 : Memref sig .tc .vmem S1x1x128x256 .f32) (harg10 : arg10.IsWhole) (arg11 : Memref sig .tc .vmem S1x1x128x256 .f32) (harg11 : arg11.IsWhole) (arg12 : Memref sig .tc .vmem S1x1x128x256 .f32) (harg12 : arg12.IsWhole) (arg13 : Memref sig .tc .vmem S1x1x128x256 .f32) (harg13 : arg13.IsWhole) (arg14 : Memref sig .tc .vmem S1x1x128x256 .f32) (harg14 : arg14.IsWhole) (arg15 : Memref sig .tc .vmem S1x1x128x256 .f32) (harg15 : arg15.IsWhole) (arg16 : Memref sig .tc .vmem S1x1x128x256 .f32) (harg16 : arg16.IsWhole) (arg17 : Memref sig .tc .vmem S1x1x128x256 .f32) (harg17 : arg17.IsWhole) (arg18 : Memref sig .tc .vmem S1x1x128x256 .f32) (harg18 : arg18.IsWhole) (arg19 : Memref sig .tc .vmem S1x1x128x256 .f32) (harg19 : arg19.IsWhole) (arg20 : Memref sig .tc .vmem S1x1x128x256 .f32) (harg20 : arg20.IsWhole) (arg21 : Memref sig .tc .vmem S1x1x128x256 .f32) (harg21 : arg21.IsWhole) (arg22 : Memref sig .tc .vmem S1x1x128x256 .f32) (harg22 : arg22.IsWhole) (arg23 : Memref sig .tc .vmem S1x1x128x256 .f32) (harg23 : arg23.IsWhole) (arg24 : Memref sig .tc .vmem S1x16x256 .f32) (harg24 : arg24.IsWhole) (arg25 : Memref sig .tc .vmem S64x1 .f32) (harg25 : arg25.IsWhole) (arg26 : Memref sig .tc .vmem S64x1 .f32) (harg26 : arg26.IsWhole) (arg27 : Memref sig .tc .vmem S64x256 .f32) (harg27 : arg27.IsWhole) (hc0 : ¬cond0_0 i) (hc1 : cond0_1 i)
    (x0 : Vec F S1x64x256 .bf16) (x1 : Vec F S1x8x1024 .f32) (x2 : Vec F S1x8x128 .f32) (x3 : Vec F S1x128x256 .f32) (x4 : Vec F S1x128x256 .f32) (x5 : Vec F S1x1x128x256 .f32) (x6 : Vec F S1x1x128x256 .f32) (x7 : Vec F S1x1x128x256 .f32) (x8 : Vec F S1x1x128x256 .f32) (x9 : Vec F S1x1x128x256 .f32) (x10 : Vec F S1x1x128x256 .f32) (x11 : Vec F S1x1x128x256 .f32) (x12 : Vec F S1x1x128x256 .f32) (x13 : Vec F S1x1x128x256 .f32) (x14 : Vec F S1x1x128x256 .f32) (x15 : Vec F S1x1x128x256 .f32) (x16 : Vec F S1x1x128x256 .f32) (x17 : Vec F S1x1x128x256 .f32) (x18 : Vec F S1x1x128x256 .f32) (x19 : Vec F S1x1x128x256 .f32) (x20 : Vec F S1x1x128x256 .f32) (xt0 : TbBuf0 (F := F) c tbM0_0) (xs0 : Vec F S64x1 .f32) (xs1 : Vec F S64x1 .f32) (xs2 : Vec F S64x256 .f32) : Vec F S64x256 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1)

/-! ## What the outputs hold after each point -/

/-- What the output block and the scratch hold after a first page step. -/
def pointA (hO : Ok m) (c : Dev nD) (t : Fin (cfgM m hO).N) (h0 : t.val % 8 = 0) (h1 : ¬t.val % 8 = 7) :
    Vec F S1x16x256 .f32 × Vec F S64x1 .f32 × Vec F S64x1 .f32 × Vec F S64x256 .f32 :=
  (out0_A_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0))

/-- What the output block and the scratch hold after a middle page step, over the scratch `xs` that the point before left. -/
def pointB (hO : Ok m) (c : Dev nD) (t : Fin (cfgM m hO).N) (h0 : ¬t.val % 8 = 0) (h1 : ¬t.val % 8 = 7) (xs : Vec F S1x16x256 .f32 × Vec F S64x1 .f32 × Vec F S64x1 .f32 × Vec F S64x256 .f32) :
    Vec F S1x16x256 .f32 × Vec F S64x1 .f32 × Vec F S64x1 .f32 × Vec F S64x256 .f32 :=
  (out0_B_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2)

/-- What the output block and the scratch hold after a last page step, over the scratch `xs` that the point before left. -/
def pointC (hO : Ok m) (c : Dev nD) (t : Fin (cfgM m hO).N) (h0 : ¬t.val % 8 = 0) (h1 : t.val % 8 = 7) (xs : Vec F S1x16x256 .f32 × Vec F S64x1 .f32 × Vec F S64x1 .f32 × Vec F S64x256 .f32) :
    Vec F S1x16x256 .f32 × Vec F S64x1 .f32 × Vec F S64x1 .f32 × Vec F S64x256 .f32 :=
  (out0_C_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) xs.2.1 xs.2.2.1 xs.2.2.2)

/-- What the output block and the scratch hold after point `n`, by the case of the point. -/
def outsAt0 (hO : Ok m) (c : Dev nD) : (n : ℕ) → n < (cfgM m hO).N → Vec F S1x16x256 .f32 × Vec F S64x1 .f32 × Vec F S64x1 .f32 × Vec F S64x256 .f32
  | 0, hn => pointA m hO c ⟨0, hn⟩ (Nat.zero_mod _) (by show ¬0 % 8 = 7; omega)
  | n + 1, hn =>
    if h0 : (n + 1) % 8 = 0 then pointA m hO c ⟨n + 1, hn⟩ h0 (by show ¬(n + 1) % 8 = 7; omega)
    else if h1 : (n + 1) % 8 = 7 then pointC m hO c ⟨n + 1, hn⟩ h0 h1 (outsAt0 hO c n (Nat.lt_of_succ_lt hn))
    else pointB m hO c ⟨n + 1, hn⟩ h0 h1 (outsAt0 hO c n (Nat.lt_of_succ_lt hn))

/-- `outsAt0` at a point of case A. -/
theorem outsAt0_A (hO : Ok m) (c : Dev nD) (t : Fin (cfgM m hO).N) (h0 : t.val % 8 = 0) (h1 : ¬t.val % 8 = 7) :
    outsAt0 m hO c t.val t.isLt = pointA m hO c t h0 h1 := by
  obtain ⟨n, hn⟩ := t
  cases n with
  | zero => exact rfl
  | succ n => exact dif_pos h0

/-- `outsAt0` at a point of case B. -/
theorem outsAt0_B (hO : Ok m) (c : Dev nD) (t : Fin (cfgM m hO).N) (h0 : ¬t.val % 8 = 0) (h1 : ¬t.val % 8 = 7) :
    outsAt0 m hO c t.val t.isLt = pointB m hO c t h0 h1 (outsAt0 m hO c (t.val - 1) (Nat.lt_of_le_of_lt (Nat.sub_le _ _) t.isLt)) := by
  obtain ⟨n, hn⟩ := t
  cases n with
  | zero => exact (h0 (Nat.zero_mod _)).elim
  | succ n => exact (dif_neg h0).trans (dif_neg h1)

/-- `outsAt0` at a point of case C. -/
theorem outsAt0_C (hO : Ok m) (c : Dev nD) (t : Fin (cfgM m hO).N) (h0 : ¬t.val % 8 = 0) (h1 : t.val % 8 = 7) :
    outsAt0 m hO c t.val t.isLt = pointC m hO c t h0 h1 (outsAt0 m hO c (t.val - 1) (Nat.lt_of_le_of_lt (Nat.sub_le _ _) t.isLt)) := by
  obtain ⟨n, hn⟩ := t
  cases n with
  | zero => exact (h0 (Nat.zero_mod _)).elim
  | succ n => exact (dif_neg h0).trans (dif_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

end Cert.KernelIdeal.Attend

end
-- ==== Proof.OnlineSoftmax.lean ====
/- The arithmetic of a softmax taken over its keys block by block, on the extended reals: for logits `s 0, s 1, …` and
   values `v 0, v 1, …` the running maximum, the running sum of `exp (s j - maximum)` and the running sum of
   `exp (s j - maximum) * v j`. A block of `w` more keys rescales the two sums by `exp (old maximum - new maximum)` and adds
   the block's own terms (`rden_block`, `rnum_block`); keys whose logit is `⊥` change nothing (`rmax_masked`,
   `rden_masked`, `rnum_masked`); and when the maximum is a real number the quotient of the two sums is the sum of the
   normalised weights times the values (`softmax_quotient`). -/
module

public import Idealize.ShloMosaic.PureOps.Ideal

@[expose] public section

noncomputable section

namespace Cert.OnlineSoftmax

open Idealize.ShloMosaic

/-- The largest of the first `n` logits, `⊥` of none. -/
def rmax (s : ℕ → EReal) (n : ℕ) : EReal := (Finset.range n).sup s

/-- The first `n` weights against their maximum, summed. -/
def rden (s : ℕ → EReal) (n : ℕ) : EReal := ∑ j ∈ Finset.range n, Ideal.exp (s j - rmax s n)

/-- The first `n` weights against their maximum times their values, summed. -/
def rnum (s v : ℕ → EReal) (n : ℕ) : EReal := ∑ j ∈ Finset.range n, Ideal.exp (s j - rmax s n) * v j

theorem exp_bot : Ideal.exp ⊥ = 0 := rfl

theorem le_rmax (s : ℕ → EReal) {n j : ℕ} (h : j < n) : s j ≤ rmax s n := Finset.le_sup (f := s) (Finset.mem_range.2 h)

theorem rmax_mono (s : ℕ → EReal) {n k : ℕ} (h : n ≤ k) : rmax s n ≤ rmax s k :=
  Finset.sup_mono (Finset.range_subset_range.2 h)

/-- A factor `exp (a - b)` with `a ≤ b` is a real number at least 0. -/
theorem exp_sub_real {a b : EReal} (h : a ≤ b) : ∃ r : ℝ, 0 ≤ r ∧ Ideal.exp (a - b) = (r : EReal) := by
  induction b with
  | top => exact ⟨0, le_rfl, by rw [EReal.sub_top]; simp [exp_bot]⟩
  | bot => rw [le_bot_iff.1 h]; exact ⟨0, le_rfl, by rw [sub_eq_add_neg, EReal.bot_add]; simp [exp_bot]⟩
  | coe b =>
    induction a with
    | top => exact absurd (top_le_iff.1 h) (EReal.coe_ne_top b)
    | bot => exact ⟨0, le_rfl, by rw [sub_eq_add_neg, EReal.bot_add]; simp [exp_bot]⟩
    | coe a => exact ⟨Real.exp (a - b), (Real.exp_pos _).le, by rw [← EReal.coe_sub]; rfl⟩

/-- Rescaling a weight from one maximum to a larger one. -/
theorem exp_rescale {x a b : EReal} (hx : x ≤ a) (h : a ≤ b) :
    Ideal.exp (x - a) * Ideal.exp (a - b) = Ideal.exp (x - b) := by
  have bot (y : EReal) : Ideal.exp (⊥ - y) = 0 := by rw [sub_eq_add_neg, EReal.bot_add]; simp [exp_bot]
  induction b with
  | top => rw [EReal.sub_top, EReal.sub_top]; simp [exp_bot]
  | bot => rw [le_bot_iff.1 h] at hx ⊢; rw [le_bot_iff.1 hx, bot]; simp
  | coe b =>
    induction a with
    | top => exact absurd (top_le_iff.1 h) (EReal.coe_ne_top b)
    | bot => rw [le_bot_iff.1 hx, bot, bot]; simp
    | coe a =>
      induction x with
      | top => exact absurd (top_le_iff.1 hx) (EReal.coe_ne_top a)
      | bot => rw [bot, bot]; simp
      | coe x =>
        rw [← EReal.coe_sub, ← EReal.coe_sub, ← EReal.coe_sub]
        show (Real.exp (x - a) : EReal) * (Real.exp (a - b) : EReal) = (Real.exp (x - b) : EReal)
        rw [← EReal.coe_mul, ← Real.exp_add]; congr 2; ring

/-- A real factor at least 0 distributes over a sum of extended reals. -/
theorem sum_mul_real {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert i t hi ih =>
    rw [Finset.sum_insert hi, Finset.sum_insert hi, ← ih, mul_comm, mul_comm (f i), mul_comm (∑ j ∈ t, f j)]
    exact EReal.left_distrib_of_nonneg_of_ne_top (EReal.coe_nonneg.2 hr) (EReal.coe_ne_top r) _ _

theorem sum_range_block (f : ℕ → EReal) (n w : ℕ) :
    ∑ j ∈ Finset.range (n + w), f j = ∑ j ∈ Finset.range n, f j + ∑ i : Fin w, f (n + i.val) := by
  rw [Finset.sum_range_add, Finset.sum_range (fun x => f (n + x))]

/-- The maximum after a block of `w` more keys, the block's own maximum folded from `⊥`. -/
theorem rmax_block (s : ℕ → EReal) (n w : ℕ) :
    rmax s (n + w) = max (rmax s n) (Finset.univ.fold max ⊥ fun i : Fin w => s (n + i.val)) := by
  have e : (Finset.univ.fold max ⊥ fun i : Fin w => s (n + i.val)) = Finset.univ.sup fun i : Fin w => s (n + i.val) := rfl
  refine eq_of_forall_ge_iff fun b => ?_
  rw [e, max_le_iff, rmax, rmax, Finset.sup_le_iff, Finset.sup_le_iff, Finset.sup_le_iff]
  simp only [Finset.mem_range, Finset.mem_univ, forall_const]
  refine ⟨fun h => ⟨fun j hj => h j (by omega), fun i => h _ (by omega)⟩, fun h j hj => ?_⟩
  by_cases hn : j < n
  · exact h.1 j hn
  · have := h.2 ⟨j - n, by omega⟩
    rwa [show n + (j - n) = j by omega] at this

/-- The sum of the weights after a block. -/
theorem rden_block (s : ℕ → EReal) (n w : ℕ) :
    rden s (n + w) = rden s n * Ideal.exp (rmax s n - rmax s (n + w)) + ∑ i : Fin w, Ideal.exp (s (n + i.val) - rmax s (n + w)) := by
  have hm := rmax_mono s (Nat.le_add_right n w)
  obtain ⟨r, hr, e⟩ := exp_sub_real hm
  unfold rden
  rw [sum_range_block, e, sum_mul_real _ _ hr]
  congr 1
  refine Finset.sum_congr rfl fun j hj => ?_
  rw [← e, exp_rescale (le_rmax s (Finset.mem_range.1 hj)) hm]

/-- The weighted sum of the values after a block. -/
theorem rnum_block (s v : ℕ → EReal) (n w : ℕ) :
    rnum s v (n + w) = rnum s v n * Ideal.exp (rmax s n - rmax s (n + w)) + ∑ i : Fin w, Ideal.exp (s (n + i.val) - rmax s (n + w)) * v (n + i.val) := by
  have hm := rmax_mono s (Nat.le_add_right n w)
  obtain ⟨r, hr, e⟩ := exp_sub_real hm
  unfold rnum
  rw [sum_range_block (fun j => Ideal.exp (s j - rmax s (n + w)) * v j), e, sum_mul_real _ _ hr]
  congr 1
  refine Finset.sum_congr rfl fun j hj => ?_
  rw [← e, mul_right_comm, exp_rescale (le_rmax s (Finset.mem_range.1 hj)) hm]

/-- The maximum of the first `w` logits as one fold. -/
theorem rmax_fold (s : ℕ → EReal) (w : ℕ) : rmax s w = Finset.univ.fold max ⊥ fun i : Fin w => s i.val := by
  have h := rmax_block s 0 w
  simp only [Nat.zero_add] at h
  rw [h]
  exact max_eq_right (show Finset.sup (Finset.range 0) s ≤ _ by simp)

/-- The sum of the first `w` weights as a sum over `Fin w`. -/
theorem rden_fin (s : ℕ → EReal) (w : ℕ) : rden s w = ∑ i : Fin w, Ideal.exp (s i.val - rmax s w) :=
  Finset.sum_range fun j => Ideal.exp (s j - rmax s w)

theorem exp_bot_sub (y : EReal) : Ideal.exp (⊥ - y) = 0 := by rw [sub_eq_add_neg, EReal.bot_add]; simp [exp_bot]

section masked

variable (s v : ℕ → EReal) (n w : ℕ) (h : ∀ j, n ≤ j → s j = ⊥)
include h

/-- Keys of logit `⊥` leave the maximum, -/
theorem rmax_masked : rmax s (n + w) = rmax s n := by
  refine le_antisymm (Finset.sup_le fun j _ => ?_) (rmax_mono s (Nat.le_add_right n w))
  by_cases hn : j < n
  · exact le_rmax s hn
  · rw [h j (by omega)]; exact bot_le

/-- the sum of the weights -/
theorem rden_masked : rden s (n + w) = rden s n := by
  unfold rden
  rw [sum_range_block, rmax_masked s n w h]
  simp [h, exp_bot_sub]

/-- and the weighted sum of the values as they are. -/
theorem rnum_masked : rnum s v (n + w) = rnum s v n := by
  unfold rnum
  rw [sum_range_block (fun j => Ideal.exp (s j - rmax s (n + w)) * v j), rmax_masked s n w h]
  simp [h, exp_bot_sub]

end masked

/-- With no logit `⊤` and one above `⊥` among the first `n`, their maximum is a real number -/
theorem rmax_real {s : ℕ → EReal} {n : ℕ} (ht : ∀ j < n, s j ≠ ⊤) {k : ℕ} (hk : k < n) (hb : s k ≠ ⊥) :
    ∃ M : ℝ, rmax s n = (M : EReal) := by
  have h1 : rmax s n ≠ ⊥ := fun e => hb (le_bot_iff.1 (e ▸ le_rmax s hk))
  have h2 : rmax s n ≠ ⊤ := by
    obtain ⟨j, hj, e⟩ := Finset.exists_mem_eq_sup (Finset.range n) ⟨k, Finset.mem_range.2 hk⟩ s
    exact fun e' => ht j (Finset.mem_range.1 hj) (e.symm.trans e')
  exact ⟨(rmax s n).toReal, (EReal.coe_toReal h2 h1).symm⟩

/-- and the sum of their weights is a real number above 0. -/
theorem rden_real {s : ℕ → EReal} {n : ℕ} (ht : ∀ j < n, s j ≠ ⊤) {k : ℕ} (hk : k < n) (hb : s k ≠ ⊥) :
    ∃ L : ℝ, 0 < L ∧ rden s n = (L : EReal) := by
  classical
  obtain ⟨M, hM⟩ := rmax_real ht hk hb
  have hex : ∀ j, ∃ r : ℝ, j < n → 0 ≤ r ∧ Ideal.exp (s j - rmax s n) = (r : EReal) := fun j => by
    by_cases hj : j < n
    · obtain ⟨r, h⟩ := exp_sub_real (le_rmax s hj); exact ⟨r, fun _ => h⟩
    · exact ⟨0, fun h => absurd h hj⟩
  choose r hr using hex
  have hpos : 0 < r k := by
    obtain ⟨hk0, e⟩ := hr k hk
    lift s k to ℝ using ⟨ht k hk, hb⟩ with x hx
    rw [hM, ← EReal.coe_sub] at e
    have : Real.exp (x - M) = r k := EReal.coe_injective e
    exact this ▸ Real.exp_pos _
  refine ⟨∑ j ∈ Finset.range n, r j, ?_, ?_⟩
  · exact Finset.sum_pos' (fun j hj => (hr j (Finset.mem_range.1 hj)).1) ⟨k, Finset.mem_range.2 hk, hpos⟩
  · unfold rden
    have coe (t : Finset ℕ) : ((∑ j ∈ t, r j : ℝ) : EReal) = ∑ j ∈ t, (r j : EReal) := by
      induction t using Finset.induction_on with
      | empty => simp
      | insert i t hi ih => rw [Finset.sum_insert hi, Finset.sum_insert hi, EReal.coe_add, ih]
    rw [coe]
    exact Finset.sum_congr rfl fun j hj => (hr j (Finset.mem_range.1 hj)).2

/-- The quotient of the two sums is the sum of the normalised weights times the values. -/
theorem softmax_quotient {s : ℕ → EReal} (v : ℕ → EReal) {n : ℕ} (ht : ∀ j < n, s j ≠ ⊤) {k : ℕ} (hk : k < n) (hb : s k ≠ ⊥) :
    Ideal.div (rnum s v n) (rden s n) = ∑ i : Fin n, Ideal.div (Ideal.exp (s i.val - rmax s n)) (rden s n) * v i.val := by
  obtain ⟨L, hL, e⟩ := rden_real ht hk hb
  rw [e]
  simp only [Ideal.div_coe hL.ne']
  rw [rnum, sum_mul_real _ _ (by positivity), Finset.sum_range (fun j => Ideal.exp (s j - rmax s n) * v j * ((1 / L : ℝ) : EReal))]
  exact Finset.sum_congr rfl fun i _ => mul_right_comm ..

end Cert.OnlineSoftmax

end
-- ==== Proof.AttendBlock.lean ====
module
public import proofs.«01_k».proof.Proof.Gen.KernelIdeal.Skeleton
public import proofs.«01_k».proof.Proof.OnlineSoftmax
public import Idealize.ShloMosaic.Lib.Pointwise
/-
  What the attention kernel's body computes, read at an index: the scores of a block of keys against the query rows, and
  the three running quantities (maximum, normalizer, weighted sum) after the block. A row of the score matrix is one
  (head, group, query) triple, and its head only meets its own 64 of the 256 columns.
-/
@[expose] public section
noncomputable section
namespace Cert.KernelIdeal.Attend
open Cert.KernelIdeal.Gen Idealize.ShloMosaic Cert.OnlineSoftmax

theorem ofBits_neg_inf : Ideal.ofBits FTy.f32 0xFF800000#32 = ⊥ := by
  simp [Ideal.ofBits, Ideal.ieee]

/-- The selection of a query's keys is repeated over the eight pairs of a head and a group. -/
theorem pay34_at (b : Vec Ideal S1x8x1024 .f32) (r : Fin 64) (y : Fin 1024) : k0_pay34 b (ix2 r y) = b (ix3 0 ⟨r.val % 8, by omega⟩ y) := by
  pointwise [k0_pay34]
  have h (x : Fin 8) (e : x.val = r.val % 8) : b (ix3 0 x y) = b (ix3 0 ⟨r.val % 8, by omega⟩ y) := congrArg (fun x => b (ix3 0 x y)) (Fin.ext e)
  split_ifs <;> exact h _ (by dsimp only; omega)

/-- Eight pages laid one after the other: row `y` is row `y % 128` of page `y / 128`. -/
def paged (p : Fin 8 → Vec Ideal S1x1x128x256 .f32) (y : Fin 1024) (c : Fin 256) : EReal :=
  p ⟨y.val / 128, by omega⟩ (ix4 0 0 ⟨y.val % 128, by omega⟩ c)

theorem paged_eq (p : Fin 8 → Vec Ideal S1x1x128x256 .f32) (y : Fin 1024) (c : Fin 256) (i : Fin 8) (x : Fin 128)
    (hi : i.val = y.val / 128) (hx : x.val = y.val % 128) : p i (ix4 0 0 x c) = paged p y c := by
  unfold paged
  exact congrArg₂ (fun i x => p i (ix4 0 0 x c)) (Fin.ext hi) (Fin.ext hx)

/-- A choice among eight by the position of `y` among the pages is the laid out array at `y`. -/
theorem paged_ite (p : Fin 8 → Vec Ideal S1x1x128x256 .f32) (y : Fin 1024) (c : Fin 256) :
    (if h : y.val < 128 then p 0 (ix4 0 0 ⟨y.val, h⟩ c)
      else if h : y.val - 128 < 128 then p 1 (ix4 0 0 ⟨y.val - 128, h⟩ c)
      else if h : y.val - 128 - 128 < 128 then p 2 (ix4 0 0 ⟨y.val - 128 - 128, h⟩ c)
      else if h : y.val - 128 - 128 - 128 < 128 then p 3 (ix4 0 0 ⟨y.val - 128 - 128 - 128, h⟩ c)
      else if h : y.val - 128 - 128 - 128 - 128 < 128 then p 4 (ix4 0 0 ⟨y.val - 128 - 128 - 128 - 128, h⟩ c)
      else if h : y.val - 128 - 128 - 128 - 128 - 128 < 128 then p 5 (ix4 0 0 ⟨y.val - 128 - 128 - 128 - 128 - 128, h⟩ c)
      else if h : y.val - 128 - 128 - 128 - 128 - 128 - 128 < 128 then p 6 (ix4 0 0 ⟨y.val - 128 - 128 - 128 - 128 - 128 - 128, h⟩ c)
      else p 7 (ix4 0 0 ⟨y.val - 128 - 128 - 128 - 128 - 128 - 128 - 128, by omega⟩ c)) = paged p y c := by
  split_ifs
  · exact paged_eq p y c 0 _ (by simp; omega) (by simp; omega)
  · exact paged_eq p y c 1 _ (by simp; omega) (by simp; omega)
  · exact paged_eq p y c 2 _ (by simp; omega) (by simp; omega)
  · exact paged_eq p y c 3 _ (by simp; omega) (by simp; omega)
  · exact paged_eq p y c 4 _ (by simp; omega) (by simp; omega)
  · exact paged_eq p y c 5 _ (by simp; omega) (by simp; omega)
  · exact paged_eq p y c 6 _ (by simp; omega) (by simp; omega)
  · exact paged_eq p y c 7 _ (by simp; omega) (by simp; omega)

theorem pay32_at (p : Fin 8 → Vec Ideal S1x1x128x256 .f32) (y : Fin 1024) (c : Fin 256) :
    k0_pay32 (p 0) (p 1) (p 2) (p 3) (p 4) (p 5) (p 6) (p 7) (ix2 y c) = paged p y c := by
  pointwise [k0_pay32]
  exact paged_ite p y c

/-- The score of a key of the block: the product of the query row with the key's row. -/
theorem pay33_at (q : Vec Ideal S1x64x256 .bf16) (p : Fin 8 → Vec Ideal S1x1x128x256 .f32) (r : Fin 64) (y : Fin 1024) :
    k0_pay33 (k0_pay21 q) (k0_pay25 (p 0)) (k0_pay26 (p 1)) (k0_pay27 (p 2)) (k0_pay28 (p 3)) (k0_pay29 (p 4)) (k0_pay30 (p 5)) (k0_pay31 (p 6)) (p 7) (ix2 r y)
      = ∑ k : Fin 256, q (ix3 0 r k) * paged p y k := by
  pointwise [k0_pay33, k0_pay21, k0_pay25, k0_pay26, k0_pay27, k0_pay28, k0_pay29, k0_pay30, k0_pay31]
  exact Finset.sum_congr rfl fun k _ => congrArg (q (ix3 0 r k) * ·) (paged_ite p y k)

/-- The logit of a new key: its score and the selection. -/
theorem pay9_at (q : Vec Ideal S1x64x256 .bf16) (kn : Vec Ideal S1x128x256 .f32) (b : Vec Ideal S1x8x128 .f32) (r : Fin 64) (y : Fin 128) :
    k0_pay9 (k0_pay21 q) kn b (ix2 r y) = (∑ k : Fin 256, q (ix3 0 r k) * kn (ix3 0 y k)) + b (ix3 0 ⟨r.val % 8, by omega⟩ y) := by
  pointwise [k0_pay9, k0_pay21]
  have h (x : Fin 8) (e : x.val = r.val % 8) : b (ix3 0 x y) = b (ix3 0 ⟨r.val % 8, by omega⟩ y) := congrArg (fun x => b (ix3 0 x y)) (Fin.ext e)
  congr 1
  split_ifs <;> exact h _ (by dsimp only; omega)

/-- The running quantities after `n` keys, for the logits `s` of every row and the values `v` of every column. -/
structure Held (s : Fin 64 → ℕ → EReal) (v : Fin 256 → ℕ → EReal) (n : ℕ)
    (m l : Vec Ideal S64x1 .f32) (a : Vec Ideal S64x256 .f32) : Prop where
  max : ∀ r, m (ix2 r 0) = rmax (s r) n
  den : ∀ r, l (ix2 r 0) = rden (s r) n
  num : ∀ r c, a (ix2 r c) = rnum (s r) (v c) n

variable {s : Fin 64 → ℕ → EReal} {v : Fin 256 → ℕ → EReal}

/-- Before the first key: the maximum of no logits is `⊥`, the sums are zero. -/
theorem held_start : Held s v 0 (k0_pay22 (F := Ideal)) (k0_pay23 (F := Ideal)) (k0_pay24 (F := Ideal)) where
  max r := by
    pointwise [k0_pay22]
    rfl
  den r := by
    pointwise [k0_pay23]
    simp [rden]
  num r c := by
    pointwise [k0_pay24]
    simp [rnum]

/-- A block of 1024 keys takes the quantities from `n` keys to `n + 1024`. -/
theorem held_block {n : ℕ} {q : Vec Ideal S1x64x256 .bf16} {kp vp : Fin 8 → Vec Ideal S1x1x128x256 .f32} {b : Vec Ideal S1x8x1024 .f32}
    (hs : ∀ r (y : Fin 1024), (∑ k : Fin 256, q (ix3 0 r k) * paged kp y k) + b (ix3 0 ⟨r.val % 8, by omega⟩ y) = s r (n + y.val))
    (hv : ∀ (y : Fin 1024) c, paged vp y c = v c (n + y.val))
    {m l : Vec Ideal S64x1 .f32} {a : Vec Ideal S64x256 .f32} (h : Held s v n m l a) :
    let sc := k0_pay33 (k0_pay21 q) (k0_pay25 (kp 0)) (k0_pay26 (kp 1)) (k0_pay27 (kp 2)) (k0_pay28 (kp 3)) (k0_pay29 (kp 4)) (k0_pay30 (kp 5)) (k0_pay31 (kp 6)) (kp 7)
    Held s v (n + 1024) (k0_pay7 sc (k0_pay34 b) m) (k0_pay5 sc (k0_pay34 b) m l)
      (k0_pay6 (k0_pay32 (vp 0) (vp 1) (vp 2) (vp 3) (vp 4) (vp 5) (vp 6) (vp 7)) sc (k0_pay34 b) m a) := by
  intro sc
  have logit (r : Fin 64) (y : Fin 1024) : sc (ix2 r y) + k0_pay34 b (ix2 r y) = s r (n + y.val) := by
    rw [← hs, pay34_at, ← pay33_at]
  have e (r : Fin 64) : k0_pay2 sc (k0_pay34 b) m (ix2 r 0) = rmax (s r) (n + 1024) := by
    pointwise [k0_pay2, k0_pay1]
    rw [h.max, rmax_block, ofBits_neg_inf]
    simp only [logit]
  refine ⟨fun r => ?_, fun r => ?_, fun r c => ?_⟩
  · pointwise [k0_pay7]
    exact e r
  · pointwise [k0_pay5, k0_pay4, k0_pay3, k0_pay1]
    rw [e, h.max, h.den, rden_block]
    simp only [logit]
  · pointwise [k0_pay6, k0_pay4, k0_pay3, k0_pay1]
    rw [e, h.max, h.num, rnum_block]
    simp only [logit, pay32_at, hv]

/-- The 128 rows of the new keys take them from `n` keys to `n + 128`. -/
theorem held_new {n : ℕ} {q : Vec Ideal S1x64x256 .bf16} {kn vn : Vec Ideal S1x128x256 .f32} {b : Vec Ideal S1x8x128 .f32}
    (hs : ∀ r (y : Fin 128), (∑ k : Fin 256, q (ix3 0 r k) * kn (ix3 0 y k)) + b (ix3 0 ⟨r.val % 8, by omega⟩ y) = s r (n + y.val))
    (hv : ∀ (y : Fin 128) c, vn (ix3 0 y c) = v c (n + y.val))
    {m l : Vec Ideal S64x1 .f32} {a : Vec Ideal S64x256 .f32} (h : Held s v n m l a) :
    Held s v (n + 128) (k0_pay16 (k0_pay10 (k0_pay21 q) kn b m)) (k0_pay13 (k0_pay21 q) kn b m l) (k0_pay15 (k0_pay14 (k0_pay21 q) kn vn b m a)) := by
  have logit (r : Fin 64) (y : Fin 128) : k0_pay9 (k0_pay21 q) kn b (ix2 r y) = s r (n + y.val) := by
    rw [← hs, pay9_at]
  have e (r : Fin 64) : k0_pay10 (k0_pay21 q) kn b m (ix2 r 0) = rmax (s r) (n + 128) := by
    pointwise [k0_pay10]
    rw [h.max, rmax_block, ofBits_neg_inf]
    simp only [logit]
  refine ⟨fun r => ?_, fun r => ?_, fun r c => ?_⟩
  · pointwise [k0_pay16]
    exact e r
  · pointwise [k0_pay13, k0_pay12, k0_pay11]
    rw [e, h.max, h.den, rden_block]
    simp only [logit]
  · pointwise [k0_pay15, k0_pay14, k0_pay12, k0_pay11]
    rw [e, h.max, h.num, rnum_block]
    simp only [logit, hv]

theorem pay18_at (c : Fin 256) : k0_pay18 (ix2 0 c) = BitVec.ofNat 32 (c.val / 64) := by
  revert c; decide +kernel

/-- The block written at the end: column `c` takes the quotient from the row of its own head `c / 64`. -/
theorem pay8_at (a : Vec Ideal S64x256 .f32) (l : Vec Ideal S64x1 .f32) (r : Fin 16) (c : Fin 256) :
    k0_pay8 (k0_pay17 a l) k0_pay18 (k0_pay19 a l) k0_pay20 (ix3 0 r c)
      = Ideal.div (a (ix2 ⟨c.val / 64 * 16 + r.val, by omega⟩ c)) (l (ix2 ⟨c.val / 64 * 16 + r.val, by omega⟩ 0)) := by
  pointwise [k0_pay8, k0_pay17, k0_pay19, k0_pay20]
  rw [pay18_at]
  have h : c.val / 64 = 0 ∨ c.val / 64 = 1 ∨ c.val / 64 = 2 ∨ c.val / 64 = 3 := by omega
  rcases h with h | h | h | h <;> simp [h, Scalar.select, IntOp.cmpi, -EReal.coe_mul]

end Cert.KernelIdeal.Attend
end
-- ==== Proof.AttendSpec.lean ====
module
public import proofs.«01_k».proof.Proof.OnlineSoftmax
/-
  What both programs compute, as sequences over key positions. Positions below 8192 are the past, 128 to a page; the page
  of a sequence `b` at place `p` is `pg b p`. The eight positions after them are the new tokens of the sequence.
-/
@[expose] public section
noncomputable section
namespace Cert.Attend
open Idealize.ShloMosaic Cert.OnlineSoftmax

variable (cache : Fin 2560 → Fin 128 → Fin 4 → Fin 64 → EReal) (new : Fin 32 → Fin 8 → Fin 4 → Fin 64 → EReal)
  (pg : Fin 32 → Fin 64 → Fin 2560)

/-- The key (or value) of head `n` at position `y`, component `d`. -/
def entry (b : Fin 32) (n : Fin 4) (d : Fin 64) (y : ℕ) : EReal :=
  if h : y < 8192 then cache (pg b ⟨y / 128, by omega⟩) ⟨y % 128, by omega⟩ n d
  else if h : y < 8200 then new b ⟨y - 8192, by omega⟩ n d
  else 0

theorem entry_past {b : Fin 32} {n : Fin 4} {d : Fin 64} {y : ℕ} (p : Fin 64) (x : Fin 128) (h : y = p.val * 128 + x.val) :
    entry cache new pg b n d y = cache (pg b p) x n d := by
  unfold entry
  rw [dif_pos (by omega)]
  exact congrArg₂ (fun p x => cache (pg b p) x n d) (Fin.ext (by dsimp only; omega)) (Fin.ext (by dsimp only; omega))

theorem entry_new {b : Fin 32} {n : Fin 4} {d : Fin 64} {y : ℕ} (t : Fin 8) (h : y = 8192 + t.val) :
    entry cache new pg b n d y = new b t n d := by
  unfold entry
  rw [dif_neg (by omega), dif_pos (by omega)]
  exact congrArg (fun t => new b t n d) (Fin.ext (by dsimp only; omega))

theorem entry_after {b : Fin 32} {n : Fin 4} {d : Fin 64} {y : ℕ} (h : 8200 ≤ y) : entry cache new pg b n d y = 0 := by
  unfold entry
  rw [dif_neg (by omega), dif_neg (by omega)]

variable (q : Fin 32 → Fin 8 → Fin 8 → Fin 64 → EReal) (sel : Fin 32 → Fin 8 → Fin 8200 → BitVec 32)

/-- The logit of query `t` of query head `2 n + g` at position `y`: the scaled product where the position is selected. -/
def logit (b : Fin 32) (t : Fin 8) (n : Fin 4) (g : Fin 2) (y : ℕ) : EReal :=
  if h : y < 8200 then
    if sel b t ⟨y, h⟩ = 0#32 then ⊥
    else (∑ d : Fin 64, entry cache new pg b n d y * q b t ⟨n.val * 2 + g.val, by omega⟩ d) * ((1 / 8 : ℝ) : EReal)
  else ⊥

theorem logit_after {b : Fin 32} {t : Fin 8} {n : Fin 4} {g : Fin 2} {y : ℕ} (h : 8200 ≤ y) : logit cache new pg q sel b t n g y = ⊥ :=
  dif_neg (by omega)

end Cert.Attend
end
-- ==== Proof.AttendReference.lean ====
module
public import proofs.«01_k».proof.Proof.Gen.ReferenceIdeal.Run
public import proofs.«01_k».proof.Proof.AttendSpec
public import Idealize.ShloMosaic.Lib.Pointwise
public import Idealize.ShloMosaic.Lib.IdealHost
public import Idealize.ShloMosaic.Lib.StableHlo.Predicate
/-
  The reference's result at an index: the softmax of the logits, summed against the values.
-/
@[expose] public section
noncomputable section
namespace Cert.ReferenceIdeal.Attend
open Cert.ReferenceIdeal Cert.ReferenceIdeal.Gen Cert.ReferenceIdeal.Value Idealize.ShloMosaic Cert.OnlineSoftmax Cert.Attend

/-- The gather of whole pages: result page `p` of sequence `b` is page `e` of layer 0. -/
theorem gather_at {α : Type} (x : S2x2560x128x4x64.Idx → α) (idx : IVec S32x64x2 32) (b : Fin 32) (p : Fin 64) (o : Fin 128) (n : Fin 4) (d : Fin 64)
    (h0 : idx (ix3 b p 0) = 0#32) (e : Fin 2560) (h1 : idx (ix3 b p 1) = BitVec.ofNat 32 e.val) :
    Host.gather gather_S2x2560x128x4x64_S32x64x2_S32x64x128x4x64_234_01_n_n_01_2_11128464 x idx (ix5 b p o n d) = x (ix5 0 e o n d) := by
  let dG := gather_S2x2560x128x4x64_S32x64x2_S32x64x128x4x64_234_01_n_n_01_2_11128464
  unfold Host.gather
  refine congrArg x (funext fun a => Fin.ext ?_)
  have s0 : dG.siIdx (ix5 b p o n d) ⟨0, by decide⟩ = ix3 b p 0 := by
    funext a; fin_cases a <;> rfl
  have s1 : dG.siIdx (ix5 b p o n d) ⟨1, by decide⟩ = ix3 b p 1 := by
    funext a; fin_cases a <;> rfl
  have t0 : dG.start (ix5 b p o n d) idx (0 : Fin 5) = 0 := by
    show min (idx (dG.siIdx (ix5 b p o n d) ⟨0, by decide⟩)).toInt.toNat (2 - 1) = 0
    rw [s0, h0]; rfl
  have t1 : dG.start (ix5 b p o n d) idx (1 : Fin 5) = e.val := by
    show min (idx (dG.siIdx (ix5 b p o n d) ⟨1, by decide⟩)).toInt.toNat (2560 - 1) = e.val
    rw [s1, h1]
    have := e.isLt
    rw [Idealize.ShloMosaic.StableHlo.Predicate.toInt_ofNat_small _ (by omega)]
    omega
  fin_cases a
  · exact congrArg (· + 0 + 0) t0
  · exact congrArg (· + 0 + 0) t1
  · show 0 + 0 + o.val = o.val; omega
  · show 0 + 0 + n.val = n.val; omega
  · show 0 + 0 + d.val = d.val; omega

/-- The indices of the pages: layer 0, and the page table with negative entries counted from the end. -/
def pages (pt : IVec S32x64 32) : IVec S32x64x2 32 :=
  concatenate S32x64x2 2 [⟨S32x64x1, (broadcastInDim S32x64x1 ![0, 1] bcast_S32x64_S32x64x1_0_1 (id (broadcastInDim S32x64 ![] bcast_S_S32x64 (constantI S_ 32 0#32))))⟩, ⟨S32x64x1, (broadcastInDim S32x64x1 ![0, 1] bcast_S32x64_S32x64x1_0_1 (select (cmpi .slt pt (broadcastInDim S32x64 ![] bcast_S_S32x64 (constantI S_ 32 0#32))) (addi pt (broadcastInDim S32x64 ![] bcast_S_S32x64 (constantI S_ 32 2560#32))) pt))⟩] concatenates_S32x64x1_S32x64x1_S32x64x2_d2

/-- All keys (or values) of a sequence: the pages' and the new ones. -/
def all (cache : FVec Ideal S2x2560x128x4x64 .f32) (new : FVec Ideal S32x8x4x64 .f32) (pt : IVec S32x64 32) : FVec Ideal S32x8200x4x64 .f32 :=
  concatenate S32x8200x4x64 1 [⟨S32x8192x4x64, (shapeCast _ (Host.gather gather_S2x2560x128x4x64_S32x64x2_S32x64x128x4x64_234_01_n_n_01_2_11128464 cache (pages pt)) shapeCasts_S32x64x128x4x64_S32x8192x4x64)⟩, ⟨S32x8x4x64, new⟩] concatenates_S32x8192x4x64_S32x8x4x64_S32x8200x4x64_d1

/-- The masked logits. -/
def logits (q : FVec Ideal S32x8x8x64 .f32) (keys : FVec Ideal S32x8200x4x64 .f32) (sel : IVec S32x8x8200 32) : FVec Ideal S32x8x4x2x8200 .f32 :=
  select (broadcastInDim S32x8x4x2x8200 ![0, 1, 2, 3, 4] bcast_S32x8x1x1x8200_S32x8x4x2x8200_0_1_2_3_4 (cmpi .ne (broadcastInDim S32x8x1x1x8200 ![0, 1, 4] bcast_S32x8x8200_S32x8x1x1x8200_0_1_4 sel) (broadcastInDim S32x8x1x1x8200 ![] bcast_S_S32x8x1x1x8200 (constantI S_ 32 0#32)))) (mulf (transpose S32x8x4x2x8200 [0, 3, 1, 4, 2] (Host.dotGeneral dot_S32x8200x4x64_S32x8x4x2x64_S32x4x8200x8x2_3_4_1_13_02_02 none keys (shapeCast _ q shapeCasts_S32x8x8x64_S32x8x4x2x64)) transposes_S32x4x8200x8x2_S32x8x4x2x8200_0_3_1_4_2) (broadcastInDim S32x8x4x2x8200 ![] bcast_S_S32x8x4x2x8200 (constant S_ .f32 0x3E000000#32))) (broadcastInDim S32x8x4x2x8200 ![] bcast_S_S32x8x4x2x8200 (id (constant S_ .f32 0xFF800000#32)))

/-- The largest logit of every row. -/
def rowmax (s : FVec Ideal S32x8x4x2x8200 .f32) : FVec Ideal S32x8x4x2 .f32 :=
  Host.reduce FloatOps.maximumf s (constant S_ .f32 0xFF800000#32) reducesTo_S32x8x4x2x8200_S32x8x4x2_d4 h_S_

/-- The sum of every row. -/
def rowsum (w : FVec Ideal S32x8x4x2x8200 .f32) : FVec Ideal S32x8x4x2 .f32 :=
  Host.reduceAdd w (constant S_ .f32 0x00000000#32) reducesTo_S32x8x4x2x8200_S32x8x4x2_d4 h_S_

/-- The exponentials, over given row maxima. -/
def over (s : FVec Ideal S32x8x4x2x8200 .f32) (M : FVec Ideal S32x8x4x2 .f32) : FVec Ideal S32x8x4x2x8200 .f32 :=
  Host.exp (subf s (broadcastInDim S32x8x4x2x8200 ![0, 1, 2, 3, 4] bcast_S32x8x4x2x1_S32x8x4x2x8200_0_1_2_3_4 (broadcastInDim S32x8x4x2x1 ![0, 1, 2, 3] bcast_S32x8x4x2_S32x8x4x2x1_0_1_2_3 (maximumf (broadcastInDim S32x8x4x2 ![] bcast_S_S32x8x4x2 (constant S_ .f32 0xFF800000#32)) M))))

/-- The exponentials, over the row's maximum. -/
def weights (s : FVec Ideal S32x8x4x2x8200 .f32) : FVec Ideal S32x8x4x2x8200 .f32 := over s (rowmax s)

/-- The weights over given row sums, against the values, laid out as the kernel returns it. -/
def against (w : FVec Ideal S32x8x4x2x8200 .f32) (D : FVec Ideal S32x8x4x2 .f32) (vals : FVec Ideal S32x8200x4x64 .f32) : FVec Ideal S32x16x256 .f32 :=
  shapeCast _ (transpose S32x2x8x4x64 [0, 3, 1, 2, 4] (transpose S32x8x4x2x64 [0, 3, 1, 4, 2] (Host.dotGeneral dot_S32x8200x4x64_S32x8x4x2x8200_S32x4x64x8x2_1_4_3_13_02_02 none vals (Host.divf w (broadcastInDim S32x8x4x2x8200 ![0, 1, 2, 3, 4] bcast_S32x8x4x2x1_S32x8x4x2x8200_0_1_2_3_4 (broadcastInDim S32x8x4x2x1 ![0, 1, 2, 3] bcast_S32x8x4x2_S32x8x4x2x1_0_1_2_3 D)))) transposes_S32x4x64x8x2_S32x8x4x2x64_0_3_1_4_2) transposes_S32x8x4x2x64_S32x2x8x4x64_0_3_1_2_4) shapeCasts_S32x2x8x4x64_S32x16x256

/-- The softmax against the values. -/
def output (w : FVec Ideal S32x8x4x2x8200 .f32) (vals : FVec Ideal S32x8200x4x64 .f32) : FVec Ideal S32x16x256 .f32 := against w (rowsum w) vals

set_option maxRecDepth 8192 in
theorem result_eq (m : (ℓ : Loc nD τ sig) → Buf (Elt Ideal) ℓ) (c : Dev nD) :
    res_main_v49 m c = output (weights (logits (m ((c.tc : Thread nD τ).loc main_arg0)) (all (m ((c.tc : Thread nD τ).loc main_arg4)) (m ((c.tc : Thread nD τ).loc main_arg1)) (m ((c.tc : Thread nD τ).loc main_arg6))) (m ((c.tc : Thread nD τ).loc main_arg3))))
      (all (m ((c.tc : Thread nD τ).loc main_arg5)) (m ((c.tc : Thread nD τ).loc main_arg2)) (m ((c.tc : Thread nD τ).loc main_arg6))) := rfl

variable (pt : IVec S32x64 32) (pg : Fin 32 → Fin 64 → Fin 2560) (hpt : ∀ b p, pt (ix2 b p) = BitVec.ofNat 32 (pg b p).val)

theorem ofBits_neg_inf : Ideal.ofBits FTy.f32 0xFF800000#32 = ⊥ := by
  simp [Ideal.ofBits, Ideal.ieee]

theorem ofBits_eighth : Ideal.ofBits FTy.f32 0x3E000000#32 = ((1 / 8 : ℝ) : EReal) := by
  simp [Ideal.ofBits, Ideal.ieee, -EReal.coe_mul]; norm_num

include hpt in
theorem pages_at (b : Fin 32) (p : Fin 64) : pages pt (ix3 b p 0) = 0#32 ∧ pages pt (ix3 b p 1) = BitVec.ofNat 32 (pg b p).val := by
  constructor
  · pointwise [pages, id]
  · pointwise [pages, id]
    rw [hpt]
    have := (pg b p).isLt
    have h : IntOp.cmpi CmpIPredicate.slt (BitVec.ofNat 32 (pg b p).val) 0#32 = 0#1 := by
      simp [IntOp.cmpi, BitVec.slt, Idealize.ShloMosaic.StableHlo.Predicate.toInt_ofNat_small _ (show (pg b p).val < 2 ^ 31 by omega), show ¬((pg b p).val : Int) < 0 by omega]
    rw [h]; rfl

include hpt in
theorem all_at (cache : FVec Ideal S2x2560x128x4x64 .f32) (new : FVec Ideal S32x8x4x64 .f32) (b : Fin 32) (y : Fin 8200) (n : Fin 4) (d : Fin 64) :
    all cache new pt (ix4 b y n d) = entry (fun e o n d => cache (ix5 0 e o n d)) (fun b t n d => new (ix4 b t n d)) pg b n d y.val := by
  pointwise [all]
  unfold entry
  split
  · exact gather_at cache _ b _ _ n d (pages_at pt pg hpt b _).1 _ (pages_at pt pg hpt b _).2
  · rw [dif_pos y.isLt]

theorem logits_at (q : FVec Ideal S32x8x8x64 .f32) (keys : FVec Ideal S32x8200x4x64 .f32) (sel : IVec S32x8x8200 32) (b : Fin 32) (t : Fin 8) (n : Fin 4) (g : Fin 2) (y : Fin 8200) :
    logits q keys sel (ix5 b t n g y) = if sel (ix3 b t y) = 0#32 then ⊥ else (∑ d : Fin 64, keys (ix4 b y n d) * q (ix4 b t ⟨n.val * 2 + g.val, by omega⟩ d)) * ((1 / 8 : ℝ) : EReal) := by
  pointwise [logits, id]
  rw [ofBits_neg_inf, ofBits_eighth]
  have e (x : BitVec 32) : IntOp.cmpi CmpIPredicate.ne x 0#32 = if x = 0#32 then 0#1 else 1#1 := by
    by_cases h : x = 0#32
    · simp [IntOp.cmpi, h]
    · rw [if_neg h]; show BitVec.ofBool (x != 0#32) = 1#1
      rw [bne_iff_ne.2 h]; rfl
  rw [e]
  split <;> simp [Scalar.select]

/-- A row's maximum. -/
theorem rowmax_at {w : ℕ} (s : FVec Ideal ⟨5, ![32, 8, 4, 2, w]⟩ .f32) (i : FVec Ideal S_ .f32) (h : (⟨5, ![32, 8, 4, 2, w]⟩ : Shape).ReducesTo [4] S32x8x4x2)
    (hu : 0 < S_.numel) (b : Fin 32) (t : Fin 8) (n : Fin 4) (g : Fin 2) :
    Host.reduce FloatOps.maximumf s i h hu (ix4 b t n g) = Finset.univ.fold max (i (Shape.Idx.first hu)) fun k : Fin w => s (ix5 b t n g k) := by
  simp only [pointwise]

/-- A row's sum. -/
theorem rowsum_at {w : ℕ} (s : FVec Ideal ⟨5, ![32, 8, 4, 2, w]⟩ .f32) (i : FVec Ideal S_ .f32) (h : (⟨5, ![32, 8, 4, 2, w]⟩ : Shape).ReducesTo [4] S32x8x4x2)
    (hu : 0 < S_.numel) (b : Fin 32) (t : Fin 8) (n : Fin 4) (g : Fin 2) :
    Host.reduceAdd s i h hu (ix4 b t n g) = i (Shape.Idx.first hu) + ∑ k : Fin w, s (ix5 b t n g k) := by
  simp only [pointwise, Ideal.hostReduceAdd_def]

/-- The maximum of a row whose logits are the sequence `L`. -/
theorem rowmax_eq {w : ℕ} (s : FVec Ideal ⟨5, ![32, 8, 4, 2, w]⟩ .f32) (h : (⟨5, ![32, 8, 4, 2, w]⟩ : Shape).ReducesTo [4] S32x8x4x2)
    (hu : 0 < S_.numel) (b : Fin 32) (t : Fin 8) (n : Fin 4) (g : Fin 2) (L : ℕ → EReal) (hL : ∀ y : Fin w, s (ix5 b t n g y) = L y.val) :
    Host.reduce FloatOps.maximumf s (constant S_ .f32 0xFF800000#32) h hu (ix4 b t n g) = rmax L w := by
  rw [rowmax_at, rmax_fold]
  simp only [hL]
  exact congrArg (fun z => Finset.univ.fold max z fun i : Fin w => L i.val) ofBits_neg_inf

/-- The sum of a row. -/
theorem rowsum_eq {w : ℕ} (s : FVec Ideal ⟨5, ![32, 8, 4, 2, w]⟩ .f32) (h : (⟨5, ![32, 8, 4, 2, w]⟩ : Shape).ReducesTo [4] S32x8x4x2)
    (hu : 0 < S_.numel) (b : Fin 32) (t : Fin 8) (n : Fin 4) (g : Fin 2) (L : ℕ → EReal) (hL : ∀ y : Fin w, s (ix5 b t n g y) = Ideal.exp (L y.val - rmax L w)) :
    Host.reduceAdd s (constant S_ .f32 0x00000000#32) h hu (ix4 b t n g) = rden L w := by
  rw [rowsum_at, rden_fin]
  simp only [hL]
  rw [show constant (F := Ideal) S_ .f32 0x00000000#32 (Shape.Idx.first hu) = (0 : EReal) from Ideal.ofBits_zero_f32, zero_add]

/-- The weights over given row maxima. -/
theorem over_at (s : FVec Ideal S32x8x4x2x8200 .f32) (M : FVec Ideal S32x8x4x2 .f32) (b : Fin 32) (t : Fin 8) (n : Fin 4) (g : Fin 2) (y : Fin 8200) :
    over s M (ix5 b t n g y) = Ideal.exp (s (ix5 b t n g y) - M (ix4 b t n g)) := by
  pointwise [over]
  rw [ofBits_neg_inf, max_eq_right bot_le]

/-- The weights of a row whose logits are the sequence `L`. -/
theorem weights_at (s : FVec Ideal S32x8x4x2x8200 .f32) (b : Fin 32) (t : Fin 8) (n : Fin 4) (g : Fin 2) (L : ℕ → EReal)
    (hL : ∀ y : Fin 8200, s (ix5 b t n g y) = L y.val) (y : Fin 8200) :
    weights s (ix5 b t n g y) = Ideal.exp (L y.val - rmax L 8200) :=
  (over_at s (rowmax s) b t n g y).trans
    (congrArg₂ (fun x z => Ideal.exp (x - z)) (hL y) (rowmax_eq s reducesTo_S32x8x4x2x8200_S32x8x4x2_d4 h_S_ b t n g L hL))

/-- The quotients against the values, for given row sums. -/
theorem against_at (w : FVec Ideal S32x8x4x2x8200 .f32) (D : FVec Ideal S32x8x4x2 .f32) (vals : FVec Ideal S32x8200x4x64 .f32) (b : Fin 32) (r : Fin 16) (c : Fin 256) :
    against w D vals (ix3 b r c) = ∑ y : Fin 8200, vals (ix4 b y ⟨c.val / 64, by omega⟩ ⟨c.val % 64, by omega⟩)
      * Ideal.div (w (ix5 b ⟨r.val % 8, by omega⟩ ⟨c.val / 64, by omega⟩ ⟨r.val / 8, by omega⟩ y)) (D (ix4 b ⟨r.val % 8, by omega⟩ ⟨c.val / 64, by omega⟩ ⟨r.val / 8, by omega⟩)) := by
  pointwise [against]

/-- The result at an index whose row of weights comes from the logits `L`: the softmax against the values `v`. -/
theorem output_at (w : FVec Ideal S32x8x4x2x8200 .f32) (vals : FVec Ideal S32x8200x4x64 .f32) (b : Fin 32) (r : Fin 16) (c : Fin 256) (L v : ℕ → EReal)
    (hw : ∀ y : Fin 8200, w (ix5 b ⟨r.val % 8, by omega⟩ ⟨c.val / 64, by omega⟩ ⟨r.val / 8, by omega⟩ y) = Ideal.exp (L y.val - rmax L 8200))
    (hv : ∀ y : Fin 8200, vals (ix4 b y ⟨c.val / 64, by omega⟩ ⟨c.val % 64, by omega⟩) = v y.val) :
    output w vals (ix3 b r c) = ∑ i : Fin 8200, Ideal.div (Ideal.exp (L i.val - rmax L 8200)) (rden L 8200) * v i.val := by
  refine (against_at w (rowsum w) vals b r c).trans (Finset.sum_congr rfl fun y _ => ?_)
  rw [hw, hv, mul_comm]
  exact congrArg (fun z => Ideal.div (Ideal.exp (L y.val - rmax L 8200)) z * v y.val)
    (rowsum_eq w reducesTo_S32x8x4x2x8200_S32x8x4x2_d4 h_S_ b _ _ _ L hw)

/-- The reference's result at an index. -/
theorem result_at (m : (ℓ : Loc nD τ sig) → Buf (Elt Ideal) ℓ) (c : Dev nD) (q : FVec Ideal S32x8x8x64 .f32) (k v : FVec Ideal S32x8x4x64 .f32) (sel : IVec S32x8x8200 32)
    (ck cv : FVec Ideal S2x2560x128x4x64 .f32) (pt : IVec S32x64 32) (pg : Fin 32 → Fin 64 → Fin 2560) (hpt : ∀ b p, pt (ix2 b p) = BitVec.ofNat 32 (pg b p).val)
    (h0 : m ((c.tc : Thread nD τ).loc main_arg0) = q) (h1 : m ((c.tc : Thread nD τ).loc main_arg1) = k) (h2 : m ((c.tc : Thread nD τ).loc main_arg2) = v)
    (h3 : m ((c.tc : Thread nD τ).loc main_arg3) = sel) (h4 : m ((c.tc : Thread nD τ).loc main_arg4) = ck) (h5 : m ((c.tc : Thread nD τ).loc main_arg5) = cv)
    (h6 : m ((c.tc : Thread nD τ).loc main_arg6) = pt) (b : Fin 32) (r : Fin 16) (x : Fin 256) :
    let L := logit (fun e o n d => ck (ix5 0 e o n d)) (fun b t n d => k (ix4 b t n d)) pg (fun b t h d => q (ix4 b t h d)) (fun b t y => sel (ix3 b t y))
      b ⟨r.val % 8, by omega⟩ ⟨x.val / 64, by omega⟩ ⟨r.val / 8, by omega⟩
    let V := entry (fun e o n d => cv (ix5 0 e o n d)) (fun b t n d => v (ix4 b t n d)) pg b ⟨x.val / 64, by omega⟩ ⟨x.val % 64, by omega⟩
    (res_main_v49 m c : FVec Ideal S32x16x256 .f32) (ix3 b r x) = ∑ i : Fin 8200, Ideal.div (Ideal.exp (L i.val - rmax L 8200)) (rden L 8200) * V i.val := by
  intro L V
  rw [result_eq, h0, h1, h2, h3, h4, h5, h6]
  refine output_at _ _ b r x L V (fun y => weights_at _ _ _ _ _ L (fun y => ?_) y) fun y => all_at pt pg hpt cv v b y _ _
  rw [logits_at]
  simp only [all_at pt pg hpt]
  show _ = logit _ _ _ _ _ _ _ _ _ _
  rw [logit, dif_pos y.isLt]

end Cert.ReferenceIdeal.Attend
end
-- ==== Proof.AttendArgs.lean ====
/- The arrays that the paged attention's windows read, entry by entry, in the arguments of the program. -/
module
public import proofs.«01_k».proof.Proof.AttendHolds
public import proofs.«01_k».proof.Proof.AttendBlock
public import proofs.«01_k».proof.Proof.AttendReference
public import Idealize.ShloMosaic.Lib.Pointwise
public import Idealize.ShloMosaic.Lib.StableHlo.RunRead
@[expose] public section
noncomputable section
namespace Cert.KernelIdeal.Attend
open Cert.KernelIdeal.Gen Cert.OnlineSoftmax
open Idealize.ShloMosaic Idealize.ShloMosaic.TcCoe Idealize.ShloMosaic.Tactic

/-- A word compared with zero selects between the two values. -/
theorem select_ne (x : BitVec 32) (a b : EReal) : Scalar.select (IntOp.cmpi CmpIPredicate.ne x 0#32) a b = if x = 0#32 then b else a := by
  by_cases h : x = 0#32
  · simp [IntOp.cmpi, h, Scalar.select]
  · have e : IntOp.cmpi CmpIPredicate.ne x 0#32 = 1#1 := by
      show BitVec.ofBool (x != 0#32) = 1#1
      rw [bne_iff_ne.2 h]; rfl
    rw [e, if_neg h]; simp [Scalar.select]

/-- A block-diagonal entry of the identity. -/
theorem eye_at (a b : ℕ) (ha : a < 4) (hb : b < 4) :
    (FloatOps.uitofp FTy.f32 (IntOp.cmpi CmpIPredicate.eq (IntOp.addi (BitVec.ofNat 32 a) 0#32) (BitVec.ofNat 32 b)) : Ideal FTy.f32) = if b = a then (1 : EReal) else 0 := by
  interval_cases a <;> interval_cases b <;> simp [FloatOps.uitofp, IntOp.cmpi, IntOp.addi]

/-- A scaled entry of the block diagonal. -/
theorem scaled (x w e : EReal) (a b : ℕ) (hw : w = ((1 / 8 : ℝ) : EReal)) (he : e = if b = a then 1 else 0) :
    x * w * e = if b = a then x * ((1 / 8 : ℝ) : EReal) else 0 := by
  rw [hw, he]; split
  · rw [mul_one]
  · rw [mul_zero]

/-- A query row against a key: the other heads' columns add nothing, and the mask's entry leaves the scaled product or minus infinity. -/
theorem row_logit (q : Fin 64 → EReal) (key : Fin 256 → EReal) (n : ℕ) (hn : n < 4) (P : Prop) [Decidable P] :
    (∑ k : Fin 256, (if k.val / 64 = n then q ⟨k.val % 64, by omega⟩ * ((1 / 8 : ℝ) : EReal) else 0) * key k) + (if P then (⊥ : EReal) else 0)
      = if P then ⊥ else (∑ d : Fin 64, key ⟨n * 64 + d.val, by omega⟩ * q d) * ((1 / 8 : ℝ) : EReal) := by
  by_cases hP : P
  · rw [if_pos hP, if_pos hP, EReal.add_bot]
  rw [if_neg hP, if_neg hP, add_zero, sum_mul_real _ _ (by norm_num)]
  rw [← (finProdFinEquiv (m := 4) (n := 64)).sum_comp, Fintype.sum_prod_type, Finset.sum_eq_single ⟨n, hn⟩]
  · refine Finset.sum_congr rfl fun d _ => ?_
    have e : (finProdFinEquiv ((⟨n, hn⟩, d) : Fin 4 × Fin 64)).val = d.val + 64 * n := rfl
    rw [if_pos (by rw [e]; omega)]
    have e1 : (⟨(finProdFinEquiv ((⟨n, hn⟩, d) : Fin 4 × Fin 64)).val % 64, by omega⟩ : Fin 64) = d := Fin.ext (by dsimp only; rw [e]; omega)
    have e2 : (finProdFinEquiv ((⟨n, hn⟩, d) : Fin 4 × Fin 64) : Fin 256) = ⟨n * 64 + d.val, by omega⟩ := Fin.ext (by dsimp only; rw [e]; omega)
    rw [e1, e2, mul_right_comm, mul_comm (q d)]
  · intro a _ ha
    refine Finset.sum_eq_zero fun d _ => ?_
    have e : (finProdFinEquiv (a, d)).val = d.val + 64 * a.val := rfl
    rw [if_neg (by rw [e]; intro h; exact ha (Fin.ext (by dsimp only; omega))), zero_mul]
  · intro h; exact absurd (Finset.mem_univ _) h

variable (m : (ℓ : Loc nD τ sig) → Buf (Elt Ideal) ℓ)

/-! The sixteen copies of the two pools, with the heads side by side. -/

theorem V_v0 (c : Dev nD) (e : Fin 2) (p : Fin 2560) (x : Fin 128) (k : Fin 256) :
    V m c main_v0 (ix4 e p x k) = m ((c : Thread nD τ).loc main_arg4) (ix5 e p x ⟨k.val / 64, by omega⟩ ⟨k.val % 64, by omega⟩) := by
  show StableHlo.after _ _ (Proc.devRef .tc main_v0) _ = _
  after_reads_simp
  pointwise []

theorem V_v1 (c : Dev nD) (e : Fin 2) (p : Fin 2560) (x : Fin 128) (k : Fin 256) :
    V m c main_v1 (ix4 e p x k) = m ((c : Thread nD τ).loc main_arg4) (ix5 e p x ⟨k.val / 64, by omega⟩ ⟨k.val % 64, by omega⟩) := by
  show StableHlo.after _ _ (Proc.devRef .tc main_v1) _ = _
  after_reads_simp
  pointwise []

theorem V_v2 (c : Dev nD) (e : Fin 2) (p : Fin 2560) (x : Fin 128) (k : Fin 256) :
    V m c main_v2 (ix4 e p x k) = m ((c : Thread nD τ).loc main_arg4) (ix5 e p x ⟨k.val / 64, by omega⟩ ⟨k.val % 64, by omega⟩) := by
  show StableHlo.after _ _ (Proc.devRef .tc main_v2) _ = _
  after_reads_simp
  pointwise []

theorem V_v3 (c : Dev nD) (e : Fin 2) (p : Fin 2560) (x : Fin 128) (k : Fin 256) :
    V m c main_v3 (ix4 e p x k) = m ((c : Thread nD τ).loc main_arg4) (ix5 e p x ⟨k.val / 64, by omega⟩ ⟨k.val % 64, by omega⟩) := by
  show StableHlo.after _ _ (Proc.devRef .tc main_v3) _ = _
  after_reads_simp
  pointwise []

theorem V_v4 (c : Dev nD) (e : Fin 2) (p : Fin 2560) (x : Fin 128) (k : Fin 256) :
    V m c main_v4 (ix4 e p x k) = m ((c : Thread nD τ).loc main_arg4) (ix5 e p x ⟨k.val / 64, by omega⟩ ⟨k.val % 64, by omega⟩) := by
  show StableHlo.after _ _ (Proc.devRef .tc main_v4) _ = _
  after_reads_simp
  pointwise []

theorem V_v5 (c : Dev nD) (e : Fin 2) (p : Fin 2560) (x : Fin 128) (k : Fin 256) :
    V m c main_v5 (ix4 e p x k) = m ((c : Thread nD τ).loc main_arg4) (ix5 e p x ⟨k.val / 64, by omega⟩ ⟨k.val % 64, by omega⟩) := by
  show StableHlo.after _ _ (Proc.devRef .tc main_v5) _ = _
  after_reads_simp
  pointwise []

theorem V_v6 (c : Dev nD) (e : Fin 2) (p : Fin 2560) (x : Fin 128) (k : Fin 256) :
    V m c main_v6 (ix4 e p x k) = m ((c : Thread nD τ).loc main_arg4) (ix5 e p x ⟨k.val / 64, by omega⟩ ⟨k.val % 64, by omega⟩) := by
  show StableHlo.after _ _ (Proc.devRef .tc main_v6) _ = _
  after_reads_simp
  pointwise []

theorem V_v7 (c : Dev nD) (e : Fin 2) (p : Fin 2560) (x : Fin 128) (k : Fin 256) :
    V m c main_v7 (ix4 e p x k) = m ((c : Thread nD τ).loc main_arg4) (ix5 e p x ⟨k.val / 64, by omega⟩ ⟨k.val % 64, by omega⟩) := by
  show StableHlo.after _ _ (Proc.devRef .tc main_v7) _ = _
  after_reads_simp
  pointwise []

theorem V_v8 (c : Dev nD) (e : Fin 2) (p : Fin 2560) (x : Fin 128) (k : Fin 256) :
    V m c main_v8 (ix4 e p x k) = m ((c : Thread nD τ).loc main_arg5) (ix5 e p x ⟨k.val / 64, by omega⟩ ⟨k.val % 64, by omega⟩) := by
  show StableHlo.after _ _ (Proc.devRef .tc main_v8) _ = _
  after_reads_simp
  pointwise []

theorem V_v9 (c : Dev nD) (e : Fin 2) (p : Fin 2560) (x : Fin 128) (k : Fin 256) :
    V m c main_v9 (ix4 e p x k) = m ((c : Thread nD τ).loc main_arg5) (ix5 e p x ⟨k.val / 64, by omega⟩ ⟨k.val % 64, by omega⟩) := by
  show StableHlo.after _ _ (Proc.devRef .tc main_v9) _ = _
  after_reads_simp
  pointwise []

theorem V_v10 (c : Dev nD) (e : Fin 2) (p : Fin 2560) (x : Fin 128) (k : Fin 256) :
    V m c main_v10 (ix4 e p x k) = m ((c : Thread nD τ).loc main_arg5) (ix5 e p x ⟨k.val / 64, by omega⟩ ⟨k.val % 64, by omega⟩) := by
  show StableHlo.after _ _ (Proc.devRef .tc main_v10) _ = _
  after_reads_simp
  pointwise []

theorem V_v11 (c : Dev nD) (e : Fin 2) (p : Fin 2560) (x : Fin 128) (k : Fin 256) :
    V m c main_v11 (ix4 e p x k) = m ((c : Thread nD τ).loc main_arg5) (ix5 e p x ⟨k.val / 64, by omega⟩ ⟨k.val % 64, by omega⟩) := by
  show StableHlo.after _ _ (Proc.devRef .tc main_v11) _ = _
  after_reads_simp
  pointwise []

theorem V_v12 (c : Dev nD) (e : Fin 2) (p : Fin 2560) (x : Fin 128) (k : Fin 256) :
    V m c main_v12 (ix4 e p x k) = m ((c : Thread nD τ).loc main_arg5) (ix5 e p x ⟨k.val / 64, by omega⟩ ⟨k.val % 64, by omega⟩) := by
  show StableHlo.after _ _ (Proc.devRef .tc main_v12) _ = _
  after_reads_simp
  pointwise []

theorem V_v13 (c : Dev nD) (e : Fin 2) (p : Fin 2560) (x : Fin 128) (k : Fin 256) :
    V m c main_v13 (ix4 e p x k) = m ((c : Thread nD τ).loc main_arg5) (ix5 e p x ⟨k.val / 64, by omega⟩ ⟨k.val % 64, by omega⟩) := by
  show StableHlo.after _ _ (Proc.devRef .tc main_v13) _ = _
  after_reads_simp
  pointwise []

theorem V_v14 (c : Dev nD) (e : Fin 2) (p : Fin 2560) (x : Fin 128) (k : Fin 256) :
    V m c main_v14 (ix4 e p x k) = m ((c : Thread nD τ).loc main_arg5) (ix5 e p x ⟨k.val / 64, by omega⟩ ⟨k.val % 64, by omega⟩) := by
  show StableHlo.after _ _ (Proc.devRef .tc main_v14) _ = _
  after_reads_simp
  pointwise []

theorem V_v15 (c : Dev nD) (e : Fin 2) (p : Fin 2560) (x : Fin 128) (k : Fin 256) :
    V m c main_v15 (ix4 e p x k) = m ((c : Thread nD τ).loc main_arg5) (ix5 e p x ⟨k.val / 64, by omega⟩ ⟨k.val % 64, by omega⟩) := by
  show StableHlo.after _ _ (Proc.devRef .tc main_v15) _ = _
  after_reads_simp
  pointwise []

/-- The mask over the past. -/
theorem V_mask (c : Dev nD) (b : Fin 32) (t : Fin 8) (y : Fin 8192) :
    V m c main_v19 (ix3 b t y) = if m ((c : Thread nD τ).loc main_arg3) (ix3 b t ⟨y.val, by omega⟩) = (0#32 : BitVec 32) then (⊥ : EReal) else 0 := by
  show StableHlo.after _ _ (Proc.devRef .tc main_v19) _ = _
  after_reads_simp
  simp only [StableHlo.TRef.toBuf, StableHlo.TRef.ofBuf, cast_eq]
  pointwise []
  rw [ofBits_neg_inf]
  exact select_ne _ _ _

/-- The mask over the new tokens, and over the padding, which selects nothing. -/
theorem V_mask_new (c : Dev nD) (b : Fin 32) (t : Fin 8) (y : Fin 8320) :
    V m c main_v23 (ix3 b t y) = if h : y.val < 8200 then (if m ((c : Thread nD τ).loc main_arg3) (ix3 b t ⟨y.val, h⟩) = (0#32 : BitVec 32) then (⊥ : EReal) else 0) else ⊥ := by
  show StableHlo.after _ _ (Proc.devRef .tc main_v23) _ = _
  after_reads_simp
  simp only [StableHlo.TRef.toBuf, StableHlo.TRef.ofBuf, cast_eq]
  pointwise [id]
  rw [ofBits_neg_inf]
  refine (select_ne _ _ _).trans ?_
  by_cases h : y.val < 8200
  · rw [dif_pos h, dif_pos h]
  · rw [dif_neg h, dif_neg h]; simp

/-- The new tokens' keys, with rows of zeros after them. -/
theorem V_new_keys (c : Dev nD) (b : Fin 32) (x : Fin 128) (k : Fin 256) :
    V m c main_v42 (ix3 b x k) = if h : x.val < 8 then m ((c : Thread nD τ).loc main_arg1) (ix4 b ⟨x.val, h⟩ ⟨k.val / 64, by omega⟩ ⟨k.val % 64, by omega⟩) else (0 : EReal) := by
  show StableHlo.after _ _ (Proc.devRef .tc main_v42) _ = _
  after_reads_simp
  simp only [StableHlo.TRef.toBuf, StableHlo.TRef.ofBuf, cast_eq]
  pointwise [id]
  by_cases h : x.val < 8
  · rw [dif_pos h, dif_pos h]
  · rw [dif_neg h, dif_neg h]; simp [FloatOps.sitofp]

/-- The new tokens' values, with rows of zeros after them. -/
theorem V_new_values (c : Dev nD) (b : Fin 32) (x : Fin 128) (k : Fin 256) :
    V m c main_v44 (ix3 b x k) = if h : x.val < 8 then m ((c : Thread nD τ).loc main_arg2) (ix4 b ⟨x.val, h⟩ ⟨k.val / 64, by omega⟩ ⟨k.val % 64, by omega⟩) else (0 : EReal) := by
  show StableHlo.after _ _ (Proc.devRef .tc main_v44) _ = _
  after_reads_simp
  simp only [StableHlo.TRef.toBuf, StableHlo.TRef.ofBuf, cast_eq]
  pointwise [id]
  by_cases h : x.val < 8
  · rw [dif_pos h, dif_pos h]
  · rw [dif_neg h, dif_neg h]; simp [FloatOps.sitofp]

/-- The query rows: row `16 n + 8 g + t` is query head `2 n + g` of token `t`, scaled, in the columns of key head `n`, and zero elsewhere. -/
theorem V_queries (c : Dev nD) (q : FVec Ideal S32x8x8x64 .f32) (hq : m ((c : Thread nD τ).loc main_arg0) = q) (b : Fin 32) (r : Fin 64) (k : Fin 256) :
    V m c main_v40 (ix3 b r k) = if k.val / 64 = r.val / 16 then
      q (ix4 b ⟨r.val % 8, by omega⟩ ⟨r.val / 16 * 2 + r.val / 8 % 2, by omega⟩ ⟨k.val % 64, by omega⟩) * ((1 / 8 : ℝ) : EReal) else (0 : EReal) := by
  show StableHlo.after _ _ (Proc.devRef .tc main_v40) _ = _
  after_reads_simp
  rw [show m (c, Proc.devRef .tc main_arg0) = q from hq]
  pointwise []
  exact scaled _ _ _ _ _ Cert.ReferenceIdeal.Attend.ofBits_eighth (eye_at (r.val / 16) (k.val / 64) (by omega) (by omega))

end Cert.KernelIdeal.Attend

end
-- ==== Proof.AttendRows.lean ====
/- The paged attention's rows: row `16 n + 8 g + t` of a sequence's scores holds the logits of query head `2 n + g` of token
   `t`, and column `64 n + d` of the values is component `d` of value head `n`. -/
module
public import proofs.«01_k».proof.Proof.AttendArgs
@[expose] public section
noncomputable section
namespace Cert.KernelIdeal.Attend
open Cert.KernelIdeal.Gen Cert.OnlineSoftmax Cert.Attend
open Idealize.ShloMosaic

variable (q : FVec Ideal S32x8x8x64 .f32) (k v : FVec Ideal S32x8x4x64 .f32) (sel : IVec S32x8x8200 32) (ck cv : FVec Ideal S2x2560x128x4x64 .f32)
  (pg : Fin 32 → Fin 64 → Fin 2560)

/-- The logits of row `r` of sequence `b`. -/
def rowLogits (b : Fin 32) (r : Fin 64) : ℕ → EReal :=
  logit (fun e o n d => ck (ix5 0 e o n d)) (fun b t n d => k (ix4 b t n d)) pg (fun b t h d => q (ix4 b t h d)) (fun b t y => sel (ix3 b t y))
    b ⟨r.val % 8, by omega⟩ ⟨r.val / 16, by omega⟩ ⟨r.val / 8 % 2, by omega⟩

/-- The values of column `x` of sequence `b`. -/
def colValues (b : Fin 32) (x : Fin 256) : ℕ → EReal :=
  entry (fun e o n d => cv (ix5 0 e o n d)) (fun b t n d => v (ix4 b t n d)) pg b ⟨x.val / 64, by omega⟩ ⟨x.val % 64, by omega⟩

/-- A query row against the key at a position within the sequence. -/
theorem logit_row (b : Fin 32) (r : Fin 64) (y : ℕ) (hy : y < 8200) (key : Fin 256 → EReal)
    (hkey : ∀ x : Fin 256, key x = entry (fun e o n d => ck (ix5 0 e o n d)) (fun b t n d => k (ix4 b t n d)) pg b ⟨x.val / 64, by omega⟩ ⟨x.val % 64, by omega⟩ y) :
    (∑ x : Fin 256, (if x.val / 64 = r.val / 16 then q (ix4 b ⟨r.val % 8, by omega⟩ ⟨r.val / 16 * 2 + r.val / 8 % 2, by omega⟩ ⟨x.val % 64, by omega⟩) * ((1 / 8 : ℝ) : EReal) else 0) * key x)
      + (if sel (ix3 b ⟨r.val % 8, by omega⟩ ⟨y, hy⟩) = 0#32 then (⊥ : EReal) else 0) = rowLogits q k sel ck pg b r y := by
  refine (row_logit (fun d => q (ix4 b ⟨r.val % 8, by omega⟩ ⟨r.val / 16 * 2 + r.val / 8 % 2, by omega⟩ d)) key (r.val / 16) (by omega) _).trans ?_
  unfold rowLogits logit
  rw [dif_pos hy]
  refine if_congr Iff.rfl rfl (congrArg (· * ((1 / 8 : ℝ) : EReal)) (Finset.sum_congr rfl fun d _ => ?_))
  refine congrArg (· * _) ((hkey _).trans ?_)
  exact congrArg₂ (fun n d => entry (fun e o n d => ck (ix5 0 e o n d)) (fun b t n d => k (ix4 b t n d)) pg b n d y) (Fin.ext (by dsimp only; omega)) (Fin.ext (by dsimp only; omega))

/-- After the sequence's end nothing is attended. -/
theorem row_after (b : Fin 32) (r : Fin 64) (y : ℕ) (hy : 8200 ≤ y) : rowLogits q k sel ck pg b r y = ⊥ := logit_after _ _ _ _ _ hy

end Cert.KernelIdeal.Attend

end
-- ==== Proof.AttendTable.lean ====
/- The page table's part in the paged attention: which page each of the sixteen page windows reads at a grid point, and
   that the pages lie in the pool where the table's entries do. -/
module
public import proofs.«01_k».proof.Proof.Gen.KernelIdeal.Frame
public import Idealize.ShloMosaic.Lib.Pointwise
@[expose] public section
noncomputable section
namespace Cert.KernelIdeal.Attend
open Cert.KernelIdeal.Gen
open Idealize.ShloMosaic Idealize.ShloMosaic.TcCoe Idealize.ShloMosaic.Tactic

variable {F : FTy → Type} [FloatOps F] [Named F]

/-- The table entry that a page window reads: that of sequence `i 0`, `r` pages after the first of step `i 1`. -/
def pageOf (pf : pre0.Contents (Elt F)) (i : grid0.Coords) (r : Fin 8) : BitVec 32 :=
  pf 0 (ix2 ⟨(i 0).val, (i 0).isLt⟩ ⟨8 * (i 1).val + r.val, by have : (i 1).val < 8 := (i 1).isLt; omega⟩)

theorem table_index (i : grid0.Coords) (r : Fin 8) (j : S1x1.Idx) :
    (Rect.unit (s := S32x64) (k0_off1 i (BitVec.ofNat 32 r.val)) S1x1.size (k0_off1_inb i r)).emb j
      = (ix2 ⟨(i 0).val, (i 0).isLt⟩ ⟨8 * (i 1).val + r.val, by have : (i 1).val < 8 := (i 1).isLt; omega⟩ : S32x64.Idx) := by
  funext a
  apply Fin.ext
  have e := k0_off1_eq i r
  have z (x : Fin 1) : x.val = 0 := by omega
  match a with
  | ⟨0, _⟩ =>
    show k0_off1 i (BitVec.ofNat 32 r.val) 0 + 1 * (j 0).val = (i 0).val
    rw [e, z (j 0)]; show (i 0).val + 1 * 0 = _; omega
  | ⟨1, _⟩ =>
    show k0_off1 i (BitVec.ofNat 32 r.val) 1 + 1 * (j 1).val = 8 * (i 1).val + r.val
    rw [e, z (j 1)]; show 8 * (i 1).val + r.val + 1 * 0 = _; omega

theorem table_at (pf : pre0.Contents (Elt F)) (i : grid0.Coords) (r : Fin 8) (h1 : S1x1.numel = 1) :
    pf.at 0 (Rect.unit (s := S32x64) (k0_off1 i (BitVec.ofNat 32 r.val)) S1x1.size (k0_off1_inb i r)) h1 = pageOf pf i r :=
  congrArg (pf 0) (table_index i r _)

theorem index5 (pf : pre0.Contents (Elt F)) (i : grid0.Coords) : cc0_transform_5 k0_off1_inb numel1_S1x1 pf i = ![0, (pageOf pf i 0).toNat, 0, 0] := by
  rw [← table_at pf i 0 numel1_S1x1]; rfl
theorem index6 (pf : pre0.Contents (Elt F)) (i : grid0.Coords) : cc0_transform_6 k0_off1_inb numel1_S1x1 pf i = ![0, (pageOf pf i 1).toNat, 0, 0] := by
  rw [← table_at pf i 1 numel1_S1x1]; rfl
theorem index7 (pf : pre0.Contents (Elt F)) (i : grid0.Coords) : cc0_transform_7 k0_off1_inb numel1_S1x1 pf i = ![0, (pageOf pf i 2).toNat, 0, 0] := by
  rw [← table_at pf i 2 numel1_S1x1]; rfl
theorem index8 (pf : pre0.Contents (Elt F)) (i : grid0.Coords) : cc0_transform_8 k0_off1_inb numel1_S1x1 pf i = ![0, (pageOf pf i 3).toNat, 0, 0] := by
  rw [← table_at pf i 3 numel1_S1x1]; rfl
theorem index9 (pf : pre0.Contents (Elt F)) (i : grid0.Coords) : cc0_transform_9 k0_off1_inb numel1_S1x1 pf i = ![0, (pageOf pf i 4).toNat, 0, 0] := by
  rw [← table_at pf i 4 numel1_S1x1]; rfl
theorem index10 (pf : pre0.Contents (Elt F)) (i : grid0.Coords) : cc0_transform_10 k0_off1_inb numel1_S1x1 pf i = ![0, (pageOf pf i 5).toNat, 0, 0] := by
  rw [← table_at pf i 5 numel1_S1x1]; rfl
theorem index11 (pf : pre0.Contents (Elt F)) (i : grid0.Coords) : cc0_transform_11 k0_off1_inb numel1_S1x1 pf i = ![0, (pageOf pf i 6).toNat, 0, 0] := by
  rw [← table_at pf i 6 numel1_S1x1]; rfl
theorem index12 (pf : pre0.Contents (Elt F)) (i : grid0.Coords) : cc0_transform_12 k0_off1_inb numel1_S1x1 pf i = ![0, (pageOf pf i 7).toNat, 0, 0] := by
  rw [← table_at pf i 7 numel1_S1x1]; rfl
theorem index13 (pf : pre0.Contents (Elt F)) (i : grid0.Coords) : cc0_transform_13 k0_off1_inb numel1_S1x1 pf i = ![0, (pageOf pf i 0).toNat, 0, 0] := by
  rw [← table_at pf i 0 numel1_S1x1]; rfl
theorem index14 (pf : pre0.Contents (Elt F)) (i : grid0.Coords) : cc0_transform_14 k0_off1_inb numel1_S1x1 pf i = ![0, (pageOf pf i 1).toNat, 0, 0] := by
  rw [← table_at pf i 1 numel1_S1x1]; rfl
theorem index15 (pf : pre0.Contents (Elt F)) (i : grid0.Coords) : cc0_transform_15 k0_off1_inb numel1_S1x1 pf i = ![0, (pageOf pf i 2).toNat, 0, 0] := by
  rw [← table_at pf i 2 numel1_S1x1]; rfl
theorem index16 (pf : pre0.Contents (Elt F)) (i : grid0.Coords) : cc0_transform_16 k0_off1_inb numel1_S1x1 pf i = ![0, (pageOf pf i 3).toNat, 0, 0] := by
  rw [← table_at pf i 3 numel1_S1x1]; rfl
theorem index17 (pf : pre0.Contents (Elt F)) (i : grid0.Coords) : cc0_transform_17 k0_off1_inb numel1_S1x1 pf i = ![0, (pageOf pf i 4).toNat, 0, 0] := by
  rw [← table_at pf i 4 numel1_S1x1]; rfl
theorem index18 (pf : pre0.Contents (Elt F)) (i : grid0.Coords) : cc0_transform_18 k0_off1_inb numel1_S1x1 pf i = ![0, (pageOf pf i 5).toNat, 0, 0] := by
  rw [← table_at pf i 5 numel1_S1x1]; rfl
theorem index19 (pf : pre0.Contents (Elt F)) (i : grid0.Coords) : cc0_transform_19 k0_off1_inb numel1_S1x1 pf i = ![0, (pageOf pf i 6).toNat, 0, 0] := by
  rw [← table_at pf i 6 numel1_S1x1]; rfl
theorem index20 (pf : pre0.Contents (Elt F)) (i : grid0.Coords) : cc0_transform_20 k0_off1_inb numel1_S1x1 pf i = ![0, (pageOf pf i 7).toNat, 0, 0] := by
  rw [← table_at pf i 7 numel1_S1x1]; rfl

/-- A block at a page of the pool lies inside it. -/
theorem page_inside (x : BitVec 32) (h : x.toNat < 2560) (a : Fin 4) : ((![0, x.toNat, 0, 0] : Fin 4 → Nat) a + 1) * S1x1x128x256.size a ≤ S2x2560x128x256.size a := by
  match a with
  | ⟨0, _⟩ => show (0 + 1) * 1 ≤ 2; omega
  | ⟨1, _⟩ => show (x.toNat + 1) * 1 ≤ 2560; omega
  | ⟨2, _⟩ => show (0 + 1) * 128 ≤ 128; omega
  | ⟨3, _⟩ => show (0 + 1) * 256 ≤ 256; omega

/-- Where the table's entries lie in the pool, so does every block. -/
theorem ok_of_pages (pf : pre0.Contents (Elt F)) (h : ∀ b p, (show BitVec 32 from pf 0 (ix2 b p)).toNat < 2560) : ok0 (F := F) pf := by
  have k (i : grid0.Coords) (r : Fin 8) : (pageOf pf i r).toNat < 2560 := h _ _
  refine ⟨fun i => ⟨fun a => by rw [index5]; exact page_inside _ (k i 0) a, .inl rfl⟩,
    fun i => ⟨fun a => by rw [index6]; exact page_inside _ (k i 1) a, .inl rfl⟩,
    fun i => ⟨fun a => by rw [index7]; exact page_inside _ (k i 2) a, .inl rfl⟩,
    fun i => ⟨fun a => by rw [index8]; exact page_inside _ (k i 3) a, .inl rfl⟩,
    fun i => ⟨fun a => by rw [index9]; exact page_inside _ (k i 4) a, .inl rfl⟩,
    fun i => ⟨fun a => by rw [index10]; exact page_inside _ (k i 5) a, .inl rfl⟩,
    fun i => ⟨fun a => by rw [index11]; exact page_inside _ (k i 6) a, .inl rfl⟩,
    fun i => ⟨fun a => by rw [index12]; exact page_inside _ (k i 7) a, .inl rfl⟩,
    fun i => ⟨fun a => by rw [index13]; exact page_inside _ (k i 0) a, .inl rfl⟩,
    fun i => ⟨fun a => by rw [index14]; exact page_inside _ (k i 1) a, .inl rfl⟩,
    fun i => ⟨fun a => by rw [index15]; exact page_inside _ (k i 2) a, .inl rfl⟩,
    fun i => ⟨fun a => by rw [index16]; exact page_inside _ (k i 3) a, .inl rfl⟩,
    fun i => ⟨fun a => by rw [index17]; exact page_inside _ (k i 4) a, .inl rfl⟩,
    fun i => ⟨fun a => by rw [index18]; exact page_inside _ (k i 5) a, .inl rfl⟩,
    fun i => ⟨fun a => by rw [index19]; exact page_inside _ (k i 6) a, .inl rfl⟩,
    fun i => ⟨fun a => by rw [index20]; exact page_inside _ (k i 7) a, .inl rfl⟩⟩

variable (m : (ℓ : Loc nD τ sig) → Buf (Elt F) ℓ)

theorem ok_of_args (h : ∀ b p, (show BitVec 32 from m ((0 : Dev nD).tc.loc main_arg6) (ix2 b p)).toNat < 2560) : Ok m := by
  refine ok_of_pages _ fun b p => ?_
  have e : tbl m 0 = m ((0 : Dev nD).tc.loc main_arg6) := V_main_arg6 m 0
  rw [e]; exact h b p

end Cert.KernelIdeal.Attend

end
-- ==== Proof.AttendWindows.lean ====
/- What the paged attention's windows hold at a grid point, in the arguments: point `t` is step `t % 8` of sequence `t / 8`. -/
module
public import proofs.«01_k».proof.Proof.AttendArgs
public import proofs.«01_k».proof.Proof.AttendTable
@[expose] public section
noncomputable section
namespace Cert.KernelIdeal.Attend
open Cert.KernelIdeal.Gen Cert.OnlineSoftmax
open Idealize.ShloMosaic Idealize.ShloMosaic.TcCoe Idealize.ShloMosaic.Tactic

variable (m : (ℓ : Loc nD τ sig) → Buf (Elt Ideal) ℓ) (hO : Ok m)

theorem coord0 (t : Fin grid0.N) : (grid0.coords t 0).val = t.val / 8 := by
  have h : (grid0.coords t 0).val = t.val / 8 % 32 := Pipeline.Grid.coords_val t 0 (by decide) rfl
  have ht : t.val < 256 := lt_of_lt_of_eq t.isLt N_0
  omega

theorem coord1 (t : Fin grid0.N) : (grid0.coords t 1).val = t.val % 8 := by
  have h : (grid0.coords t 1).val = t.val / 1 % 8 := Pipeline.Grid.coords_val t 1 (by decide) rfl
  omega

/-- The sequence of a grid point. -/
def seqOf (t : Fin (cfgM m hO).N) : Fin 32 :=
  ⟨t.val / 8, by have ht : t.val < 256 := lt_of_lt_of_eq t.isLt N_0; omega⟩

theorem small (n : ℕ) (h : n < 2 ^ 32) : (BitVec.ofNat 32 n).toNat = n := by
  rw [BitVec.toNat_ofNat]; exact Nat.mod_eq_of_lt h

theorem block0 (c : Dev nD) (t : Fin (cfgM m hO).N) (y : Fin 64) (z : Fin 256) :
    iblk m hO c 0 t (ix3 0 y z) = V m c main_v40 (ix3 (seqOf m hO t) y z) := by
  unfold iblk
  refine (View.read_apply ..).trans ?_
  show V m c main_v40 _ = V m c main_v40 _
  refine congrArg (V m c main_v40) (funext fun a => Fin.ext ?_)
  have e0 := coord0 t
  have e1 := coord1 t
  have h0 : t.val < 256 := lt_of_lt_of_eq t.isLt N_0
  match a with
  | ⟨0, _⟩ =>
    show cc0_transform_0 (grid0.coords t) 0 * 1 + 1 * 0 = t.val / 8
    show (BitVec.ofNat 32 (grid0.coords t 0).val).toNat * 1 + 1 * 0 = t.val / 8
    rw [small _ (by omega), e0]; omega
  | ⟨1, _⟩ =>
    show cc0_transform_0 (grid0.coords t) 1 * 64 + 1 * y.val = y.val
    show 0 * 64 + 1 * y.val = y.val
    omega
  | ⟨2, _⟩ =>
    show cc0_transform_0 (grid0.coords t) 2 * 256 + 1 * z.val = z.val
    show 0 * 256 + 1 * z.val = z.val
    omega

theorem block1 (c : Dev nD) (t : Fin (cfgM m hO).N) (y : Fin 8) (z : Fin 1024) :
    iblk m hO c 1 t (ix3 0 y z) = V m c main_v19 (ix3 (seqOf m hO t) y ⟨t.val % 8 * 1024 + z.val, by omega⟩) := by
  unfold iblk
  refine (View.read_apply ..).trans ?_
  show V m c main_v19 _ = V m c main_v19 _
  refine congrArg (V m c main_v19) (funext fun a => Fin.ext ?_)
  have e0 := coord0 t
  have e1 := coord1 t
  have h0 : t.val < 256 := lt_of_lt_of_eq t.isLt N_0
  match a with
  | ⟨0, _⟩ =>
    show cc0_transform_1 (grid0.coords t) 0 * 1 + 1 * 0 = t.val / 8
    show (BitVec.ofNat 32 (grid0.coords t 0).val).toNat * 1 + 1 * 0 = t.val / 8
    rw [small _ (by omega), e0]; omega
  | ⟨1, _⟩ =>
    show cc0_transform_1 (grid0.coords t) 1 * 8 + 1 * y.val = y.val
    show 0 * 8 + 1 * y.val = y.val
    omega
  | ⟨2, _⟩ =>
    show cc0_transform_1 (grid0.coords t) 2 * 1024 + 1 * z.val = t.val % 8 * 1024 + z.val
    show (BitVec.ofNat 32 (grid0.coords t 1).val).toNat * 1024 + 1 * z.val = t.val % 8 * 1024 + z.val
    rw [small _ (by omega), e1]; omega

theorem block2 (c : Dev nD) (t : Fin (cfgM m hO).N) (y : Fin 8) (z : Fin 128) :
    iblk m hO c 2 t (ix3 0 y z) = V m c main_v23 (ix3 (seqOf m hO t) y ⟨8192 + z.val, by omega⟩) := by
  unfold iblk
  refine (View.read_apply ..).trans ?_
  show V m c main_v23 _ = V m c main_v23 _
  refine congrArg (V m c main_v23) (funext fun a => Fin.ext ?_)
  have e0 := coord0 t
  have e1 := coord1 t
  have h0 : t.val < 256 := lt_of_lt_of_eq t.isLt N_0
  match a with
  | ⟨0, _⟩ =>
    show cc0_transform_2 (grid0.coords t) 0 * 1 + 1 * 0 = t.val / 8
    show (BitVec.ofNat 32 (grid0.coords t 0).val).toNat * 1 + 1 * 0 = t.val / 8
    rw [small _ (by omega), e0]; omega
  | ⟨1, _⟩ =>
    show cc0_transform_2 (grid0.coords t) 1 * 8 + 1 * y.val = y.val
    show 0 * 8 + 1 * y.val = y.val
    omega
  | ⟨2, _⟩ =>
    show cc0_transform_2 (grid0.coords t) 2 * 128 + 1 * z.val = 8192 + z.val
    show 64 * 128 + 1 * z.val = 8192 + z.val
    omega

theorem block3 (c : Dev nD) (t : Fin (cfgM m hO).N) (y : Fin 128) (z : Fin 256) :
    iblk m hO c 3 t (ix3 0 y z) = V m c main_v42 (ix3 (seqOf m hO t) y z) := by
  unfold iblk
  refine (View.read_apply ..).trans ?_
  show V m c main_v42 _ = V m c main_v42 _
  refine congrArg (V m c main_v42) (funext fun a => Fin.ext ?_)
  have e0 := coord0 t
  have e1 := coord1 t
  have h0 : t.val < 256 := lt_of_lt_of_eq t.isLt N_0
  match a with
  | ⟨0, _⟩ =>
    show cc0_transform_3 (grid0.coords t) 0 * 1 + 1 * 0 = t.val / 8
    show (BitVec.ofNat 32 (grid0.coords t 0).val).toNat * 1 + 1 * 0 = t.val / 8
    rw [small _ (by omega), e0]; omega
  | ⟨1, _⟩ =>
    show cc0_transform_3 (grid0.coords t) 1 * 128 + 1 * y.val = y.val
    show 0 * 128 + 1 * y.val = y.val
    omega
  | ⟨2, _⟩ =>
    show cc0_transform_3 (grid0.coords t) 2 * 256 + 1 * z.val = z.val
    show 0 * 256 + 1 * z.val = z.val
    omega

theorem block4 (c : Dev nD) (t : Fin (cfgM m hO).N) (y : Fin 128) (z : Fin 256) :
    iblk m hO c 4 t (ix3 0 y z) = V m c main_v44 (ix3 (seqOf m hO t) y z) := by
  unfold iblk
  refine (View.read_apply ..).trans ?_
  show V m c main_v44 _ = V m c main_v44 _
  refine congrArg (V m c main_v44) (funext fun a => Fin.ext ?_)
  have e0 := coord0 t
  have e1 := coord1 t
  have h0 : t.val < 256 := lt_of_lt_of_eq t.isLt N_0
  match a with
  | ⟨0, _⟩ =>
    show cc0_transform_4 (grid0.coords t) 0 * 1 + 1 * 0 = t.val / 8
    show (BitVec.ofNat 32 (grid0.coords t 0).val).toNat * 1 + 1 * 0 = t.val / 8
    rw [small _ (by omega), e0]; omega
  | ⟨1, _⟩ =>
    show cc0_transform_4 (grid0.coords t) 1 * 128 + 1 * y.val = y.val
    show 0 * 128 + 1 * y.val = y.val
    omega
  | ⟨2, _⟩ =>
    show cc0_transform_4 (grid0.coords t) 2 * 256 + 1 * z.val = z.val
    show 0 * 256 + 1 * z.val = z.val
    omega

/-- The page number in the table, where the table holds `pg`. -/
theorem pageOf_table (pg : Fin 32 → Fin 64 → Fin 2560) (hpt : ∀ b p, m ((0 : Dev nD).tc.loc main_arg6) (ix2 b p) = BitVec.ofNat 32 (pg b p).val)
    (t : Fin (cfgM m hO).N) (r : Fin 8) : (pageOf (tbl m) (grid0.coords t) r).toNat = (pg (seqOf m hO t) ⟨t.val % 8 * 8 + r.val, by omega⟩).val := by
  have e0 := coord0 t
  have e1 := coord1 t
  have e : tbl m 0 = m ((0 : Dev nD).tc.loc main_arg6) := V_main_arg6 m 0
  unfold pageOf
  rw [e]
  refine (congrArg BitVec.toNat (hpt _ _)).trans ((small _ (by omega)).trans ?_)
  exact congrArg₂ (fun b p => (pg b p).val) (Fin.ext (by show (grid0.coords t 0).val = t.val / 8; exact e0)) (Fin.ext (by show 8 * (grid0.coords t 1).val + r.val = t.val % 8 * 8 + r.val; omega))

/-- A page block of a pool at an index. -/
theorem page_block (i : grid0.Coords) (r : Fin 8) (ix : Fin 4 → ℕ) (h : ix = ![0, (pageOf (tbl m) i r).toNat, 0, 0])
    (hin : ∀ a, (ix a + 1) * S1x1x128x256.size a ≤ S2x2560x128x256.size a) (f : S2x2560x128x256.Idx → EReal) (p : Fin 2560)
    (hp : (pageOf (tbl m) i r).toNat = p.val) (x : Fin 128) (k : Fin 256) :
    f ((Rect.block (s := S2x2560x128x256) S1x1x128x256.size ix hin).emb (ix4 0 0 x k)) = f (ix4 0 p x k) := by
  subst h
  refine congrArg f (funext fun a => Fin.ext ?_)
  match a with
  | ⟨0, _⟩ => rfl
  | ⟨1, _⟩ => show (pageOf (tbl m) i r).toNat * 1 + 1 * 0 = p.val; omega
  | ⟨2, _⟩ => show 0 * 128 + 1 * x.val = x.val; omega
  | ⟨3, _⟩ => show 0 * 256 + 1 * k.val = k.val; omega

variable (pg : Fin 32 → Fin 64 → Fin 2560) (hpt : ∀ b p, m ((0 : Dev nD).tc.loc main_arg6) (ix2 b p) = BitVec.ofNat 32 (pg b p).val)

theorem window5 (c : Dev nD) (t : Fin (cfgM m hO).N) (p : Fin 2560) (hp : (pageOf (tbl m) (grid0.coords t) 0).toNat = p.val) (x : Fin 128) (k : Fin 256) :
    iblk m hO c 5 t (ix4 0 0 x k) = V m c main_v0 (ix4 0 p x k) :=
  page_block m (grid0.coords t) 0 (cc0_transform_5 k0_off1_inb numel1_S1x1 (tbl m) (grid0.coords t)) (index5 _ _)
    (by rw [index5]; exact page_inside _ (by rw [hp]; exact p.isLt)) (V m c main_v0) p hp x k

include hpt in
theorem block5 (c : Dev nD) (t : Fin (cfgM m hO).N) (x : Fin 128) (k : Fin 256) :
    iblk m hO c 5 t (ix4 0 0 x k) = m ((c : Thread nD τ).loc main_arg4) (ix5 0 (pg (seqOf m hO t) ⟨t.val % 8 * 8 + 0, by omega⟩) x ⟨k.val / 64, by omega⟩ ⟨k.val % 64, by omega⟩) :=
  (window5 m hO c t _ (pageOf_table m hO pg hpt t 0) x k).trans (V_v0 m c 0 (pg (seqOf m hO t) ⟨t.val % 8 * 8 + 0, by omega⟩) x k)

theorem window6 (c : Dev nD) (t : Fin (cfgM m hO).N) (p : Fin 2560) (hp : (pageOf (tbl m) (grid0.coords t) 1).toNat = p.val) (x : Fin 128) (k : Fin 256) :
    iblk m hO c 6 t (ix4 0 0 x k) = V m c main_v1 (ix4 0 p x k) :=
  page_block m (grid0.coords t) 1 (cc0_transform_6 k0_off1_inb numel1_S1x1 (tbl m) (grid0.coords t)) (index6 _ _)
    (by rw [index6]; exact page_inside _ (by rw [hp]; exact p.isLt)) (V m c main_v1) p hp x k

include hpt in
theorem block6 (c : Dev nD) (t : Fin (cfgM m hO).N) (x : Fin 128) (k : Fin 256) :
    iblk m hO c 6 t (ix4 0 0 x k) = m ((c : Thread nD τ).loc main_arg4) (ix5 0 (pg (seqOf m hO t) ⟨t.val % 8 * 8 + 1, by omega⟩) x ⟨k.val / 64, by omega⟩ ⟨k.val % 64, by omega⟩) :=
  (window6 m hO c t _ (pageOf_table m hO pg hpt t 1) x k).trans (V_v1 m c 0 (pg (seqOf m hO t) ⟨t.val % 8 * 8 + 1, by omega⟩) x k)

theorem window7 (c : Dev nD) (t : Fin (cfgM m hO).N) (p : Fin 2560) (hp : (pageOf (tbl m) (grid0.coords t) 2).toNat = p.val) (x : Fin 128) (k : Fin 256) :
    iblk m hO c 7 t (ix4 0 0 x k) = V m c main_v2 (ix4 0 p x k) :=
  page_block m (grid0.coords t) 2 (cc0_transform_7 k0_off1_inb numel1_S1x1 (tbl m) (grid0.coords t)) (index7 _ _)
    (by rw [index7]; exact page_inside _ (by rw [hp]; exact p.isLt)) (V m c main_v2) p hp x k

include hpt in
theorem block7 (c : Dev nD) (t : Fin (cfgM m hO).N) (x : Fin 128) (k : Fin 256) :
    iblk m hO c 7 t (ix4 0 0 x k) = m ((c : Thread nD τ).loc main_arg4) (ix5 0 (pg (seqOf m hO t) ⟨t.val % 8 * 8 + 2, by omega⟩) x ⟨k.val / 64, by omega⟩ ⟨k.val % 64, by omega⟩) :=
  (window7 m hO c t _ (pageOf_table m hO pg hpt t 2) x k).trans (V_v2 m c 0 (pg (seqOf m hO t) ⟨t.val % 8 * 8 + 2, by omega⟩) x k)

theorem window8 (c : Dev nD) (t : Fin (cfgM m hO).N) (p : Fin 2560) (hp : (pageOf (tbl m) (grid0.coords t) 3).toNat = p.val) (x : Fin 128) (k : Fin 256) :
    iblk m hO c 8 t (ix4 0 0 x k) = V m c main_v3 (ix4 0 p x k) :=
  page_block m (grid0.coords t) 3 (cc0_transform_8 k0_off1_inb numel1_S1x1 (tbl m) (grid0.coords t)) (index8 _ _)
    (by rw [index8]; exact page_inside _ (by rw [hp]; exact p.isLt)) (V m c main_v3) p hp x k

include hpt in
theorem block8 (c : Dev nD) (t : Fin (cfgM m hO).N) (x : Fin 128) (k : Fin 256) :
    iblk m hO c 8 t (ix4 0 0 x k) = m ((c : Thread nD τ).loc main_arg4) (ix5 0 (pg (seqOf m hO t) ⟨t.val % 8 * 8 + 3, by omega⟩) x ⟨k.val / 64, by omega⟩ ⟨k.val % 64, by omega⟩) :=
  (window8 m hO c t _ (pageOf_table m hO pg hpt t 3) x k).trans (V_v3 m c 0 (pg (seqOf m hO t) ⟨t.val % 8 * 8 + 3, by omega⟩) x k)

theorem window9 (c : Dev nD) (t : Fin (cfgM m hO).N) (p : Fin 2560) (hp : (pageOf (tbl m) (grid0.coords t) 4).toNat = p.val) (x : Fin 128) (k : Fin 256) :
    iblk m hO c 9 t (ix4 0 0 x k) = V m c main_v4 (ix4 0 p x k) :=
  page_block m (grid0.coords t) 4 (cc0_transform_9 k0_off1_inb numel1_S1x1 (tbl m) (grid0.coords t)) (index9 _ _)
    (by rw [index9]; exact page_inside _ (by rw [hp]; exact p.isLt)) (V m c main_v4) p hp x k

include hpt in
theorem block9 (c : Dev nD) (t : Fin (cfgM m hO).N) (x : Fin 128) (k : Fin 256) :
    iblk m hO c 9 t (ix4 0 0 x k) = m ((c : Thread nD τ).loc main_arg4) (ix5 0 (pg (seqOf m hO t) ⟨t.val % 8 * 8 + 4, by omega⟩) x ⟨k.val / 64, by omega⟩ ⟨k.val % 64, by omega⟩) :=
  (window9 m hO c t _ (pageOf_table m hO pg hpt t 4) x k).trans (V_v4 m c 0 (pg (seqOf m hO t) ⟨t.val % 8 * 8 + 4, by omega⟩) x k)

theorem window10 (c : Dev nD) (t : Fin (cfgM m hO).N) (p : Fin 2560) (hp : (pageOf (tbl m) (grid0.coords t) 5).toNat = p.val) (x : Fin 128) (k : Fin 256) :
    iblk m hO c 10 t (ix4 0 0 x k) = V m c main_v5 (ix4 0 p x k) :=
  page_block m (grid0.coords t) 5 (cc0_transform_10 k0_off1_inb numel1_S1x1 (tbl m) (grid0.coords t)) (index10 _ _)
    (by rw [index10]; exact page_inside _ (by rw [hp]; exact p.isLt)) (V m c main_v5) p hp x k

include hpt in
theorem block10 (c : Dev nD) (t : Fin (cfgM m hO).N) (x : Fin 128) (k : Fin 256) :
    iblk m hO c 10 t (ix4 0 0 x k) = m ((c : Thread nD τ).loc main_arg4) (ix5 0 (pg (seqOf m hO t) ⟨t.val % 8 * 8 + 5, by omega⟩) x ⟨k.val / 64, by omega⟩ ⟨k.val % 64, by omega⟩) :=
  (window10 m hO c t _ (pageOf_table m hO pg hpt t 5) x k).trans (V_v5 m c 0 (pg (seqOf m hO t) ⟨t.val % 8 * 8 + 5, by omega⟩) x k)

theorem window11 (c : Dev nD) (t : Fin (cfgM m hO).N) (p : Fin 2560) (hp : (pageOf (tbl m) (grid0.coords t) 6).toNat = p.val) (x : Fin 128) (k : Fin 256) :
    iblk m hO c 11 t (ix4 0 0 x k) = V m c main_v6 (ix4 0 p x k) :=
  page_block m (grid0.coords t) 6 (cc0_transform_11 k0_off1_inb numel1_S1x1 (tbl m) (grid0.coords t)) (index11 _ _)
    (by rw [index11]; exact page_inside _ (by rw [hp]; exact p.isLt)) (V m c main_v6) p hp x k

include hpt in
theorem block11 (c : Dev nD) (t : Fin (cfgM m hO).N) (x : Fin 128) (k : Fin 256) :
    iblk m hO c 11 t (ix4 0 0 x k) = m ((c : Thread nD τ).loc main_arg4) (ix5 0 (pg (seqOf m hO t) ⟨t.val % 8 * 8 + 6, by omega⟩) x ⟨k.val / 64, by omega⟩ ⟨k.val % 64, by omega⟩) :=
  (window11 m hO c t _ (pageOf_table m hO pg hpt t 6) x k).trans (V_v6 m c 0 (pg (seqOf m hO t) ⟨t.val % 8 * 8 + 6, by omega⟩) x k)

theorem window12 (c : Dev nD) (t : Fin (cfgM m hO).N) (p : Fin 2560) (hp : (pageOf (tbl m) (grid0.coords t) 7).toNat = p.val) (x : Fin 128) (k : Fin 256) :
    iblk m hO c 12 t (ix4 0 0 x k) = V m c main_v7 (ix4 0 p x k) :=
  page_block m (grid0.coords t) 7 (cc0_transform_12 k0_off1_inb numel1_S1x1 (tbl m) (grid0.coords t)) (index12 _ _)
    (by rw [index12]; exact page_inside _ (by rw [hp]; exact p.isLt)) (V m c main_v7) p hp x k

include hpt in
theorem block12 (c : Dev nD) (t : Fin (cfgM m hO).N) (x : Fin 128) (k : Fin 256) :
    iblk m hO c 12 t (ix4 0 0 x k) = m ((c : Thread nD τ).loc main_arg4) (ix5 0 (pg (seqOf m hO t) ⟨t.val % 8 * 8 + 7, by omega⟩) x ⟨k.val / 64, by omega⟩ ⟨k.val % 64, by omega⟩) :=
  (window12 m hO c t _ (pageOf_table m hO pg hpt t 7) x k).trans (V_v7 m c 0 (pg (seqOf m hO t) ⟨t.val % 8 * 8 + 7, by omega⟩) x k)

theorem window13 (c : Dev nD) (t : Fin (cfgM m hO).N) (p : Fin 2560) (hp : (pageOf (tbl m) (grid0.coords t) 0).toNat = p.val) (x : Fin 128) (k : Fin 256) :
    iblk m hO c 13 t (ix4 0 0 x k) = V m c main_v8 (ix4 0 p x k) :=
  page_block m (grid0.coords t) 0 (cc0_transform_13 k0_off1_inb numel1_S1x1 (tbl m) (grid0.coords t)) (index13 _ _)
    (by rw [index13]; exact page_inside _ (by rw [hp]; exact p.isLt)) (V m c main_v8) p hp x k

include hpt in
theorem block13 (c : Dev nD) (t : Fin (cfgM m hO).N) (x : Fin 128) (k : Fin 256) :
    iblk m hO c 13 t (ix4 0 0 x k) = m ((c : Thread nD τ).loc main_arg5) (ix5 0 (pg (seqOf m hO t) ⟨t.val % 8 * 8 + 0, by omega⟩) x ⟨k.val / 64, by omega⟩ ⟨k.val % 64, by omega⟩) :=
  (window13 m hO c t _ (pageOf_table m hO pg hpt t 0) x k).trans (V_v8 m c 0 (pg (seqOf m hO t) ⟨t.val % 8 * 8 + 0, by omega⟩) x k)

theorem window14 (c : Dev nD) (t : Fin (cfgM m hO).N) (p : Fin 2560) (hp : (pageOf (tbl m) (grid0.coords t) 1).toNat = p.val) (x : Fin 128) (k : Fin 256) :
    iblk m hO c 14 t (ix4 0 0 x k) = V m c main_v9 (ix4 0 p x k) :=
  page_block m (grid0.coords t) 1 (cc0_transform_14 k0_off1_inb numel1_S1x1 (tbl m) (grid0.coords t)) (index14 _ _)
    (by rw [index14]; exact page_inside _ (by rw [hp]; exact p.isLt)) (V m c main_v9) p hp x k

include hpt in
theorem block14 (c : Dev nD) (t : Fin (cfgM m hO).N) (x : Fin 128) (k : Fin 256) :
    iblk m hO c 14 t (ix4 0 0 x k) = m ((c : Thread nD τ).loc main_arg5) (ix5 0 (pg (seqOf m hO t) ⟨t.val % 8 * 8 + 1, by omega⟩) x ⟨k.val / 64, by omega⟩ ⟨k.val % 64, by omega⟩) :=
  (window14 m hO c t _ (pageOf_table m hO pg hpt t 1) x k).trans (V_v9 m c 0 (pg (seqOf m hO t) ⟨t.val % 8 * 8 + 1, by omega⟩) x k)

theorem window15 (c : Dev nD) (t : Fin (cfgM m hO).N) (p : Fin 2560) (hp : (pageOf (tbl m) (grid0.coords t) 2).toNat = p.val) (x : Fin 128) (k : Fin 256) :
    iblk m hO c 15 t (ix4 0 0 x k) = V m c main_v10 (ix4 0 p x k) :=
  page_block m (grid0.coords t) 2 (cc0_transform_15 k0_off1_inb numel1_S1x1 (tbl m) (grid0.coords t)) (index15 _ _)
    (by rw [index15]; exact page_inside _ (by rw [hp]; exact p.isLt)) (V m c main_v10) p hp x k

include hpt in
theorem block15 (c : Dev nD) (t : Fin (cfgM m hO).N) (x : Fin 128) (k : Fin 256) :
    iblk m hO c 15 t (ix4 0 0 x k) = m ((c : Thread nD τ).loc main_arg5) (ix5 0 (pg (seqOf m hO t) ⟨t.val % 8 * 8 + 2, by omega⟩) x ⟨k.val / 64, by omega⟩ ⟨k.val % 64, by omega⟩) :=
  (window15 m hO c t _ (pageOf_table m hO pg hpt t 2) x k).trans (V_v10 m c 0 (pg (seqOf m hO t) ⟨t.val % 8 * 8 + 2, by omega⟩) x k)

theorem window16 (c : Dev nD) (t : Fin (cfgM m hO).N) (p : Fin 2560) (hp : (pageOf (tbl m) (grid0.coords t) 3).toNat = p.val) (x : Fin 128) (k : Fin 256) :
    iblk m hO c 16 t (ix4 0 0 x k) = V m c main_v11 (ix4 0 p x k) :=
  page_block m (grid0.coords t) 3 (cc0_transform_16 k0_off1_inb numel1_S1x1 (tbl m) (grid0.coords t)) (index16 _ _)
    (by rw [index16]; exact page_inside _ (by rw [hp]; exact p.isLt)) (V m c main_v11) p hp x k

include hpt in
theorem block16 (c : Dev nD) (t : Fin (cfgM m hO).N) (x : Fin 128) (k : Fin 256) :
    iblk m hO c 16 t (ix4 0 0 x k) = m ((c : Thread nD τ).loc main_arg5) (ix5 0 (pg (seqOf m hO t) ⟨t.val % 8 * 8 + 3, by omega⟩) x ⟨k.val / 64, by omega⟩ ⟨k.val % 64, by omega⟩) :=
  (window16 m hO c t _ (pageOf_table m hO pg hpt t 3) x k).trans (V_v11 m c 0 (pg (seqOf m hO t) ⟨t.val % 8 * 8 + 3, by omega⟩) x k)

theorem window17 (c : Dev nD) (t : Fin (cfgM m hO).N) (p : Fin 2560) (hp : (pageOf (tbl m) (grid0.coords t) 4).toNat = p.val) (x : Fin 128) (k : Fin 256) :
    iblk m hO c 17 t (ix4 0 0 x k) = V m c main_v12 (ix4 0 p x k) :=
  page_block m (grid0.coords t) 4 (cc0_transform_17 k0_off1_inb numel1_S1x1 (tbl m) (grid0.coords t)) (index17 _ _)
    (by rw [index17]; exact page_inside _ (by rw [hp]; exact p.isLt)) (V m c main_v12) p hp x k

include hpt in
theorem block17 (c : Dev nD) (t : Fin (cfgM m hO).N) (x : Fin 128) (k : Fin 256) :
    iblk m hO c 17 t (ix4 0 0 x k) = m ((c : Thread nD τ).loc main_arg5) (ix5 0 (pg (seqOf m hO t) ⟨t.val % 8 * 8 + 4, by omega⟩) x ⟨k.val / 64, by omega⟩ ⟨k.val % 64, by omega⟩) :=
  (window17 m hO c t _ (pageOf_table m hO pg hpt t 4) x k).trans (V_v12 m c 0 (pg (seqOf m hO t) ⟨t.val % 8 * 8 + 4, by omega⟩) x k)

theorem window18 (c : Dev nD) (t : Fin (cfgM m hO).N) (p : Fin 2560) (hp : (pageOf (tbl m) (grid0.coords t) 5).toNat = p.val) (x : Fin 128) (k : Fin 256) :
    iblk m hO c 18 t (ix4 0 0 x k) = V m c main_v13 (ix4 0 p x k) :=
  page_block m (grid0.coords t) 5 (cc0_transform_18 k0_off1_inb numel1_S1x1 (tbl m) (grid0.coords t)) (index18 _ _)
    (by rw [index18]; exact page_inside _ (by rw [hp]; exact p.isLt)) (V m c main_v13) p hp x k

include hpt in
theorem block18 (c : Dev nD) (t : Fin (cfgM m hO).N) (x : Fin 128) (k : Fin 256) :
    iblk m hO c 18 t (ix4 0 0 x k) = m ((c : Thread nD τ).loc main_arg5) (ix5 0 (pg (seqOf m hO t) ⟨t.val % 8 * 8 + 5, by omega⟩) x ⟨k.val / 64, by omega⟩ ⟨k.val % 64, by omega⟩) :=
  (window18 m hO c t _ (pageOf_table m hO pg hpt t 5) x k).trans (V_v13 m c 0 (pg (seqOf m hO t) ⟨t.val % 8 * 8 + 5, by omega⟩) x k)

theorem window19 (c : Dev nD) (t : Fin (cfgM m hO).N) (p : Fin 2560) (hp : (pageOf (tbl m) (grid0.coords t) 6).toNat = p.val) (x : Fin 128) (k : Fin 256) :
    iblk m hO c 19 t (ix4 0 0 x k) = V m c main_v14 (ix4 0 p x k) :=
  page_block m (grid0.coords t) 6 (cc0_transform_19 k0_off1_inb numel1_S1x1 (tbl m) (grid0.coords t)) (index19 _ _)
    (by rw [index19]; exact page_inside _ (by rw [hp]; exact p.isLt)) (V m c main_v14) p hp x k

include hpt in
theorem block19 (c : Dev nD) (t : Fin (cfgM m hO).N) (x : Fin 128) (k : Fin 256) :
    iblk m hO c 19 t (ix4 0 0 x k) = m ((c : Thread nD τ).loc main_arg5) (ix5 0 (pg (seqOf m hO t) ⟨t.val % 8 * 8 + 6, by omega⟩) x ⟨k.val / 64, by omega⟩ ⟨k.val % 64, by omega⟩) :=
  (window19 m hO c t _ (pageOf_table m hO pg hpt t 6) x k).trans (V_v14 m c 0 (pg (seqOf m hO t) ⟨t.val % 8 * 8 + 6, by omega⟩) x k)

theorem window20 (c : Dev nD) (t : Fin (cfgM m hO).N) (p : Fin 2560) (hp : (pageOf (tbl m) (grid0.coords t) 7).toNat = p.val) (x : Fin 128) (k : Fin 256) :
    iblk m hO c 20 t (ix4 0 0 x k) = V m c main_v15 (ix4 0 p x k) :=
  page_block m (grid0.coords t) 7 (cc0_transform_20 k0_off1_inb numel1_S1x1 (tbl m) (grid0.coords t)) (index20 _ _)
    (by rw [index20]; exact page_inside _ (by rw [hp]; exact p.isLt)) (V m c main_v15) p hp x k

include hpt in
theorem block20 (c : Dev nD) (t : Fin (cfgM m hO).N) (x : Fin 128) (k : Fin 256) :
    iblk m hO c 20 t (ix4 0 0 x k) = m ((c : Thread nD τ).loc main_arg5) (ix5 0 (pg (seqOf m hO t) ⟨t.val % 8 * 8 + 7, by omega⟩) x ⟨k.val / 64, by omega⟩ ⟨k.val % 64, by omega⟩) :=
  (window20 m hO c t _ (pageOf_table m hO pg hpt t 7) x k).trans (V_v15 m c 0 (pg (seqOf m hO t) ⟨t.val % 8 * 8 + 7, by omega⟩) x k)

end Cert.KernelIdeal.Attend

end
-- ==== Proof.AttendPoint.lean ====
/- What each grid point of the paged attention leaves in its output block and in the scratch, in the words of the body. -/
module
public import proofs.«01_k».proof.Proof.AttendHolds
public import proofs.«01_k».proof.Proof.AttendBlock
public import Idealize.ShloMosaic.Lib.Pipeline.ValueKit.Acc
@[expose] public section
set_option maxRecDepth 16384
noncomputable section
namespace Cert.KernelIdeal.Attend
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] (m : (ℓ : Loc nD τ sig) → Buf (Elt F) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

theorem read_scratch0 (v : Vec F S64x1 .f32) : View.read (Elt F) (View.whole cc0_scratch0) ((Memref.isWhole_whole cc0_scratch0).unread v) = v :=
  (Memref.isWhole_whole cc0_scratch0).read_unread v
theorem read_scratch1 (v : Vec F S64x1 .f32) : View.read (Elt F) (View.whole cc0_scratch1) ((Memref.isWhole_whole cc0_scratch1).unread v) = v :=
  (Memref.isWhole_whole cc0_scratch1).read_unread v
theorem read_scratch2 (v : Vec F S64x256 .f32) : View.read (Elt F) (View.whole cc0_scratch2) ((Memref.isWhole_whole cc0_scratch2).unread v) = v :=
  (Memref.isWhole_whole cc0_scratch2).read_unread v

/-- The scores of the block of keys that point `t` reads. -/
def scoresAt (hO : Ok m) (c : Dev nD) (t : Fin (cfgM m hO).N) : FVec F S64x1024 .f32 :=
  k0_pay33 (k0_pay21 (iblk m hO c 0 t)) (k0_pay25 (iblk m hO c 5 t)) (k0_pay26 (iblk m hO c 6 t)) (k0_pay27 (iblk m hO c 7 t)) (k0_pay28 (iblk m hO c 8 t))
    (k0_pay29 (iblk m hO c 9 t)) (k0_pay30 (iblk m hO c 10 t)) (k0_pay31 (iblk m hO c 11 t)) (iblk m hO c 12 t)

/-- The values of the block. -/
def valuesAt (hO : Ok m) (c : Dev nD) (t : Fin (cfgM m hO).N) : FVec F S1024x256 .f32 :=
  k0_pay32 (iblk m hO c 13 t) (iblk m hO c 14 t) (iblk m hO c 15 t) (iblk m hO c 16 t) (iblk m hO c 17 t) (iblk m hO c 18 t) (iblk m hO c 19 t) (iblk m hO c 20 t)

theorem read0 (hO : Ok m) (c : Dev nD) (t : Fin (cfgM m hO).N) : View.read (Elt F) (ms0_0 m hO t).view ((hs0_0 m hO t).unread (iblk m hO c 0 t)) = iblk m hO c 0 t :=
  (hs0_0 m hO t).read_unread _
theorem read1 (hO : Ok m) (c : Dev nD) (t : Fin (cfgM m hO).N) : View.read (Elt F) (ms0_1 m hO t).view ((hs0_1 m hO t).unread (iblk m hO c 1 t)) = iblk m hO c 1 t :=
  (hs0_1 m hO t).read_unread _
theorem read2 (hO : Ok m) (c : Dev nD) (t : Fin (cfgM m hO).N) : View.read (Elt F) (ms0_2 m hO t).view ((hs0_2 m hO t).unread (iblk m hO c 2 t)) = iblk m hO c 2 t :=
  (hs0_2 m hO t).read_unread _
theorem read3 (hO : Ok m) (c : Dev nD) (t : Fin (cfgM m hO).N) : View.read (Elt F) (ms0_3 m hO t).view ((hs0_3 m hO t).unread (iblk m hO c 3 t)) = iblk m hO c 3 t :=
  (hs0_3 m hO t).read_unread _
theorem read4 (hO : Ok m) (c : Dev nD) (t : Fin (cfgM m hO).N) : View.read (Elt F) (ms0_4 m hO t).view ((hs0_4 m hO t).unread (iblk m hO c 4 t)) = iblk m hO c 4 t :=
  (hs0_4 m hO t).read_unread _
theorem read5 (hO : Ok m) (c : Dev nD) (t : Fin (cfgM m hO).N) : View.read (Elt F) (ms0_5 m hO t).view ((hs0_5 m hO t).unread (iblk m hO c 5 t)) = iblk m hO c 5 t :=
  (hs0_5 m hO t).read_unread _
theorem read6 (hO : Ok m) (c : Dev nD) (t : Fin (cfgM m hO).N) : View.read (Elt F) (ms0_6 m hO t).view ((hs0_6 m hO t).unread (iblk m hO c 6 t)) = iblk m hO c 6 t :=
  (hs0_6 m hO t).read_unread _
theorem read7 (hO : Ok m) (c : Dev nD) (t : Fin (cfgM m hO).N) : View.read (Elt F) (ms0_7 m hO t).view ((hs0_7 m hO t).unread (iblk m hO c 7 t)) = iblk m hO c 7 t :=
  (hs0_7 m hO t).read_unread _
theorem read8 (hO : Ok m) (c : Dev nD) (t : Fin (cfgM m hO).N) : View.read (Elt F) (ms0_8 m hO t).view ((hs0_8 m hO t).unread (iblk m hO c 8 t)) = iblk m hO c 8 t :=
  (hs0_8 m hO t).read_unread _
theorem read9 (hO : Ok m) (c : Dev nD) (t : Fin (cfgM m hO).N) : View.read (Elt F) (ms0_9 m hO t).view ((hs0_9 m hO t).unread (iblk m hO c 9 t)) = iblk m hO c 9 t :=
  (hs0_9 m hO t).read_unread _
theorem read10 (hO : Ok m) (c : Dev nD) (t : Fin (cfgM m hO).N) : View.read (Elt F) (ms0_10 m hO t).view ((hs0_10 m hO t).unread (iblk m hO c 10 t)) = iblk m hO c 10 t :=
  (hs0_10 m hO t).read_unread _
theorem read11 (hO : Ok m) (c : Dev nD) (t : Fin (cfgM m hO).N) : View.read (Elt F) (ms0_11 m hO t).view ((hs0_11 m hO t).unread (iblk m hO c 11 t)) = iblk m hO c 11 t :=
  (hs0_11 m hO t).read_unread _
theorem read12 (hO : Ok m) (c : Dev nD) (t : Fin (cfgM m hO).N) : View.read (Elt F) (ms0_12 m hO t).view ((hs0_12 m hO t).unread (iblk m hO c 12 t)) = iblk m hO c 12 t :=
  (hs0_12 m hO t).read_unread _
theorem read13 (hO : Ok m) (c : Dev nD) (t : Fin (cfgM m hO).N) : View.read (Elt F) (ms0_13 m hO t).view ((hs0_13 m hO t).unread (iblk m hO c 13 t)) = iblk m hO c 13 t :=
  (hs0_13 m hO t).read_unread _
theorem read14 (hO : Ok m) (c : Dev nD) (t : Fin (cfgM m hO).N) : View.read (Elt F) (ms0_14 m hO t).view ((hs0_14 m hO t).unread (iblk m hO c 14 t)) = iblk m hO c 14 t :=
  (hs0_14 m hO t).read_unread _
theorem read15 (hO : Ok m) (c : Dev nD) (t : Fin (cfgM m hO).N) : View.read (Elt F) (ms0_15 m hO t).view ((hs0_15 m hO t).unread (iblk m hO c 15 t)) = iblk m hO c 15 t :=
  (hs0_15 m hO t).read_unread _
theorem read16 (hO : Ok m) (c : Dev nD) (t : Fin (cfgM m hO).N) : View.read (Elt F) (ms0_16 m hO t).view ((hs0_16 m hO t).unread (iblk m hO c 16 t)) = iblk m hO c 16 t :=
  (hs0_16 m hO t).read_unread _
theorem read17 (hO : Ok m) (c : Dev nD) (t : Fin (cfgM m hO).N) : View.read (Elt F) (ms0_17 m hO t).view ((hs0_17 m hO t).unread (iblk m hO c 17 t)) = iblk m hO c 17 t :=
  (hs0_17 m hO t).read_unread _
theorem read18 (hO : Ok m) (c : Dev nD) (t : Fin (cfgM m hO).N) : View.read (Elt F) (ms0_18 m hO t).view ((hs0_18 m hO t).unread (iblk m hO c 18 t)) = iblk m hO c 18 t :=
  (hs0_18 m hO t).read_unread _
theorem read19 (hO : Ok m) (c : Dev nD) (t : Fin (cfgM m hO).N) : View.read (Elt F) (ms0_19 m hO t).view ((hs0_19 m hO t).unread (iblk m hO c 19 t)) = iblk m hO c 19 t :=
  (hs0_19 m hO t).read_unread _
theorem read20 (hO : Ok m) (c : Dev nD) (t : Fin (cfgM m hO).N) : View.read (Elt F) (ms0_20 m hO t).view ((hs0_20 m hO t).unread (iblk m hO c 20 t)) = iblk m hO c 20 t :=
  (hs0_20 m hO t).read_unread _
/-- The row maxima after a first step. -/
theorem pointA_max (hO : Ok m) (c : Dev nD) (t : Fin (cfgM m hO).N) (h0 : t.val % 8 = 0) (h1 : ¬t.val % 8 = 7) :
    (pointA m hO c t h0 h1).2.1 = k0_pay7 (scoresAt m hO c t) (k0_pay34 (iblk m hO c 1 t)) k0_pay22 := by
  unfold pointA
  dsimp only
  unfold sout0_A_0
  rw [View.read_writes_eq_canon _ _ _ (fun y => by apply scover0_A_0)]
  unfold kernelRun0_A
  dsimp only
  sl_unfold_words
  rw [View.canon_cons_unit_zero (S := S64x1) zeros2]
  simp only [View.readCov_unit_zero (S := S64x1) _ zeros2, View.readCov_unit_zero (S := S64x256) _ zeros2]
  simp only [View.readAt_eq_ld, View.ld_unit_zero (S := S64x1) zeros2, View.ld_unit_zero (S := S64x256) zeros2, View.ld_unit_zero (S := S1x64x256) zeros3,
    View.ld_unit_zero (S := S1x8x1024) zeros3, View.ld_unit_zero (S := S1x8x128) zeros3, View.ld_unit_zero (S := S1x128x256) zeros3, View.ld_unit_zero (S := S1x1x128x256) zeros4]
  simp only [read_scratch0, read_scratch1, read_scratch2, read0 m hO c t, read1 m hO c t, read2 m hO c t, read3 m hO c t, read4 m hO c t, read5 m hO c t, read6 m hO c t, read7 m hO c t, read8 m hO c t, read9 m hO c t, read10 m hO c t, read11 m hO c t, read12 m hO c t, read13 m hO c t, read14 m hO c t, read15 m hO c t, read16 m hO c t, read17 m hO c t, read18 m hO c t, read19 m hO c t, read20 m hO c t]
  rfl

/-- The denominators after a first step. -/
theorem pointA_den (hO : Ok m) (c : Dev nD) (t : Fin (cfgM m hO).N) (h0 : t.val % 8 = 0) (h1 : ¬t.val % 8 = 7) :
    (pointA m hO c t h0 h1).2.2.1 = k0_pay5 (scoresAt m hO c t) (k0_pay34 (iblk m hO c 1 t)) k0_pay22 k0_pay23 := by
  unfold pointA
  dsimp only
  unfold sout0_A_1
  rw [View.read_writes_eq_canon _ _ _ (fun y => by apply scover0_A_1)]
  unfold kernelRun0_A
  dsimp only
  sl_unfold_words
  rw [View.canon_cons_unit_zero (S := S64x1) zeros2]
  simp only [View.readCov_unit_zero (S := S64x1) _ zeros2, View.readCov_unit_zero (S := S64x256) _ zeros2]
  simp only [View.readAt_eq_ld, View.ld_unit_zero (S := S64x1) zeros2, View.ld_unit_zero (S := S64x256) zeros2, View.ld_unit_zero (S := S1x64x256) zeros3,
    View.ld_unit_zero (S := S1x8x1024) zeros3, View.ld_unit_zero (S := S1x8x128) zeros3, View.ld_unit_zero (S := S1x128x256) zeros3, View.ld_unit_zero (S := S1x1x128x256) zeros4]
  simp only [read_scratch0, read_scratch1, read_scratch2, read0 m hO c t, read1 m hO c t, read2 m hO c t, read3 m hO c t, read4 m hO c t, read5 m hO c t, read6 m hO c t, read7 m hO c t, read8 m hO c t, read9 m hO c t, read10 m hO c t, read11 m hO c t, read12 m hO c t, read13 m hO c t, read14 m hO c t, read15 m hO c t, read16 m hO c t, read17 m hO c t, read18 m hO c t, read19 m hO c t, read20 m hO c t]
  rfl

/-- The numerators after a first step. -/
theorem pointA_num (hO : Ok m) (c : Dev nD) (t : Fin (cfgM m hO).N) (h0 : t.val % 8 = 0) (h1 : ¬t.val % 8 = 7) :
    (pointA m hO c t h0 h1).2.2.2 = k0_pay6 (valuesAt m hO c t) (scoresAt m hO c t) (k0_pay34 (iblk m hO c 1 t)) k0_pay22 k0_pay24 := by
  unfold pointA
  dsimp only
  unfold sout0_A_2
  rw [View.read_writes_eq_canon _ _ _ (fun y => by apply scover0_A_2)]
  unfold kernelRun0_A
  dsimp only
  sl_unfold_words
  rw [View.canon_cons_unit_zero (S := S64x256) zeros2]
  simp only [View.readCov_unit_zero (S := S64x1) _ zeros2, View.readCov_unit_zero (S := S64x256) _ zeros2]
  simp only [View.readAt_eq_ld, View.ld_unit_zero (S := S64x1) zeros2, View.ld_unit_zero (S := S64x256) zeros2, View.ld_unit_zero (S := S1x64x256) zeros3,
    View.ld_unit_zero (S := S1x8x1024) zeros3, View.ld_unit_zero (S := S1x8x128) zeros3, View.ld_unit_zero (S := S1x128x256) zeros3, View.ld_unit_zero (S := S1x1x128x256) zeros4]
  simp only [read_scratch0, read_scratch1, read_scratch2, read0 m hO c t, read1 m hO c t, read2 m hO c t, read3 m hO c t, read4 m hO c t, read5 m hO c t, read6 m hO c t, read7 m hO c t, read8 m hO c t, read9 m hO c t, read10 m hO c t, read11 m hO c t, read12 m hO c t, read13 m hO c t, read14 m hO c t, read15 m hO c t, read16 m hO c t, read17 m hO c t, read18 m hO c t, read19 m hO c t, read20 m hO c t]
  rfl

/-- The row maxima after a middle step. -/
theorem pointB_max (hO : Ok m) (c : Dev nD) (t : Fin (cfgM m hO).N) (h0 : ¬t.val % 8 = 0) (h1 : ¬t.val % 8 = 7) (xs : Vec F S1x16x256 .f32 × Vec F S64x1 .f32 × Vec F S64x1 .f32 × Vec F S64x256 .f32) :
    (pointB m hO c t h0 h1 xs).2.1 = k0_pay7 (scoresAt m hO c t) (k0_pay34 (iblk m hO c 1 t)) xs.2.1 := by
  unfold pointB
  dsimp only
  unfold sout0_B_0
  rw [View.read_writes_eq_canon _ _ _ (fun y => by apply scover0_B_0)]
  unfold kernelRun0_B
  dsimp only
  sl_unfold_words
  rw [View.canon_unit_zero (S := S64x1) zeros2]
  simp only [View.readAt_eq_ld, View.ld_unit_zero (S := S64x1) zeros2, View.ld_unit_zero (S := S64x256) zeros2, View.ld_unit_zero (S := S1x64x256) zeros3,
    View.ld_unit_zero (S := S1x8x1024) zeros3, View.ld_unit_zero (S := S1x8x128) zeros3, View.ld_unit_zero (S := S1x128x256) zeros3, View.ld_unit_zero (S := S1x1x128x256) zeros4]
  simp only [read_scratch0, read_scratch1, read_scratch2, read0 m hO c t, read1 m hO c t, read2 m hO c t, read3 m hO c t, read4 m hO c t, read5 m hO c t, read6 m hO c t, read7 m hO c t, read8 m hO c t, read9 m hO c t, read10 m hO c t, read11 m hO c t, read12 m hO c t, read13 m hO c t, read14 m hO c t, read15 m hO c t, read16 m hO c t, read17 m hO c t, read18 m hO c t, read19 m hO c t, read20 m hO c t]
  rfl

/-- The denominators after a middle step. -/
theorem pointB_den (hO : Ok m) (c : Dev nD) (t : Fin (cfgM m hO).N) (h0 : ¬t.val % 8 = 0) (h1 : ¬t.val % 8 = 7) (xs : Vec F S1x16x256 .f32 × Vec F S64x1 .f32 × Vec F S64x1 .f32 × Vec F S64x256 .f32) :
    (pointB m hO c t h0 h1 xs).2.2.1 = k0_pay5 (scoresAt m hO c t) (k0_pay34 (iblk m hO c 1 t)) xs.2.1 xs.2.2.1 := by
  unfold pointB
  dsimp only
  unfold sout0_B_1
  rw [View.read_writes_eq_canon _ _ _ (fun y => by apply scover0_B_1)]
  unfold kernelRun0_B
  dsimp only
  sl_unfold_words
  rw [View.canon_unit_zero (S := S64x1) zeros2]
  simp only [View.readAt_eq_ld, View.ld_unit_zero (S := S64x1) zeros2, View.ld_unit_zero (S := S64x256) zeros2, View.ld_unit_zero (S := S1x64x256) zeros3,
    View.ld_unit_zero (S := S1x8x1024) zeros3, View.ld_unit_zero (S := S1x8x128) zeros3, View.ld_unit_zero (S := S1x128x256) zeros3, View.ld_unit_zero (S := S1x1x128x256) zeros4]
  simp only [read_scratch0, read_scratch1, read_scratch2, read0 m hO c t, read1 m hO c t, read2 m hO c t, read3 m hO c t, read4 m hO c t, read5 m hO c t, read6 m hO c t, read7 m hO c t, read8 m hO c t, read9 m hO c t, read10 m hO c t, read11 m hO c t, read12 m hO c t, read13 m hO c t, read14 m hO c t, read15 m hO c t, read16 m hO c t, read17 m hO c t, read18 m hO c t, read19 m hO c t, read20 m hO c t]
  rfl

/-- The numerators after a middle step. -/
theorem pointB_num (hO : Ok m) (c : Dev nD) (t : Fin (cfgM m hO).N) (h0 : ¬t.val % 8 = 0) (h1 : ¬t.val % 8 = 7) (xs : Vec F S1x16x256 .f32 × Vec F S64x1 .f32 × Vec F S64x1 .f32 × Vec F S64x256 .f32) :
    (pointB m hO c t h0 h1 xs).2.2.2 = k0_pay6 (valuesAt m hO c t) (scoresAt m hO c t) (k0_pay34 (iblk m hO c 1 t)) xs.2.1 xs.2.2.2 := by
  unfold pointB
  dsimp only
  unfold sout0_B_2
  rw [View.read_writes_eq_canon _ _ _ (fun y => by apply scover0_B_2)]
  unfold kernelRun0_B
  dsimp only
  sl_unfold_words
  rw [View.canon_unit_zero (S := S64x256) zeros2]
  simp only [View.readAt_eq_ld, View.ld_unit_zero (S := S64x1) zeros2, View.ld_unit_zero (S := S64x256) zeros2, View.ld_unit_zero (S := S1x64x256) zeros3,
    View.ld_unit_zero (S := S1x8x1024) zeros3, View.ld_unit_zero (S := S1x8x128) zeros3, View.ld_unit_zero (S := S1x128x256) zeros3, View.ld_unit_zero (S := S1x1x128x256) zeros4]
  simp only [read_scratch0, read_scratch1, read_scratch2, read0 m hO c t, read1 m hO c t, read2 m hO c t, read3 m hO c t, read4 m hO c t, read5 m hO c t, read6 m hO c t, read7 m hO c t, read8 m hO c t, read9 m hO c t, read10 m hO c t, read11 m hO c t, read12 m hO c t, read13 m hO c t, read14 m hO c t, read15 m hO c t, read16 m hO c t, read17 m hO c t, read18 m hO c t, read19 m hO c t, read20 m hO c t]
  rfl

/-- The denominators after a sequence's last step, the new tokens' keys included, over the scratch `xs` of the point before. -/
def lastDen (hO : Ok m) (c : Dev nD) (t : Fin (cfgM m hO).N) (xs : Vec F S1x16x256 .f32 × Vec F S64x1 .f32 × Vec F S64x1 .f32 × Vec F S64x256 .f32) : FVec F S64x1 .f32 :=
  k0_pay13 (k0_pay21 (iblk m hO c 0 t)) (iblk m hO c 3 t) (iblk m hO c 2 t) (k0_pay7 (scoresAt m hO c t) (k0_pay34 (iblk m hO c 1 t)) xs.2.1) (k0_pay5 (scoresAt m hO c t) (k0_pay34 (iblk m hO c 1 t)) xs.2.1 xs.2.2.1)

/-- The numerators after a sequence's last step. -/
def lastNum (hO : Ok m) (c : Dev nD) (t : Fin (cfgM m hO).N) (xs : Vec F S1x16x256 .f32 × Vec F S64x1 .f32 × Vec F S64x1 .f32 × Vec F S64x256 .f32) : FVec F S64x256 .f32 :=
  k0_pay15 (k0_pay14 (k0_pay21 (iblk m hO c 0 t)) (iblk m hO c 3 t) (iblk m hO c 4 t) (iblk m hO c 2 t) (k0_pay7 (scoresAt m hO c t) (k0_pay34 (iblk m hO c 1 t)) xs.2.1) (k0_pay6 (valuesAt m hO c t) (scoresAt m hO c t) (k0_pay34 (iblk m hO c 1 t)) xs.2.1 xs.2.2.2))

/-- The output block after a last step. -/
theorem pointC_out (hO : Ok m) (c : Dev nD) (t : Fin (cfgM m hO).N) (h0 : ¬t.val % 8 = 0) (h1 : t.val % 8 = 7) (xs : Vec F S1x16x256 .f32 × Vec F S64x1 .f32 × Vec F S64x1 .f32 × Vec F S64x256 .f32) :
    (pointC m hO c t h0 h1 xs).1 = k0_pay8 (k0_pay17 (lastNum m hO c t xs) (lastDen m hO c t xs)) k0_pay18 (k0_pay19 (lastNum m hO c t xs) (lastDen m hO c t xs)) k0_pay20 := by
  unfold pointC
  dsimp only
  unfold out0_C_21
  rw [View.read_writes_eq_canon _ _ _ (fun y => by apply cover0_C_21)]
  unfold kernelRun0_C
  dsimp only
  sl_unfold_words
  rw [View.canon_unit_zero (S := S1x16x256) zeros3]
  simp only [View.readCov_cons_unit_lit' (S := S64x1) _ _ _ _ _ (fun a => congrFun zeros2 a) (fun a => congrFun zeros2 a),
    View.readCov_cons_unit_lit' (S := S64x256) _ _ _ _ _ (fun a => congrFun zeros2 a) (fun a => congrFun zeros2 a)]
  simp only [View.readAt_eq_ld, View.ld_unit_zero (S := S64x1) zeros2, View.ld_unit_zero (S := S64x256) zeros2, View.ld_unit_zero (S := S1x64x256) zeros3,
    View.ld_unit_zero (S := S1x8x1024) zeros3, View.ld_unit_zero (S := S1x8x128) zeros3, View.ld_unit_zero (S := S1x128x256) zeros3, View.ld_unit_zero (S := S1x1x128x256) zeros4]
  simp only [read_scratch0, read_scratch1, read_scratch2, read0 m hO c t, read1 m hO c t, read2 m hO c t, read3 m hO c t, read4 m hO c t, read5 m hO c t, read6 m hO c t, read7 m hO c t, read8 m hO c t, read9 m hO c t, read10 m hO c t, read11 m hO c t, read12 m hO c t, read13 m hO c t, read14 m hO c t, read15 m hO c t, read16 m hO c t, read17 m hO c t, read18 m hO c t, read19 m hO c t, read20 m hO c t]
  rfl

end Cert.KernelIdeal.Attend

end
-- ==== Proof.AttendArray.lean ====
/- What the paged attention's scratch and output hold: after step `j` of a sequence the scratch holds the softmax over the
   first `1024 (j + 1)` keys, and after its last step the output holds the softmax over all of them, the new tokens' included. -/
module
public import proofs.«01_k».proof.Proof.AttendRows
public import proofs.«01_k».proof.Proof.AttendWindows
public import proofs.«01_k».proof.Proof.AttendPoint
@[expose] public section
noncomputable section
namespace Cert.KernelIdeal.Attend
open Cert.KernelIdeal.Gen Cert.OnlineSoftmax Cert.Attend
open Idealize.ShloMosaic Idealize.ShloMosaic.TcCoe Idealize.ShloMosaic.Tactic

variable (m : (ℓ : Loc nD τ sig) → Buf (Elt Ideal) ℓ) (hO : Ok m)

/-- The query rows at a grid point. -/
def queryBlock (c : Dev nD) (t : Fin (cfgM m hO).N) : FVec Ideal S1x64x256 .bf16 := iblk m hO c 0 t

/-- The mask of the pages' positions. -/
def maskBlock (c : Dev nD) (t : Fin (cfgM m hO).N) : FVec Ideal S1x8x1024 .f32 := iblk m hO c 1 t

/-- The mask of the new tokens. -/
def newMask (c : Dev nD) (t : Fin (cfgM m hO).N) : FVec Ideal S1x8x128 .f32 := iblk m hO c 2 t

/-- The new tokens' keys. -/
def newKeys (c : Dev nD) (t : Fin (cfgM m hO).N) : FVec Ideal S1x128x256 .f32 := iblk m hO c 3 t

/-- The new tokens' values. -/
def newValues (c : Dev nD) (t : Fin (cfgM m hO).N) : FVec Ideal S1x128x256 .f32 := iblk m hO c 4 t

/-- The eight pages of keys at a grid point. -/
def keyPages (c : Dev nD) (t : Fin (cfgM m hO).N) : Fin 8 → Vec Ideal S1x1x128x256 .f32
  | 0 => iblk m hO c 5 t
  | 1 => iblk m hO c 6 t
  | 2 => iblk m hO c 7 t
  | 3 => iblk m hO c 8 t
  | 4 => iblk m hO c 9 t
  | 5 => iblk m hO c 10 t
  | 6 => iblk m hO c 11 t
  | 7 => iblk m hO c 12 t

/-- The eight pages of values. -/
def valuePages (c : Dev nD) (t : Fin (cfgM m hO).N) : Fin 8 → Vec Ideal S1x1x128x256 .f32
  | 0 => iblk m hO c 13 t
  | 1 => iblk m hO c 14 t
  | 2 => iblk m hO c 15 t
  | 3 => iblk m hO c 16 t
  | 4 => iblk m hO c 17 t
  | 5 => iblk m hO c 18 t
  | 6 => iblk m hO c 19 t
  | 7 => iblk m hO c 20 t

variable (c : Dev nD) (q : FVec Ideal S32x8x8x64 .f32) (k v : FVec Ideal S32x8x4x64 .f32) (sel : IVec S32x8x8200 32) (ck cv : FVec Ideal S2x2560x128x4x64 .f32)
  (pg : Fin 32 → Fin 64 → Fin 2560)
  (hq : m ((c : Thread nD τ).loc main_arg0) = q) (hk : m ((c : Thread nD τ).loc main_arg1) = k) (hv : m ((c : Thread nD τ).loc main_arg2) = v)
  (hsel : m ((c : Thread nD τ).loc main_arg3) = sel) (hck : m ((c : Thread nD τ).loc main_arg4) = ck) (hcv : m ((c : Thread nD τ).loc main_arg5) = cv)
  (hpt : ∀ b p, m ((0 : Dev nD).tc.loc main_arg6) (ix2 b p) = BitVec.ofNat 32 (pg b p).val)

include hck hpt in
theorem keyPages_at (t : Fin (cfgM m hO).N) (i : Fin 8) (x : Fin 128) (z : Fin 256) :
    keyPages m hO c t i (ix4 0 0 x z) = ck (ix5 0 (pg (seqOf m hO t) ⟨t.val % 8 * 8 + i.val, by omega⟩) x ⟨z.val / 64, by omega⟩ ⟨z.val % 64, by omega⟩) := by
  subst hck
  match i with
  | 0 => exact block5 m hO pg hpt c t x z
  | 1 => exact block6 m hO pg hpt c t x z
  | 2 => exact block7 m hO pg hpt c t x z
  | 3 => exact block8 m hO pg hpt c t x z
  | 4 => exact block9 m hO pg hpt c t x z
  | 5 => exact block10 m hO pg hpt c t x z
  | 6 => exact block11 m hO pg hpt c t x z
  | 7 => exact block12 m hO pg hpt c t x z

include hcv hpt in
theorem valuePages_at (t : Fin (cfgM m hO).N) (i : Fin 8) (x : Fin 128) (z : Fin 256) :
    valuePages m hO c t i (ix4 0 0 x z) = cv (ix5 0 (pg (seqOf m hO t) ⟨t.val % 8 * 8 + i.val, by omega⟩) x ⟨z.val / 64, by omega⟩ ⟨z.val % 64, by omega⟩) := by
  subst hcv
  match i with
  | 0 => exact block13 m hO pg hpt c t x z
  | 1 => exact block14 m hO pg hpt c t x z
  | 2 => exact block15 m hO pg hpt c t x z
  | 3 => exact block16 m hO pg hpt c t x z
  | 4 => exact block17 m hO pg hpt c t x z
  | 5 => exact block18 m hO pg hpt c t x z
  | 6 => exact block19 m hO pg hpt c t x z
  | 7 => exact block20 m hO pg hpt c t x z

include hq in
/-- A query row at a grid point. -/
theorem query_at (t : Fin (cfgM m hO).N) (r : Fin 64) (x : Fin 256) :
    queryBlock m hO c t (ix3 0 r x) = if x.val / 64 = r.val / 16 then
      q (ix4 (seqOf m hO t) ⟨r.val % 8, by omega⟩ ⟨r.val / 16 * 2 + r.val / 8 % 2, by omega⟩ ⟨x.val % 64, by omega⟩) * ((1 / 8 : ℝ) : EReal) else (0 : EReal) :=
  (block0 m hO c t r x).trans (V_queries m c q hq (seqOf m hO t) r x)

include hq hsel hck hpt in
theorem scores_at (t : Fin (cfgM m hO).N) (r : Fin 64) (y : Fin 1024) :
    (∑ x : Fin 256, queryBlock m hO c t (ix3 0 r x) * paged (keyPages m hO c t) y x)
      + maskBlock m hO c t (ix3 0 ⟨r.val % 8, by omega⟩ y)
      = rowLogits q k sel ck pg (seqOf m hO t) r (t.val % 8 * 1024 + y.val) := by
  have ey (x : Fin 256) : paged (keyPages m hO c t) y x = entry (fun e o n d => ck (ix5 0 e o n d)) (fun b t n d => k (ix4 b t n d)) pg (seqOf m hO t) ⟨x.val / 64, by omega⟩ ⟨x.val % 64, by omega⟩ (t.val % 8 * 1024 + y.val) := by
    rw [entry_past _ _ _ ⟨t.val % 8 * 8 + y.val / 128, by omega⟩ ⟨y.val % 128, by omega⟩ (by dsimp only; omega)]
    exact keyPages_at m hO c ck pg hck hpt t _ _ x
  have eb : maskBlock m hO c t (ix3 0 ⟨r.val % 8, by omega⟩ y) = if sel (ix3 (seqOf m hO t) ⟨r.val % 8, by omega⟩ ⟨t.val % 8 * 1024 + y.val, by omega⟩) = 0#32 then (⊥ : EReal) else 0 := by
    subst hsel
    exact (block1 m hO c t _ y).trans (V_mask m c _ _ _)
  refine Eq.trans ?_ (logit_row q k sel ck pg (seqOf m hO t) r (t.val % 8 * 1024 + y.val) (by omega) _ (fun x => rfl))
  exact congrArg₂ (· + ·) (Finset.sum_congr rfl fun x _ => congrArg₂ (· * ·) (query_at m hO c q hq t r x) (ey x)) eb

include hcv hpt in
theorem values_at (t : Fin (cfgM m hO).N) (y : Fin 1024) (x : Fin 256) :
    paged (valuePages m hO c t) y x = colValues v cv pg (seqOf m hO t) x (t.val % 8 * 1024 + y.val) := by
  unfold colValues
  rw [entry_past _ _ _ ⟨t.val % 8 * 8 + y.val / 128, by omega⟩ ⟨y.val % 128, by omega⟩ (by dsimp only; omega)]
  exact valuePages_at m hO c cv pg hcv hpt t _ _ x

include hq hsel hck hcv hpt in
/-- One step: the running softmax over the keys before the step's pages becomes the one over those pages too. -/
theorem step (t : Fin (cfgM m hO).N) {M L : Vec Ideal S64x1 .f32} {A : Vec Ideal S64x256 .f32}
    (h : Held (rowLogits q k sel ck pg (seqOf m hO t)) (colValues v cv pg (seqOf m hO t)) (t.val % 8 * 1024) M L A) :
    Held (rowLogits q k sel ck pg (seqOf m hO t)) (colValues v cv pg (seqOf m hO t)) (t.val % 8 * 1024 + 1024)
      (k0_pay7 (scoresAt m hO c t) (k0_pay34 (iblk m hO c 1 t)) M) (k0_pay5 (scoresAt m hO c t) (k0_pay34 (iblk m hO c 1 t)) M L)
      (k0_pay6 (valuesAt m hO c t) (scoresAt m hO c t) (k0_pay34 (iblk m hO c 1 t)) M A) :=
  held_block (q := queryBlock m hO c t) (kp := keyPages m hO c t) (vp := valuePages m hO c t) (b := maskBlock m hO c t)
    (scores_at m hO c q k sel ck pg hq hsel hck hpt t) (values_at m hO c v cv pg hcv hpt t) h

/-- A masked score is `⊥` whatever the product. -/
theorem add_masked (a : EReal) {b : EReal} (h : b = ⊥) : a + b = ⊥ := by rw [h, EReal.add_bot]

include hq hk hsel in
theorem scores_new (t : Fin (cfgM m hO).N) (r : Fin 64) (y : Fin 128) :
    (∑ x : Fin 256, queryBlock m hO c t (ix3 0 r x) * newKeys m hO c t (ix3 0 y x))
      + newMask m hO c t (ix3 0 ⟨r.val % 8, by omega⟩ y)
      = rowLogits q k sel ck pg (seqOf m hO t) r (8192 + y.val) := by
  subst hk hsel
  have eb := (block2 m hO c t ⟨r.val % 8, by omega⟩ y).trans (V_mask_new m c _ _ _)
  by_cases hy : y.val < 8
  · have ey (x : Fin 256) : newKeys m hO c t (ix3 0 y x) = entry (fun e o n d => ck (ix5 0 e o n d)) (fun b t n d => m ((c : Thread nD τ).loc main_arg1) (ix4 b t n d)) pg (seqOf m hO t) ⟨x.val / 64, by omega⟩ ⟨x.val % 64, by omega⟩ (8192 + y.val) := by
      rw [entry_new _ _ _ ⟨y.val, hy⟩ rfl]
      exact ((block3 m hO c t y x).trans (V_new_keys m c _ _ _)).trans (dif_pos hy)
    refine Eq.trans ?_ (logit_row q _ _ ck pg (seqOf m hO t) r (8192 + y.val) (by omega) _ (fun x => rfl))
    exact congrArg₂ (· + ·) (Finset.sum_congr rfl fun x _ => congrArg₂ (· * ·) (query_at m hO c q hq t r x) (ey x)) (eb.trans (dif_pos (by dsimp only; omega)))
  · rw [row_after _ _ _ _ _ _ _ _ (by omega)]
    exact add_masked _ (eb.trans (dif_neg (by dsimp only; omega)))

include hv in
theorem values_new (t : Fin (cfgM m hO).N) (y : Fin 128) (x : Fin 256) :
    newValues m hO c t (ix3 0 y x) = colValues v cv pg (seqOf m hO t) x (8192 + y.val) := by
  subst hv
  unfold colValues
  by_cases hy : y.val < 8
  · rw [entry_new _ _ _ ⟨y.val, hy⟩ rfl]
    exact ((block4 m hO c t y x).trans (V_new_values m c _ _ _)).trans (dif_pos hy)
  · rw [entry_after _ _ _ (by omega)]
    exact ((block4 m hO c t y x).trans (V_new_values m c _ _ _)).trans (dif_neg hy)

include hq hsel hck hcv hpt in
/-- The scratch after every step but a sequence's last. -/
theorem held_at (n : ℕ) (hn : n < (cfgM m hO).N) (h7 : ¬n % 8 = 7) :
    Held (rowLogits q k sel ck pg (seqOf m hO ⟨n, hn⟩)) (colValues v cv pg (seqOf m hO ⟨n, hn⟩)) (n % 8 * 1024 + 1024)
      (outsAt0 m hO c n hn).2.1 (outsAt0 m hO c n hn).2.2.1 (outsAt0 m hO c n hn).2.2.2 := by
  induction n with
  | zero =>
    have h := step m hO c q k v sel ck cv pg hq hsel hck hcv hpt ⟨0, hn⟩ (M := k0_pay22 (F := Ideal)) (L := k0_pay23 (F := Ideal)) (A := k0_pay24 (F := Ideal)) (by show Held _ _ (0 % 8 * 1024) _ _ _; exact held_start)
    rw [outsAt0_A m hO c ⟨0, hn⟩ (Nat.zero_mod 8) h7, pointA_max, pointA_den, pointA_num]
    exact h
  | succ n ih =>
    by_cases h0 : (n + 1) % 8 = 0
    · have h := step m hO c q k v sel ck cv pg hq hsel hck hcv hpt ⟨n + 1, hn⟩ (M := k0_pay22 (F := Ideal)) (L := k0_pay23 (F := Ideal)) (A := k0_pay24 (F := Ideal))
        (by show Held _ _ ((n + 1) % 8 * 1024) _ _ _; rw [h0]; exact held_start)
      rw [outsAt0_A m hO c ⟨n + 1, hn⟩ h0 h7, pointA_max, pointA_den, pointA_num]
      exact h
    · have e1 : (n + 1) % 8 * 1024 = n % 8 * 1024 + 1024 := by omega
      have e2 : seqOf m hO ⟨n + 1, hn⟩ = seqOf m hO ⟨n, by omega⟩ := Fin.ext (by show (n + 1) / 8 = n / 8; omega)
      have h := step m hO c q k v sel ck cv pg hq hsel hck hcv hpt ⟨n + 1, hn⟩ (by
        show Held _ _ ((n + 1) % 8 * 1024) _ _ _
        rw [e1, e2]; exact ih (by omega) (by omega))
      rw [outsAt0_B m hO c ⟨n + 1, hn⟩ h0 h7, pointB_max, pointB_den, pointB_num]
      exact h

include hq hk hv hsel hck hcv hpt in
/-- The output block after a sequence's last step. -/
theorem out_at (t : Fin (cfgM m hO).N) (h7 : t.val % 8 = 7) (r : Fin 16) (x : Fin 256) :
    (outsAt0 m hO c t.val t.isLt).1 (ix3 0 r x)
      = Ideal.div (rnum (rowLogits q k sel ck pg (seqOf m hO t) ⟨x.val / 64 * 16 + r.val, by omega⟩) (colValues v cv pg (seqOf m hO t) x) 8200)
        (rden (rowLogits q k sel ck pg (seqOf m hO t) ⟨x.val / 64 * 16 + r.val, by omega⟩) 8200) := by
  have h0 : ¬t.val % 8 = 0 := by omega
  have hlt : t.val - 1 < (cfgM m hO).N := Nat.lt_of_le_of_lt (Nat.sub_le _ _) t.isLt
  have e1 : t.val % 8 * 1024 = (t.val - 1) % 8 * 1024 + 1024 := by omega
  have e2 : seqOf m hO t = seqOf m hO ⟨t.val - 1, hlt⟩ := Fin.ext (by show t.val / 8 = (t.val - 1) / 8; omega)
  have h := step m hO c q k v sel ck cv pg hq hsel hck hcv hpt t (by
    rw [e1, e2]; exact held_at m hO c q k v sel ck cv pg hq hsel hck hcv hpt (t.val - 1) hlt (by omega))
  rw [h7] at h
  have h' := held_new (q := queryBlock m hO c t) (kn := newKeys m hO c t) (vn := newValues m hO c t) (b := newMask m hO c t)
    (scores_new m hO c q k sel ck pg hq hk hsel t) (values_new m hO c v cv pg hv t) h
  rw [outsAt0_C m hO c t h0 h7, pointC_out]
  refine (pay8_at _ _ r x).trans ?_
  have en := (h'.num ⟨x.val / 64 * 16 + r.val, by omega⟩ x).trans (rnum_masked _ _ 8200 120 fun j hj => row_after q k sel ck pg _ _ j hj)
  have ed := (h'.den ⟨x.val / 64 * 16 + r.val, by omega⟩).trans (rden_masked _ 8200 120 fun j hj => row_after q k sel ck pg _ _ j hj)
  exact congrArg₂ Ideal.div en ed

end Cert.KernelIdeal.Attend

end
-- ==== Proof.AttendBody.lean ====
/- The paged attention's launch: the proof data, and what the body leaves at every grid point,
   for every page table whose entries lie in the pool. -/
module

public import proofs.«01_k».proof.Proof.AttendHolds

@[expose] public section

set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => (outsAt0 m hO c t.val t.isLt).1
    | ⟨_ + 22, h⟩ => absurd h (Nat.not_lt.2 (Nat.le_add_left _ _))
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 256 := lt_of_lt_of_eq t.isLt (show (cfgM m hO).N = 256 from N_0)
  by_cases h0 : t.val % 8 = 0
  · by_cases h1 : t.val % 8 = 7
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [Dat.leavesExact_idle (dats m hO 0 c) 21 t (idleAt0_21_A m hO t ((hcond0_0 t).mpr h0) (fun h => h1 ((hcond0_1 t).mp h))) (noFlush0_21_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1, pointA]
        unfold sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, H20, H21, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexists _; iexact H21
      · rw [PhiS_castSucc m hO c t, PhiS_pos m hO c _ _ hz, PhiT0_eq]
        rw [outsAt0_A m hO c t h0 h1, pointA]
        unfold sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [HS0]; · iexists _; iexact HS0
        isplitl [HS1]; · iexists _; iexact HS1
        isplitl [HS2]; · iexists _; iexact HS2
        isplitl [HT0]; · iexact HT0
        iintro ⟨H0, H1, H2, H3, H4, H5, H6, H7, H8, H9, H10, H11, H12, H13, H14, H15, H16, H17, H18, H19, H20, H21, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexists _; iexact H21
  · by_cases h1 : t.val % 8 = 7
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [show (dats m hO 0 c).leavesExact 21 t = owns (c : Thread nD τ) (ms0_21 m hO t) fullShare ((dats m hO 0 c).after 21 t) from by
      unfold Dat.leavesExact; rw [liveAt0_21_C m hO t (fun h => h0 ((hcond0_0 t).mp h)) ((hcond0_1 t).mpr h1)]; try rfl, after0_21]
      by_cases hz : t.val = 0
      · exfalso; have hN : t.val < 256 := lt_of_lt_of_eq t.isLt (show (cfgM m hO).N = 256 from N_0); omega
      · rw [PhiS_castSucc m hO c t, PhiS_pos m hO c _ _ hz, PhiT0_eq]
        rw [outsAt0_C m hO c t h0 h1, pointC]
        unfold out0_C_21 sout0_C_0 sout0_C_1 sout0_C_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, H20, ⟨%e21, H21⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        unfold owns; iexists _; isplitr
        swap; · iexact H21
        ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [Dat.leavesExact_idle (dats m hO 0 c) 21 t (idleAt0_21_B m hO t (fun h => h0 ((hcond0_0 t).mp h)) (fun h => h1 ((hcond0_1 t).mp h))) (noFlush0_21_B m hO t (fun h => h0 ((hcond0_0 t).mp h)) (fun h => h1 ((hcond0_1 t).mp h)))]
      by_cases hz : t.val = 0
      · exfalso; have hN : t.val < 256 := lt_of_lt_of_eq t.isLt (show (cfgM m hO).N = 256 from N_0); omega
      · rw [PhiS_castSucc m hO c t, PhiS_pos m hO c _ _ hz, PhiT0_eq]
        rw [outsAt0_B m hO c t h0 h1, pointB]
        unfold sout0_B_0 sout0_B_1 sout0_B_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, H20, H21, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexists _; iexact H21

end Cert.KernelIdeal.Attend

end
-- ==== Proof.AttendRun.lean ====
/- The paged attention's launch: the run of the whole program and
   its frame, for every page table whose entries lie in the pool. -/
module

public import proofs.«01_k».proof.Proof.AttendBody

@[expose] public section

set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 256 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Attend

end
-- ==== Proof.AttendResult.lean ====
/- The paged attention's result: the output array's entry for row `r` and column `x` of a sequence is the softmax of that row's
   logits over all 8200 positions, applied to the column's values. -/
module
public import proofs.«01_k».proof.Proof.AttendArray
public import proofs.«01_k».proof.Proof.AttendRun
@[expose] public section
noncomputable section
namespace Cert.KernelIdeal.Attend
open Cert.KernelIdeal.Gen Cert.OnlineSoftmax Cert.Attend
open Idealize.ShloMosaic Idealize.ShloMosaic.TcCoe Idealize.ShloMosaic.Tactic

variable (q : FVec Ideal S32x8x8x64 .f32) (k v : FVec Ideal S32x8x4x64 .f32) (sel : IVec S32x8x8200 32) (ck cv : FVec Ideal S2x2560x128x4x64 .f32)
  (pg : Fin 32 → Fin 64 → Fin 2560)

/-- The attention of one row and one column. -/
def attended (b : Fin 32) (r : Fin 16) (x : Fin 256) : EReal :=
  Ideal.div (rnum (rowLogits q k sel ck pg b ⟨x.val / 64 * 16 + r.val, by omega⟩) (colValues v cv pg b x) 8200)
    (rden (rowLogits q k sel ck pg b ⟨x.val / 64 * 16 + r.val, by omega⟩) 8200)

/-- The result array. -/
def result : FVec Ideal S32x16x256 .f32 := fun i => attended q k v sel ck cv pg (i 0) (i 1) (i 2)

variable (m : (ℓ : Loc nD τ sig) → Buf (Elt Ideal) ℓ) (ρ : Dev nD → PrngReg) (hO : Ok m) (c : Dev nD)
  (hq : m ((c : Thread nD τ).loc main_arg0) = q) (hk : m ((c : Thread nD τ).loc main_arg1) = k) (hv : m ((c : Thread nD τ).loc main_arg2) = v)
  (hsel : m ((c : Thread nD τ).loc main_arg3) = sel) (hck : m ((c : Thread nD τ).loc main_arg4) = ck) (hcv : m ((c : Thread nD τ).loc main_arg5) = cv)
  (hpt : ∀ b p, m ((0 : Dev nD).tc.loc main_arg6) (ix2 b p) = BitVec.ofNat 32 (pg b p).val)

/-- Where the output window's block lies in the result array. -/
theorem out_coord (G : FVec Ideal S32x16x256 .f32) (t : Fin (cfgM m hO).N) (y : Fin 16) (z : Fin 256) :
    (((cfgM m hO).win 21).blk t).view.read (Elt Ideal) G (ix3 0 y z) = G (ix3 (seqOf m hO t) y z) := by
  refine (View.read_apply ..).trans ?_
  show G _ = G (ix3 (seqOf m hO t) y z)
  refine congrArg G (funext fun a => Fin.ext ?_)
  have e0 := coord0 t
  have h0 : t.val < 256 := lt_of_lt_of_eq t.isLt N_0
  match a with
  | ⟨0, _⟩ =>
    show (BitVec.ofNat 32 (grid0.coords t 0).val).toNat * 1 + 1 * 0 = t.val / 8
    rw [small _ (by omega), e0]; omega
  | ⟨1, _⟩ => show 0 * 16 + 1 * y.val = y.val; omega
  | ⟨2, _⟩ => show 0 * 256 + 1 * z.val = z.val; omega

include hq hk hv hsel hck hcv hpt in
theorem flushed_eq (t : Fin (cfgM m hO).N) (hf : ((cfgM m hO).win 21).flush t = true) :
    (dats m hO 0 c).flushed 21 t = (((cfgM m hO).win 21).blk t).view.read (Elt Ideal) (result q k v sel ck cv pg) := by
  have h7 := (flush0_21 (adm m hO) t).mp hf
  show ((cfgM m hO).win 21).cut (grid0.coords t) ((dats m hO 0 c).after 21 t) = _
  rw [after0_21]
  refine funext fun (j : S1x16x256.Idx) => ?_
  have hj : j = ix3 (0 : Fin 1) (j 1 : Fin 16) (j 2 : Fin 256) := by
    funext a
    match a with
    | ⟨0, _⟩ => exact Subsingleton.elim (α := Fin 1) _ _
    | ⟨1, _⟩ => rfl
    | ⟨2, _⟩ => rfl
  rw [hj]
  refine Eq.trans ?_ (out_coord m hO (result q k v sel ck cv pg) t (j 1) (j 2)).symm
  exact out_at m hO c q k v sel ck cv pg hq hk hv hsel hck hcv hpt t h7 (j 1) (j 2)

include hq hk hv hsel hck hcv hpt in
theorem final_out : (dats m hO 0 c).arrAt 21 (cfgM m hO).N = result q k v sel ck cv pg :=
  (dats m hO 0 c).arrAt_eq_of_cover 21 (result q k v sel ck cv pg) (flushed_eq q k v sel ck cv pg m hO c hq hk hv hsel hck hcv hpt) fun (i : S32x16x256.Idx) => by
    have h0 : (i 0 : Nat) < 32 := (i 0).isLt
    have h1 : (i 1 : Nat) < 16 := (i 1).isLt
    have h2 : (i 2 : Nat) < 256 := (i 2).isLt
    have ht : (i 0 : Nat) * 8 + 7 < (cfgM m hO).N := lt_of_lt_of_eq (by omega) N_0.symm
    refine ⟨⟨(i 0 : Nat) * 8 + 7, ht⟩, (flush0_21 (adm m hO) _).mpr (by dsimp only; omega), ?_⟩
    have e0 : (grid0.coords ⟨(i 0 : Nat) * 8 + 7, ht⟩ 0).val = ((i 0 : Nat) * 8 + 7) / 8 := coord0 (⟨(i 0 : Nat) * 8 + 7, ht⟩ : Fin (cfgM m hO).N)
    show i ∈ ((View.whole main_v45).slice (((cfgM m hO).win 21).rect ⟨(i 0 : Nat) * 8 + 7, ht⟩)).set
    refine (congrArg (i ∈ ·) (View.set_slice_whole _ _)).mpr (Rect.mem_set_unit.mpr fun a => ?_)
    match a with
    | ⟨0, _⟩ =>
      show (BitVec.ofNat 32 (grid0.coords ⟨(i 0 : Nat) * 8 + 7, ht⟩ 0).val).toNat * 1 ≤ (i 0 : Nat) ∧ (i 0 : Nat) < (BitVec.ofNat 32 (grid0.coords ⟨(i 0 : Nat) * 8 + 7, ht⟩ 0).val).toNat * 1 + 1
      rw [small _ (by omega), e0]; dsimp only; omega
    | ⟨1, _⟩ => show 0 * 16 ≤ (i 1 : Nat) ∧ (i 1 : Nat) < 0 * 16 + 16; omega
    | ⟨2, _⟩ => show 0 * 256 ≤ (i 2 : Nat) ∧ (i 2 : Nat) < 0 * 256 + 256; omega

variable (Hq : ∀ c : Dev nD, m ((c : Thread nD τ).loc main_arg0) = q) (Hk : ∀ c : Dev nD, m ((c : Thread nD τ).loc main_arg1) = k)
  (Hv : ∀ c : Dev nD, m ((c : Thread nD τ).loc main_arg2) = v) (Hsel : ∀ c : Dev nD, m ((c : Thread nD τ).loc main_arg3) = sel)
  (Hck : ∀ c : Dev nD, m ((c : Thread nD τ).loc main_arg4) = ck) (Hcv : ∀ c : Dev nD, m ((c : Thread nD τ).loc main_arg5) = cv)

include hO Hq Hk Hv Hsel Hck Hcv hpt in
/-- The run: the result array at the attention, the arguments unchanged. -/
theorem run_result : θ_run defs (onTc (τ := τ) (main (F := Ideal))) ⟨m, fun _ => 0, ρ⟩ fun r => ∀ c : Dev nD,
      r.2.mem ((c : Thread nD τ).loc main_v45) = result q k v sel ck cv pg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have H := θ_run_and
    ((θ_run defs _ _).mono (fun _ h c => ((h c).1 21).trans (final_out q k v sel ck cv pg m hO c (Hq c) (Hk c) (Hv c) (Hsel c) (Hck c) (Hcv c) hpt)) (run_main m ρ hO))
    (unchanged m ρ hO)
  (θ_run defs _ _).mono (fun _ h c => And.intro (h.1 c) (h.2 c)) H

end Cert.KernelIdeal.Attend

end
-- ==== Proof.AttendEquation.lean ====
/- The paged attention's equation: where queries and keys are finite and every query has a selected position, the running softmax
   over pages is the reference's softmax over all positions. -/
module
public import proofs.«01_k».proof.Proof.AttendResult
public import proofs.«01_k».proof.Proof.AttendReference
@[expose] public section
noncomputable section
namespace Cert.Attend
open Idealize.ShloMosaic Cert.OnlineSoftmax Cert.KernelIdeal.Attend

/-- A sum of real numbers is a real number. -/
theorem sum_real {n : ℕ} (f : Fin n → EReal) (h : ∀ i, ∃ r : ℝ, f i = r) : ∃ r : ℝ, ∑ i, f i = r :=
  Finset.sum_induction f (fun x => ∃ r : ℝ, x = r) (fun _ _ ⟨a, ha⟩ ⟨b, hb⟩ => ⟨a + b, by rw [ha, hb, EReal.coe_add]⟩) ⟨0, EReal.coe_zero.symm⟩ fun i _ => h i

theorem real_of_finite {x : EReal} (h : x ≠ ⊤ ∧ x ≠ ⊥) : ∃ r : ℝ, x = r := ⟨x.toReal, (EReal.coe_toReal h.1 h.2).symm⟩

variable (q : FVec Ideal KernelIdeal.S32x8x8x64 .f32) (k v : FVec Ideal KernelIdeal.S32x8x4x64 .f32) (sel : IVec KernelIdeal.S32x8x8200 32)
  (ck cv : FVec Ideal KernelIdeal.S2x2560x128x4x64 .f32) (pg : Fin 32 → Fin 64 → Fin 2560)
  (hq : ∀ i, q i ≠ ⊤ ∧ q i ≠ ⊥) (hk : ∀ i, k i ≠ ⊤ ∧ k i ≠ ⊥) (hc : ∀ i, ck i ≠ ⊤ ∧ ck i ≠ ⊥)

include hk hc in
theorem entry_real (b : Fin 32) (n : Fin 4) (d : Fin 64) (y : ℕ) :
    ∃ r : ℝ, entry (fun e o n d => ck (ix5 0 e o n d)) (fun b t n d => k (ix4 b t n d)) pg b n d y = r := by
  unfold entry
  split_ifs
  · exact real_of_finite (hc _)
  · exact real_of_finite (hk _)
  · exact ⟨0, EReal.coe_zero.symm⟩

include hq hk hc in
/-- The logit of a selected position is a real number. -/
theorem logit_real (b : Fin 32) (r : Fin 64) (y : Fin 8200) (h : sel (ix3 b ⟨r.val % 8, by omega⟩ y) ≠ 0#32) : ∃ x : ℝ, rowLogits q k sel ck pg b r y.val = x := by
  unfold rowLogits logit
  rw [dif_pos y.isLt, if_neg h]
  obtain ⟨a, ha⟩ := sum_real (fun d : Fin 64 => entry (fun e o n d => ck (ix5 0 e o n d)) (fun b t n d => k (ix4 b t n d)) pg b ⟨r.val / 16, by omega⟩ d y.val
      * (q (ix4 b ⟨r.val % 8, by omega⟩ ⟨r.val / 16 * 2 + r.val / 8 % 2, by omega⟩ d) : EReal)) fun d => by
    obtain ⟨x, hx⟩ := entry_real k ck pg hk hc b ⟨r.val / 16, by omega⟩ d y.val
    obtain ⟨z, hz⟩ := real_of_finite (hq (ix4 b ⟨r.val % 8, by omega⟩ ⟨r.val / 16 * 2 + r.val / 8 % 2, by omega⟩ d))
    exact ⟨x * z, (congrArg₂ (fun u w : EReal => u * w) hx hz).trans (EReal.coe_mul x z).symm⟩
  exact ⟨a * (1 / 8), (congrArg (fun u : EReal => u * ((1 / 8 : ℝ) : EReal)) ha).trans (EReal.coe_mul a (1 / 8)).symm⟩

include hq hk hc in
theorem logit_ne_top (b : Fin 32) (r : Fin 64) (y : ℕ) (hy : y < 8200) : rowLogits q k sel ck pg b r y ≠ ⊤ := by
  by_cases h : sel (ix3 b ⟨r.val % 8, by omega⟩ ⟨y, hy⟩) = 0#32
  · unfold rowLogits logit
    rw [dif_pos hy, if_pos h]
    exact bot_ne_top
  · obtain ⟨x, hx⟩ := logit_real q k sel ck pg hq hk hc b r ⟨y, hy⟩ h
    exact fun e => EReal.coe_ne_top x (hx.symm.trans e)

include hq hk hc in
/-- The kernel's quotient is the sum of the softmax's weights times the values. -/
theorem attended_eq (hs : ∀ b t, ∃ y, sel (ix3 b t y) ≠ 0#32) (b : Fin 32) (r : Fin 16) (x : Fin 256) :
    let L := logit (fun e o n d => ck (ix5 0 e o n d)) (fun b t n d => k (ix4 b t n d)) pg (fun b t h d => q (ix4 b t h d)) (fun b t y => sel (ix3 b t y))
      b ⟨r.val % 8, by omega⟩ ⟨x.val / 64, by omega⟩ ⟨r.val / 8, by omega⟩
    let V := entry (fun e o n d => cv (ix5 0 e o n d)) (fun b t n d => v (ix4 b t n d)) pg b ⟨x.val / 64, by omega⟩ ⟨x.val % 64, by omega⟩
    attended q k v sel ck cv pg b r x = ∑ i : Fin 8200, Ideal.div (Ideal.exp (L i.val - rmax L 8200)) (rden L 8200) * V i.val := by
  intro L V
  have eL : rowLogits q k sel ck pg b ⟨x.val / 64 * 16 + r.val, by omega⟩ = L := by
    have e1 : (⟨(x.val / 64 * 16 + r.val) % 8, by omega⟩ : Fin 8) = ⟨r.val % 8, by omega⟩ := Fin.ext (by dsimp only; omega)
    have e2 : (⟨(x.val / 64 * 16 + r.val) / 16, by omega⟩ : Fin 4) = ⟨x.val / 64, by omega⟩ := Fin.ext (by dsimp only; omega)
    have e3 : (⟨(x.val / 64 * 16 + r.val) / 8 % 2, by omega⟩ : Fin 2) = ⟨r.val / 8, by omega⟩ := Fin.ext (by dsimp only; omega)
    unfold rowLogits
    dsimp only
    rw [e1, e2, e3]
  obtain ⟨y, hy⟩ := hs b ⟨(x.val / 64 * 16 + r.val) % 8, by omega⟩
  obtain ⟨a, ha⟩ := logit_real q k sel ck pg hq hk hc b ⟨x.val / 64 * 16 + r.val, by omega⟩ y hy
  have top := logit_ne_top q k sel ck pg hq hk hc b ⟨x.val / 64 * 16 + r.val, by omega⟩
  unfold attended
  rw [eL] at ha top ⊢
  exact softmax_quotient _ top y.isLt (fun e => EReal.coe_ne_bot a (ha.symm.trans e))

end Cert.Attend

end
-- ==== Proof.Preconditions.lean ====
/- What the preconditions say: every page number of the table is a page of the pool; queries, keys and cached keys are finite;
   and every query has a selected position. -/
module
public import proofs.«01_k».proof.Proof.Gen.Pre_in_pool
public import proofs.«01_k».proof.Proof.Gen.Pre_attends
public import Idealize.ShloMosaic.Lib.Pointwise
public import Idealize.ShloMosaic.Lib.ReduceAll
public import Idealize.ShloMosaic.Lib.Routing.OpsOrder
@[expose] public section
noncomputable section
namespace Cert.Attend
open Idealize.ShloMosaic

/-- A page number that is neither negative nor past the pool's end. -/
theorem page_lt (x : BitVec 32) (h : IntOp.andi (IntOp.cmpi .sge x 0#32) (IntOp.cmpi .slt x 2560#32) = 1#1) : x.toNat < 2560 := by
  obtain ⟨h1, h2⟩ := IntOp.andi_eq_one.1 h
  have e1 := IntOp.cmpi_sge.1 h1
  have e2 := IntOp.cmpi_slt.1 h2
  have z : (0#32 : BitVec 32).toInt = 0 := rfl
  have w : (2560#32 : BitVec 32).toInt = 2560 := rfl
  rw [z] at e1
  rw [w] at e2
  have := x.isLt
  rw [BitVec.toInt_eq_toNat_cond] at e1 e2
  split_ifs at e1 e2 <;> omega

/-- What `in_pool` says of a page table. -/
theorem pages_of_in_pool {F : FTy → Type} [FloatOps F] (a0 a1 a2 a3 a4 a5) (pt : IVec Pre_in_pool.S32x64 32)
    (h : Pre_in_pool.fn (F := F) a0 a1 a2 a3 a4 a5 pt = fun _ => 1#1) (b : Fin 32) (p : Fin 64) : (pt (ix2 b p)).toNat < 2560 :=
  page_lt _ (congrFun h (ix2 b p))

theorem ofBits_inf : Ideal.ofBits FTy.f32 0x7F800000#32 = ⊤ := by
  simp [Ideal.ofBits, Ideal.ieee]

/-- An absolute value below infinity is that of a finite value. -/
theorem finite_of_abs (x : EReal) (h : FloatOps.cmpf (F := Ideal) (φ := .f32) .olt (max x (-x)) (Ideal.ofBits FTy.f32 0x7F800000#32) = 1#1) : x ≠ ⊤ ∧ x ≠ ⊥ := by
  rw [ofBits_inf] at h
  have no (e : max x (-x) = ⊤) : False := by
    rw [e] at h
    exact absurd (show Ideal.cmp .olt (⊤ : EReal) ⊤ = 1#1 from h) (by simp [Ideal.cmp])
  exact ⟨fun e => no (by subst e; simp), fun e => no (by subst e; simp)⟩

/-- What `attends` says. -/
theorem of_attends (q : FVec Ideal Pre_attends.S32x8x8x64 .f32) (k v : FVec Ideal Pre_attends.S32x8x4x64 .f32) (sel : IVec Pre_attends.S32x8x8200 32)
    (ck cv : FVec Ideal Pre_attends.S2x2560x128x4x64 .f32) (pt : IVec Pre_attends.S32x64 32)
    (h : Pre_attends.fn (F := Ideal) q k v sel ck cv pt = fun _ => 1#1) :
    (∀ b p, (pt (ix2 b p)).toNat < 2560) ∧ (∀ i, q i ≠ ⊤ ∧ q i ≠ ⊥) ∧ (∀ i, k i ≠ ⊤ ∧ k i ≠ ⊥) ∧ (∀ i, ck i ≠ ⊤ ∧ ck i ≠ ⊥)
      ∧ (∀ b t, ∃ y, sel (ix3 b t y) ≠ 0#32) := by
  have h0 := congrFun h (fun a => a.elim0)
  obtain ⟨h1, hs⟩ := IntOp.andi_eq_one.1 (show IntOp.andi _ _ = 1#1 from h0)
  obtain ⟨hp, h2⟩ := IntOp.andi_eq_one.1 (show IntOp.andi _ _ = 1#1 from h1)
  obtain ⟨h3, hc⟩ := IntOp.andi_eq_one.1 (show IntOp.andi _ _ = 1#1 from h2)
  obtain ⟨hq, hk⟩ := IntOp.andi_eq_one.1 (show IntOp.andi _ _ = 1#1 from h3)
  refine ⟨fun b p => ?_, fun i => ?_, fun i => ?_, fun i => ?_, fun b t => ?_⟩
  · exact page_lt _ (Host.reduce_andi_all _ _ _ _ _ hp (ix2 b p))
  · exact finite_of_abs _ (Host.reduce_andi_all _ _ _ _ _ hq i)
  · exact finite_of_abs _ (Host.reduce_andi_all _ _ _ _ _ hk i)
  · exact finite_of_abs _ (Host.reduce_andi_all _ _ _ _ _ hc i)
  · have e := Host.reduce_andi_all _ _ _ _ _ hs (ix2 b t)
    have e' : Finset.fold IntOp.ori (0#1) (fun y : Fin 8200 => IntOp.cmpi .ne (sel (ix3 b t y)) 0#32) Finset.univ = 1#1 := by
      refine Eq.trans (Eq.symm ?_) e
      pointwise
    obtain ⟨y, _, hy⟩ := (Idealize.ShloMosaic.Routing.fold_ori _ _).1 e'
    refine ⟨y, fun h => ?_⟩
    rw [h] at hy
    exact absurd hy (by decide)

end Cert.Attend

end
-- ==== Proof.AttendClaims.lean ====
/- The claims about the paged attention at the ideal reading, from its run, the reference's run and the equation between them. -/
module
public import proofs.«01_k».proof.Defs
public import proofs.«01_k».proof.Proof.AttendEquation
public import proofs.«01_k».proof.Proof.Preconditions
@[expose] public section
noncomputable section
namespace Cert.AttendClaims
open Idealize.ShloMosaic Idealize.SL.Sem Cert.KernelIdeal.Attend

theorem frame : Cert.quiescent_KernelIdeal := fun m g h =>
  Cert.KernelIdeal.Attend.frame m g (ok_of_args m fun b p => Cert.Attend.pages_of_in_pool _ _ _ _ _ _ _ (h 0) b p)

theorem frame_attends : Cert.quiescent_KernelIdeal_pre_attends := fun m g h =>
  Cert.KernelIdeal.Attend.frame m g (ok_of_args m (Cert.Attend.of_attends _ _ _ _ _ _ _ (h 0)).1)

theorem reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem reference_attends : Cert.quiescent_ReferenceIdeal_pre_attends := fun m g _ => reference m g trivial

theorem preserves : Cert.preserves_Kernel_KernelIdeal :=
  IdealRules.named_const.statement Cert.KernelIdeal.κ "mask" .f32 0xF149F2CA#32 ⊥ rfl

/-- The page table as page numbers. -/
def pages (pt : IVec Cert.KernelIdeal.S32x64 32) (h : ∀ b p, (pt (ix2 b p)).toNat < 2560) (b : Fin 32) (p : Fin 64) : Fin 2560 := ⟨_, h b p⟩

/-- The kernel's result is the reference's. -/
theorem algebraic : Cert.algebraic_KernelIdeal_ReferenceIdeal_pre_attends := fun m g m' g' h hm => by
  obtain ⟨hp, hq, hk, hc, hs⟩ := Cert.Attend.of_attends _ _ _ _ _ _ _ (h 0)
  have one (c : Dev Cert.KernelIdeal.nD) : c = 0 := Subsingleton.elim _ _
  have hpt (b : Fin 32) (p : Fin 64) : (m ((0 : Dev Cert.KernelIdeal.nD).tc.loc Cert.KernelIdeal.main_arg6) : IVec Cert.KernelIdeal.S32x64 32) (ix2 b p)
      = BitVec.ofNat 32 (pages _ hp b p).val := by
    refine BitVec.eq_of_toNat_eq ?_
    rw [BitVec.toNat_ofNat, Nat.mod_eq_of_lt (lt_trans (pages _ hp b p).isLt (by decide))]
    rfl
  have run := run_result _ _ _ _ _ _ (pages _ hp) m g (ok_of_args m hp) hpt (fun c => by rw [one c]) (fun c => by rw [one c]) (fun c => by rw [one c])
    (fun c => by rw [one c]) (fun c => by rw [one c]) (fun c => by rw [one c])
  refine ⟨fun _ => _, run, ?_⟩
  refine (θ_run Cert.ReferenceIdeal.defs _ _).mono (fun r h c => ⟨(h c).1.trans ?_, (h c).2⟩) (Cert.ReferenceIdeal.Value.run (F := Ideal) m' g')
  obtain rfl := one c
  obtain ⟨e0, e1, e2, e3, e4, e5, e6⟩ := hm 0
  refine funext fun (i : Cert.KernelIdeal.S32x16x256.Idx) => ?_
  have hi : i = ix3 (i 0 : Fin 32) (i 1 : Fin 16) (i 2 : Fin 256) := by
    funext a
    match a with
    | ⟨0, _⟩ => rfl
    | ⟨1, _⟩ => rfl
    | ⟨2, _⟩ => rfl
  rw [hi]
  refine (Cert.ReferenceIdeal.Attend.result_at m' 0 _ _ _ _ _ _ _ (pages _ hp) hpt e0 e1 e2 e3 e4 e5 e6 (i 0) (i 1) (i 2)).trans ?_
  exact (Cert.Attend.attended_eq _ _ _ _ _ _ (pages _ hp) hq hk hc hs (i 0) (i 1) (i 2)).symm

end Cert.AttendClaims

end
-- ==== Proof.AttendFrame.lean ====
/- The frames of the paged attention. The printed kernel is, at the machine's floats, the ideal program with its named constant
   read as the pattern it names; so the one run serves both. -/
module
public import proofs.«01_k».proof.Defs
public import proofs.«01_k».proof.Proof.Gen.Kernel
public import proofs.«01_k».proof.Proof.AttendRun
public import proofs.«01_k».proof.Proof.AttendTable
public import proofs.«01_k».proof.Proof.Preconditions
@[expose] public section
set_option maxRecDepth 65536
set_option maxHeartbeats 2000000
noncomputable section
namespace Cert.AttendFrame
open Idealize.ShloMosaic Idealize.SL.Sem

/-- A named constant at the machine's floats: its own pattern. -/
@[reducible] def patterns : Named Bits := ⟨fun _ _ {φ} b => FloatOps.ofBits φ b⟩
attribute [local instance] patterns

/-- The kernel at the machine's floats leaves its arguments as they were: its program is the idealized one's, read there. -/
theorem kernel : Cert.quiescent_Kernel := fun m g h =>
  Eq.mp (by chain_rfl) (Cert.KernelIdeal.Attend.frame (F := Bits) m g
    (Cert.KernelIdeal.Attend.ok_of_args m fun b p => Cert.Attend.pages_of_in_pool _ _ _ _ _ _ _ (h 0) b p))

end Cert.AttendFrame

end
-- ==== Proof.FeedForwardRun.lean ====
/- The feed-forward layer's run as a whole: every array of the final memory at what the steps of the program leave there. -/
module
public import proofs.«01_k».proof.Proof.Gen.FeedForwardIdeal.Frame
@[expose] public section
noncomputable section
namespace Cert.FeedForwardIdeal.Layer
open Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The final memory: every array is at the last step's contents. -/
theorem final : θ_run defs (onTc (τ := τ) (main (F := F))) ⟨m, fun _ => 0, ρ⟩ (fun r => ∀ c : Dev nD, ∀ b ∈ Pipeline.ucRefs τ sig,
      r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.FeedForwardIdeal.Layer
end
-- ==== Proof.RowNorm.lean ====
/- The sublayers' common form: a product of a row with a weight matrix, the residual added to it, and the row normalized. -/
module
public import Idealize.ShloMosaic.Lib.Pointwise
@[expose] public section
noncomputable section
namespace Cert.RowNorm
open Idealize.ShloMosaic

/-- The residual's factor, the width and the small addend, as the extended reals that their patterns are. -/
def alpha : EReal := Ideal.ofBits FTy.f32 0x3FB504F3#32
def width : EReal := Ideal.ofBits FTy.f32 0x44800000#32
def eps : EReal := Ideal.ofBits FTy.f32 0x3727C5AC#32

/-- The product of a row with a column. -/
def dot {n : ℕ} (x w : Fin n → EReal) : EReal := ∑ k, x k * w k

/-- A row's mean. -/
def mean (r : Fin 1024 → EReal) : EReal := Ideal.div (∑ k, r k) width

/-- A row normalized: its deviations over the root of their mean square, scaled and shifted. -/
def normed (r g b : Fin 1024 → EReal) (j : Fin 1024) : EReal :=
  (r j - mean r) * Ideal.rsqrt (mean (fun k => (r k - mean r) * (r k - mean r)) + eps) * g j + b j

/-- A sublayer's row before the normalization: the residual and the product. -/
def skip (h y : Fin 1024 → EReal) (j : Fin 1024) : EReal := alpha * h j + y j

/-- A normalized row is determined by the entries it is computed from. -/
theorem normed_congr {h h' y y' g g' b b' : Fin 1024 → EReal} (eh : ∀ j, h j = h' j) (ey : ∀ j, y j = y' j) (eg : ∀ j, g j = g' j) (eb : ∀ j, b j = b' j)
    (l : Fin 1024) : normed (skip h y) g b l = normed (skip h' y') g' b' l := by
  rw [funext eh, funext ey, funext eg, funext eb]

/-- An entry of a product is determined by the row and the column. -/
theorem dot_congr {n : ℕ} {u u' v v' : Fin n → EReal} (eu : ∀ k, u k = u' k) (ev : ∀ k, v k = v' k) : dot u v = dot u' v' := by
  rw [funext eu, funext ev]

end Cert.RowNorm
end
-- ==== Proof.FeedForwardBody.lean ====
/- What the feed-forward layer's two bodies compute, read at an index. -/
module
public import proofs.«01_k».proof.Proof.Gen.FeedForwardIdeal.Skeleton
public import proofs.«01_k».proof.Proof.RowNorm
@[expose] public section
noncomputable section
namespace Cert.FeedForwardIdeal.Layer
open Cert.FeedForwardIdeal.Gen Cert.RowNorm Idealize.ShloMosaic

/-- The first body: the squared positive part of the product. -/
theorem up_at (x : Vec Ideal S512x1024 .f32) (w : Vec Ideal S1024x1024 .bf16) (r : Fin 512) (l : Fin 1024) :
    k0_pay1 x w (ix2 r l) = max (dot (fun k : Fin 1024 => x (ix2 r k)) fun k => w (ix2 k l)) 0 * max (dot (fun k : Fin 1024 => x (ix2 r k)) fun k => w (ix2 k l)) 0 := by
  pointwise [k0_pay1, dot]

/-- The second body: the normalized row. -/
theorem down_at (x : Vec Ideal S256x4096 .bf16) (w : Vec Ideal S4096x1024 .bf16) (h : Vec Ideal S256x1024 .f32) (g b : Vec Ideal S1x1024 .f32) (r : Fin 256) (l : Fin 1024) :
    k1_pay1 x w h g b (ix2 r l) = normed (skip (fun j => h (ix2 r j)) fun j => dot (fun k : Fin 4096 => x (ix2 r k)) fun k => w (ix2 k j)) (fun j => g (ix2 0 j)) (fun j => b (ix2 0 j)) l := by
  pointwise [k1_pay1, normed, skip, dot, mean, alpha, width, eps]

end Cert.FeedForwardIdeal.Layer
end
-- ==== Proof.Blocks.lean ====
/- Two facts about blocks that several kernels' proofs use. -/
module
public import Idealize.ShloMosaic.Lib.Pipeline.FrameBody
@[expose] public section
namespace Cert.Blocks

/-- A block that starts at the origin, as a function. -/
theorem zeros2 : (![0, 0] : Fin 2 → Nat) = fun _ => 0 := funext fun a => by fin_cases a <;> rfl

theorem zeros3 : (![0, 0, 0] : Fin 3 → Nat) = fun _ => 0 := funext fun a => by fin_cases a <;> rfl

/-- A small number as a word is that number. -/
theorem small (n : ℕ) (h : n < 2 ^ 32) : (BitVec.ofNat 32 n).toNat = n := by
  rw [BitVec.toNat_ofNat]; exact Nat.mod_eq_of_lt h

end Cert.Blocks
end
-- ==== Proof.FeedForwardUp.lean ====
/- The first half of the feed-forward layer: the array it leaves is the squared positive part of the product of its two arrays. -/
module
public import proofs.«01_k».proof.Proof.Gen.FeedForwardIdeal.Frame
public import proofs.«01_k».proof.Proof.FeedForwardBody
public import proofs.«01_k».proof.Proof.Blocks
@[expose] public section
noncomputable section
namespace Cert.FeedForwardIdeal.Layer
open Cert.FeedForwardIdeal.Gen Cert.RowNorm Cert.Blocks
open Idealize.ShloMosaic Idealize.ShloMosaic.TcCoe Idealize.ShloMosaic.Tactic

theorem coord0_0 (t : Fin grid0.N) : (grid0.coords t 0).val = t.val / 4 := by
  have h : (grid0.coords t 0).val = t.val / 4 % 32 := Pipeline.Grid.coords_val t 0 (by decide) rfl
  have ht : t.val < 128 := lt_of_lt_of_eq t.isLt N_0
  omega

theorem coord0_1 (t : Fin grid0.N) : (grid0.coords t 1).val = t.val % 4 := by
  have h : (grid0.coords t 1).val = t.val / 1 % 4 := Pipeline.Grid.coords_val t 1 (by decide) rfl
  omega

/-- The rows of the hidden units. -/
def units (x : FVec Ideal S16384x1024 .f32) (w : FVec Ideal S1024x4096 .bf16) : FVec Ideal S16384x4096 .bf16 := fun i =>
  max (dot (fun k : Fin 1024 => x (ix2 (i 0) k)) fun k => w (ix2 k (i 1))) 0 * max (dot (fun k : Fin 1024 => x (ix2 (i 0) k)) fun k => w (ix2 k (i 1))) 0

variable (V : (c : Dev nD) → (b : Ref sig .tc) → Buf (Elt Ideal) ((c : Thread nD τ).loc b)) (c : Dev nD)
  (x : FVec Ideal S16384x1024 .f32) (w : FVec Ideal S1024x4096 .bf16) (hx : V c main_v0 = x) (hw : V c main_v1 = w)

/-- The row of a grid point's block, and its column. -/
def row0 (t : Fin cfg0.N) (y : Fin 512) : Fin 16384 := ⟨t.val / 4 * 512 + y.val, by have ht : t.val < 128 := lt_of_lt_of_eq t.isLt N_0; omega⟩
def col0 (t : Fin cfg0.N) (z : Fin 1024) : Fin 4096 := ⟨t.val % 4 * 1024 + z.val, by omega⟩

include hx in
theorem block0_0 (t : Fin cfg0.N) (y : Fin 512) (z : Fin 1024) : iblk0 V c 0 t (ix2 y z) = x (ix2 (row0 t y) z) := by
  unfold iblk0
  refine (View.read_apply ..).trans ?_
  refine (congrFun hx _).trans ?_
  refine congrArg x (funext fun a => Fin.ext ?_)
  have e0 := coord0_0 t
  have h0 : t.val < 128 := lt_of_lt_of_eq t.isLt N_0
  match a with
  | ⟨0, _⟩ => show (BitVec.ofNat 32 (grid0.coords t 0).val).toNat * 512 + 1 * y.val = t.val / 4 * 512 + y.val; rw [small _ (by omega), e0]; omega
  | ⟨1, _⟩ => show 0 * 1024 + 1 * z.val = z.val; omega

include hw in
theorem block0_1 (t : Fin cfg0.N) (y : Fin 1024) (z : Fin 1024) : iblk0 V c 1 t (ix2 y z) = w (ix2 y (col0 t z)) := by
  unfold iblk0
  refine (View.read_apply ..).trans ?_
  refine (congrFun hw _).trans ?_
  refine congrArg w (funext fun a => Fin.ext ?_)
  have e1 := coord0_1 t
  match a with
  | ⟨0, _⟩ => show 0 * 1024 + 1 * y.val = y.val; omega
  | ⟨1, _⟩ => show (BitVec.ofNat 32 (grid0.coords t 1).val).toNat * 1024 + 1 * z.val = t.val % 4 * 1024 + z.val; rw [small _ (by omega), e1]; omega

/-- Where the result's block lies. -/
theorem place0 (G : FVec Ideal S16384x4096 .bf16) (t : Fin cfg0.N) (y : Fin 512) (z : Fin 1024) :
    ((cfg0.win 2).blk t).view.read (Elt Ideal) G (ix2 y z) = G (ix2 (row0 t y) (col0 t z)) := by
  refine (View.read_apply ..).trans ?_
  show G _ = G (ix2 (row0 t y) (col0 t z))
  refine congrArg G (funext fun a => Fin.ext ?_)
  have e0 := coord0_0 t
  have e1 := coord0_1 t
  have h0 : t.val < 128 := lt_of_lt_of_eq t.isLt N_0
  match a with
  | ⟨0, _⟩ => show (BitVec.ofNat 32 (grid0.coords t 0).val).toNat * 512 + 1 * y.val = t.val / 4 * 512 + y.val; rw [small _ (by omega), e0]; omega
  | ⟨1, _⟩ => show (BitVec.ofNat 32 (grid0.coords t 1).val).toNat * 1024 + 1 * z.val = t.val % 4 * 1024 + z.val; rw [small _ (by omega), e1]; omega

theorem out0_eq (x0 : Vec Ideal S512x1024 .f32) (x1 : Vec Ideal S1024x1024 .bf16) : out0_2 x0 x1 = k0_pay1 x0 x1 := by
  unfold out0_2
  refine (View.canon_cons_unit_zero (S := S512x1024) zeros2 _ _ _).trans ?_
  exact congrArg₂ k0_pay1 (View.ld_unit_zero (S := S512x1024) zeros2 _ _) (View.ld_unit_zero (S := S1024x1024) zeros2 _ _)

include hx hw in
theorem flushed0 (t : Fin cfg0.N) (_ : (cfg0.win 2).flush t = true) :
    (dat0 V c).flushed 2 t = ((cfg0.win 2).blk t).view.read (Elt Ideal) (units x w) := by
  show (cfg0.win 2).cut (grid0.coords t) ((dat0 V c).after 2 t) = _
  rw [after0_2]
  refine funext fun (j : S512x1024.Idx) => ?_
  have hj : j = ix2 (j 0 : Fin 512) (j 1 : Fin 1024) := by
    funext a
    match a with
    | ⟨0, _⟩ => rfl
    | ⟨1, _⟩ => rfl
  rw [hj]
  refine Eq.trans ?_ (place0 (units x w) t (j 0) (j 1)).symm
  refine (congrFun (out0_eq _ _) _).trans ((up_at _ _ _ _).trans ?_)
  refine congrArg (fun s : EReal => max s 0 * max s 0) ?_
  exact congrArg₂ (fun u v : Fin 1024 → EReal => dot u v) (funext fun k => block0_0 V c x hx t (j 0) k) (funext fun k => block0_1 V c w hw t k (j 1))

include hx hw in
/-- The array the first half leaves. -/
theorem array0 : (dat0 V c).arrAt 2 cfg0.N = units x w :=
  (dat0 V c).arrAt_eq_of_cover 2 (units x w) (flushed0 V c x w hx hw) fun (i : S16384x4096.Idx) => by
    have h0 : (i 0 : Nat) < 16384 := (i 0).isLt
    have h1 : (i 1 : Nat) < 4096 := (i 1).isLt
    have ht : (i 0 : Nat) / 512 * 4 + (i 1 : Nat) / 1024 < cfg0.N := lt_of_lt_of_eq (by omega) N_0.symm
    refine ⟨⟨_, ht⟩, flush0_2 _, ?_⟩
    have e0 : (grid0.coords ⟨_, ht⟩ 0).val = ((i 0 : Nat) / 512 * 4 + (i 1 : Nat) / 1024) / 4 := coord0_0 ⟨_, ht⟩
    have e1 : (grid0.coords ⟨_, ht⟩ 1).val = ((i 0 : Nat) / 512 * 4 + (i 1 : Nat) / 1024) % 4 := coord0_1 ⟨_, ht⟩
    show i ∈ ((View.whole main_v2).slice ((cfg0.win 2).rect ⟨_, ht⟩)).set
    refine (congrArg (i ∈ ·) (View.set_slice_whole _ _)).mpr (Rect.mem_set_unit.mpr fun a => ?_)
    match a with
    | ⟨0, _⟩ =>
      show (BitVec.ofNat 32 (grid0.coords ⟨_, ht⟩ 0).val).toNat * 512 ≤ (i 0 : Nat) ∧ (i 0 : Nat) < (BitVec.ofNat 32 (grid0.coords ⟨_, ht⟩ 0).val).toNat * 512 + 512
      rw [small _ (by omega), e0]; omega
    | ⟨1, _⟩ =>
      show (BitVec.ofNat 32 (grid0.coords ⟨_, ht⟩ 1).val).toNat * 1024 ≤ (i 1 : Nat) ∧ (i 1 : Nat) < (BitVec.ofNat 32 (grid0.coords ⟨_, ht⟩ 1).val).toNat * 1024 + 1024
      rw [small _ (by omega), e1]; omega

end Cert.FeedForwardIdeal.Layer
end
-- ==== Proof.FeedForwardDown.lean ====
/- The second half of the feed-forward layer: the array it leaves is the normalized sum of the scaled input and the product. -/
module
public import proofs.«01_k».proof.Proof.FeedForwardUp
@[expose] public section
noncomputable section
namespace Cert.FeedForwardIdeal.Layer
open Cert.FeedForwardIdeal.Gen Cert.RowNorm Cert.Blocks
open Idealize.ShloMosaic Idealize.ShloMosaic.TcCoe Idealize.ShloMosaic.Tactic

theorem coord1_0 (t : Fin grid1.N) : (grid1.coords t 0).val = t.val := by
  have h : (grid1.coords t 0).val = t.val / 1 % 64 := Pipeline.Grid.coords_val t 0 (by decide) rfl
  have ht : t.val < 64 := lt_of_lt_of_eq t.isLt N_1
  omega

/-- The rows of the layer, in its hidden units `u`. -/
def rows (u : FVec Ideal S16384x4096 .bf16) (w : FVec Ideal S4096x1024 .bf16) (h : FVec Ideal S16384x1024 .f32) (g b : FVec Ideal S1x1024 .f32) :
    FVec Ideal S16384x1024 .f32 := fun i =>
  normed (skip (fun j => h (ix2 (i 0) j)) fun j => dot (fun k : Fin 4096 => u (ix2 (i 0) k)) fun k => w (ix2 k j)) (fun j => g (ix2 0 j)) (fun j => b (ix2 0 j)) (i 1)

variable (V : (c : Dev nD) → (b : Ref sig .tc) → Buf (Elt Ideal) ((c : Thread nD τ).loc b)) (c : Dev nD)
  (u : FVec Ideal S16384x4096 .bf16) (w : FVec Ideal S4096x1024 .bf16) (h : FVec Ideal S16384x1024 .f32) (g b : FVec Ideal S1x1024 .f32)
  (hu : V c main_v2 = u) (hw : V c main_v3 = w) (hh : V c main_v0 = h) (hg : V c main_v4 = g) (hb : V c main_v5 = b)

/-- The row of a grid point's block. -/
def row1 (t : Fin cfg1.N) (y : Fin 256) : Fin 16384 := ⟨t.val * 256 + y.val, by have ht : t.val < 64 := lt_of_lt_of_eq t.isLt N_1; omega⟩

include hu in
theorem block1_0 (t : Fin cfg1.N) (y : Fin 256) (z : Fin 4096) : iblk1 V c 0 t (ix2 y z) = u (ix2 (row1 t y) z) := by
  unfold iblk1
  refine (View.read_apply ..).trans ?_
  refine (congrFun hu _).trans ?_
  refine congrArg u (funext fun a => Fin.ext ?_)
  have e0 := coord1_0 t
  have h0 : t.val < 64 := lt_of_lt_of_eq t.isLt N_1
  match a with
  | ⟨0, _⟩ => show (BitVec.ofNat 32 (grid1.coords t 0).val).toNat * 256 + 1 * y.val = t.val * 256 + y.val; rw [small _ (by omega), e0]; omega
  | ⟨1, _⟩ => show 0 * 4096 + 1 * z.val = z.val; omega

include hw in
theorem block1_1 (t : Fin cfg1.N) (y : Fin 4096) (z : Fin 1024) : iblk1 V c 1 t (ix2 y z) = w (ix2 y z) := by
  unfold iblk1
  refine (View.read_apply ..).trans ?_
  refine (congrFun hw _).trans ?_
  refine congrArg w (funext fun a => Fin.ext ?_)
  match a with
  | ⟨0, _⟩ => show 0 * 4096 + 1 * y.val = y.val; omega
  | ⟨1, _⟩ => show 0 * 1024 + 1 * z.val = z.val; omega

include hh in
theorem block1_2 (t : Fin cfg1.N) (y : Fin 256) (z : Fin 1024) : iblk1 V c 2 t (ix2 y z) = h (ix2 (row1 t y) z) := by
  unfold iblk1
  refine (View.read_apply ..).trans ?_
  refine (congrFun hh _).trans ?_
  refine congrArg h (funext fun a => Fin.ext ?_)
  have e0 := coord1_0 t
  have h0 : t.val < 64 := lt_of_lt_of_eq t.isLt N_1
  match a with
  | ⟨0, _⟩ => show (BitVec.ofNat 32 (grid1.coords t 0).val).toNat * 256 + 1 * y.val = t.val * 256 + y.val; rw [small _ (by omega), e0]; omega
  | ⟨1, _⟩ => show 0 * 1024 + 1 * z.val = z.val; omega

include hg in
theorem block1_3 (t : Fin cfg1.N) (z : Fin 1024) : iblk1 V c 3 t (ix2 0 z) = g (ix2 0 z) := by
  unfold iblk1
  refine (View.read_apply ..).trans ?_
  refine (congrFun hg _).trans ?_
  refine congrArg g (funext fun a => Fin.ext ?_)
  match a with
  | ⟨0, _⟩ => rfl
  | ⟨1, _⟩ => show 0 * 1024 + 1 * z.val = z.val; omega

include hb in
theorem block1_4 (t : Fin cfg1.N) (z : Fin 1024) : iblk1 V c 4 t (ix2 0 z) = b (ix2 0 z) := by
  unfold iblk1
  refine (View.read_apply ..).trans ?_
  refine (congrFun hb _).trans ?_
  refine congrArg b (funext fun a => Fin.ext ?_)
  match a with
  | ⟨0, _⟩ => rfl
  | ⟨1, _⟩ => show 0 * 1024 + 1 * z.val = z.val; omega

/-- Where the result's block lies. -/
theorem place1 (G : FVec Ideal S16384x1024 .f32) (t : Fin cfg1.N) (y : Fin 256) (z : Fin 1024) :
    ((cfg1.win 5).blk t).view.read (Elt Ideal) G (ix2 y z) = G (ix2 (row1 t y) z) := by
  refine (View.read_apply ..).trans ?_
  show G _ = G (ix2 (row1 t y) z)
  refine congrArg G (funext fun a => Fin.ext ?_)
  have e0 := coord1_0 t
  have h0 : t.val < 64 := lt_of_lt_of_eq t.isLt N_1
  match a with
  | ⟨0, _⟩ => show (BitVec.ofNat 32 (grid1.coords t 0).val).toNat * 256 + 1 * y.val = t.val * 256 + y.val; rw [small _ (by omega), e0]; omega
  | ⟨1, _⟩ => show 0 * 1024 + 1 * z.val = z.val; omega

theorem out1_eq (x0 : Vec Ideal S256x4096 .bf16) (x1 : Vec Ideal S4096x1024 .bf16) (x2 : Vec Ideal S256x1024 .f32) (x3 x4 : Vec Ideal S1x1024 .f32) :
    out1_5 x0 x1 x2 x3 x4 = k1_pay1 x0 x1 x2 x3 x4 := by
  unfold out1_5
  refine (View.canon_cons_unit_zero (S := S256x1024) zeros2 _ _ _).trans ?_
  refine (congrArg₂ (fun a b => k1_pay1 a b _ _ _) (View.ld_unit_zero (S := S256x4096) zeros2 _ _) (View.ld_unit_zero (S := S4096x1024) zeros2 _ _)).trans ?_
  refine (congrArg₂ (fun a b => k1_pay1 x0 x1 a b _) (View.ld_unit_zero (S := S256x1024) zeros2 _ _) (View.ld_unit_zero (S := S1x1024) zeros2 _ _)).trans ?_
  exact congrArg (k1_pay1 x0 x1 x2 x3) (View.ld_unit_zero (S := S1x1024) zeros2 _ _)

include hu hw hh hg hb in
theorem flushed1 (t : Fin cfg1.N) (_ : (cfg1.win 5).flush t = true) :
    (dat1 V c).flushed 5 t = ((cfg1.win 5).blk t).view.read (Elt Ideal) (rows u w h g b) := by
  show (cfg1.win 5).cut (grid1.coords t) ((dat1 V c).after 5 t) = _
  rw [after1_5]
  refine funext fun (j : S256x1024.Idx) => ?_
  have hj : j = ix2 (j 0 : Fin 256) (j 1 : Fin 1024) := by
    funext a
    match a with
    | ⟨0, _⟩ => rfl
    | ⟨1, _⟩ => rfl
  rw [hj]
  refine Eq.trans ?_ (place1 (rows u w h g b) t (j 0) (j 1)).symm
  refine (congrFun (out1_eq _ _ _ _ _) _).trans ((down_at _ _ _ _ _ _ _).trans ?_)
  exact normed_congr (fun l => block1_2 V c h hh t (j 0) l)
    (fun l => congrArg₂ (fun u v : Fin 4096 → EReal => dot u v) (funext fun k => block1_0 V c u hu t (j 0) k) (funext fun k => block1_1 V c w hw t k l))
    (fun l => block1_3 V c g hg t l) (fun l => block1_4 V c b hb t l) (j 1)

include hu hw hh hg hb in
/-- The array the second half leaves. -/
theorem array1 : (dat1 V c).arrAt 5 cfg1.N = rows u w h g b :=
  (dat1 V c).arrAt_eq_of_cover 5 (rows u w h g b) (flushed1 V c u w h g b hu hw hh hg hb) fun (i : S16384x1024.Idx) => by
    have h0 : (i 0 : Nat) < 16384 := (i 0).isLt
    have h1 : (i 1 : Nat) < 1024 := (i 1).isLt
    have ht : (i 0 : Nat) / 256 < cfg1.N := lt_of_lt_of_eq (by omega) N_1.symm
    refine ⟨⟨_, ht⟩, flush1_5 _, ?_⟩
    have e0 : (grid1.coords ⟨_, ht⟩ 0).val = (i 0 : Nat) / 256 := coord1_0 ⟨_, ht⟩
    show i ∈ ((View.whole main_v6).slice ((cfg1.win 5).rect ⟨_, ht⟩)).set
    refine (congrArg (i ∈ ·) (View.set_slice_whole _ _)).mpr (Rect.mem_set_unit.mpr fun a => ?_)
    match a with
    | ⟨0, _⟩ =>
      show (BitVec.ofNat 32 (grid1.coords ⟨_, ht⟩ 0).val).toNat * 256 ≤ (i 0 : Nat) ∧ (i 0 : Nat) < (BitVec.ofNat 32 (grid1.coords ⟨_, ht⟩ 0).val).toNat * 256 + 256
      rw [small _ (by omega), e0]; omega
    | ⟨1, _⟩ => show 0 * 1024 ≤ (i 1 : Nat) ∧ (i 1 : Nat) < 0 * 1024 + 1024; omega

end Cert.FeedForwardIdeal.Layer
end
-- ==== Proof.FeedForwardResult.lean ====
/- The feed-forward layer's result in its arguments. -/
module
public import proofs.«01_k».proof.Proof.FeedForwardRun
public import proofs.«01_k».proof.Proof.FeedForwardDown
public import Idealize.ShloMosaic.Lib.Pointwise
public import Idealize.ShloMosaic.Lib.StableHlo.RunRead
@[expose] public section
noncomputable section
namespace Cert.FeedForwardIdeal.Layer
open Cert.FeedForwardIdeal.Gen Cert.RowNorm
open Idealize.ShloMosaic Idealize.ShloMosaic.TcCoe Idealize.ShloMosaic.Tactic

variable (m : (ℓ : Loc nD τ sig) → Buf (Elt Ideal) ℓ) (ρ : Dev nD → PrngReg) (c : Dev nD)

/-- The arrays the two halves take, from the arguments. -/
def input (h : FVec Ideal S4x4096x1024 .f32) : FVec Ideal S16384x1024 .f32 := fun i =>
  h (ix3 (⟨(i 0).val / 4096, by have h0 : (i 0).val < 16384 := (i 0).isLt; omega⟩ : Fin 4) (⟨(i 0).val % 4096, by omega⟩ : Fin 4096) (i 1))
def lone (g : FVec Ideal S1024 .f32) : FVec Ideal S1x1024 .f32 := fun i => g (ix1 (i 1))

variable (h : FVec Ideal S4x4096x1024 .f32) (wu : FVec Ideal S1024x4096 .f32) (wd : FVec Ideal S4096x1024 .f32) (g b : FVec Ideal S1024 .f32)
  (e0 : m ((c : Thread nD τ).loc main_arg0) = h) (e1 : m ((c : Thread nD τ).loc main_arg1) = wu) (e2 : m ((c : Thread nD τ).loc main_arg2) = wd)
  (e3 : m ((c : Thread nD τ).loc main_arg3) = g) (e4 : m ((c : Thread nD τ).loc main_arg4) = b)

include e0 in
theorem input_eq : V1 m ρ c main_v0 = input h := by
  refine funext fun (i : S16384x1024.Idx) => ?_
  have H (r : Fin 16384) (l : Fin 1024) : V1 m ρ c main_v0 (ix2 r l) = m ((c : Thread nD τ).loc main_arg0) (ix3 (⟨r.val / 4096, by omega⟩ : Fin 4) (⟨r.val % 4096, by omega⟩ : Fin 4096) l) := by
    show StableHlo.after _ _ (Proc.devRef .tc main_v0) _ = _
    after_reads_simp
    pointwise []
  rw [eq_ix2 i]
  exact (H _ _).trans (congrFun e0 _)

include e1 in
theorem weights_up : V1 m ρ c main_v1 = wu := by
  refine funext fun (i : S1024x4096.Idx) => ?_
  have H (r : Fin 1024) (l : Fin 4096) : V1 m ρ c main_v1 (ix2 r l) = m ((c : Thread nD τ).loc main_arg1) (ix2 r l) := by
    show StableHlo.after _ _ (Proc.devRef .tc main_v1) _ = _
    after_reads_simp
    pointwise []
  rw [eq_ix2 i]
  exact (H _ _).trans (congrFun e1 _)

include e2 in
theorem weights_down : V3 m ρ c main_v3 = wd := by
  refine funext fun (i : S4096x1024.Idx) => ?_
  have H (r : Fin 4096) (l : Fin 1024) : V3 m ρ c main_v3 (ix2 r l) = W2 m ρ c (Proc.devRef .tc main_arg2) (ix2 r l) := by
    show StableHlo.after _ _ (Proc.devRef .tc main_v3) _ = _
    after_reads_simp
    pointwise []
  rw [eq_ix2 i]
  exact (H _ _).trans (congrFun ((W2_args m ρ c main_arg2 (by decide)).trans e2) _)

include e3 in
theorem gains : V3 m ρ c main_v4 = lone g := by
  refine funext fun (i : S1x1024.Idx) => ?_
  have H (r : Fin 1) (l : Fin 1024) : V3 m ρ c main_v4 (ix2 r l) = W2 m ρ c (Proc.devRef .tc main_arg3) (ix1 l) := by
    show StableHlo.after _ _ (Proc.devRef .tc main_v4) _ = _
    after_reads_simp
    pointwise []
  rw [eq_ix2 i]
  exact (H _ _).trans (congrFun ((W2_args m ρ c main_arg3 (by decide)).trans e3) _)

include e4 in
theorem offsets : V3 m ρ c main_v5 = lone b := by
  refine funext fun (i : S1x1024.Idx) => ?_
  have H (r : Fin 1) (l : Fin 1024) : V3 m ρ c main_v5 (ix2 r l) = W2 m ρ c (Proc.devRef .tc main_arg4) (ix1 l) := by
    show StableHlo.after _ _ (Proc.devRef .tc main_v5) _ = _
    after_reads_simp
    pointwise []
  rw [eq_ix2 i]
  exact (H _ _).trans (congrFun ((W2_args m ρ c main_arg4 (by decide)).trans e4) _)

include e0 e1 in
theorem hidden_eq : V3 m ρ c main_v2 = units (input h) wu :=
  (W3_of m ρ c main_v2 (by decide)).trans
    ((W2_arr m ρ c 2).trans (array0 (V1 m ρ) c _ _ (input_eq m ρ c h e0) (weights_up m ρ c wu e1)))

include e0 in
theorem input_later : V3 m ρ c main_v0 = input h :=
  (W3_of m ρ c main_v0 (by decide)).trans ((W2_of m ρ c main_v0 (by decide)).trans (input_eq m ρ c h e0))

include e0 e1 e2 e3 e4 in
theorem rows_eq : W4 m ρ c (Proc.devRef .tc main_v6) = rows (units (input h) wu) wd (input h) (lone g) (lone b) :=
  (W4_arr m ρ c 5).trans (array1 (V3 m ρ) c _ _ _ _ _ (hidden_eq m ρ c h wu e0 e1) (weights_down m ρ c wd e2) (input_later m ρ c h e0)
    (gains m ρ c g e3) (offsets m ρ c b e4))

/-- The row of a token of a sequence. -/
def flat (s : Fin 4) (t : Fin 4096) : Fin 16384 := ⟨s.val * 4096 + t.val, by omega⟩

/-- The layer of the arguments. -/
def layer : FVec Ideal S4x4096x1024 .f32 := fun i =>
  rows (units (input h) wu) wd (input h) (lone g) (lone b) (ix2 (flat (i 0) (i 1)) (i 2))

include e0 e1 e2 e3 e4 in
theorem layer_eq : W5 m ρ c (Proc.devRef .tc main_v7) = layer h wu wd g b := by
  refine funext fun (i : S4x4096x1024.Idx) => ?_
  have H (s : Fin 4) (t : Fin 4096) (l : Fin 1024) : W5 m ρ c (Proc.devRef .tc main_v7) (ix3 s t l)
      = W4 m ρ c (Proc.devRef .tc main_v6) (ix2 (flat s t) l) := by
    show StableHlo.after _ _ (Proc.devRef .tc main_v7) _ = _
    after_reads_simp
    pointwise [flat]
  rw [eq_ix3 i]
  exact (H _ _ _).trans (congrFun (rows_eq m ρ c h wu wd g b e0 e1 e2 e3 e4) _)

/-- The run: the result at the layer of the arguments, the arguments unchanged. -/
theorem run_result : θ_run defs (onTc (τ := τ) (main (F := Ideal))) ⟨m, fun _ => 0, ρ⟩ fun r => ∀ c : Dev nD,
      r.2.mem ((c : Thread nD τ).loc main_v7) = layer (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c _ (mem_uc main_v7 (by decide))).trans (layer_eq m ρ c _ _ _ _ _ rfl rfl rfl rfl rfl),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (final m ρ)

end Cert.FeedForwardIdeal.Layer
end
-- ==== Proof.FeedForwardReference.lean ====
/- The feed-forward layer's reference, read at an index. -/
module
public import proofs.«01_k».proof.Proof.Gen.FeedForwardReferenceIdeal.Run
public import proofs.«01_k».proof.Proof.RowNorm
public import Idealize.ShloMosaic.Lib.IdealHost
@[expose] public section
noncomputable section
namespace Cert.FeedForwardReferenceIdeal.Layer
open Cert.FeedForwardReferenceIdeal Cert.FeedForwardReferenceIdeal.Gen Cert.FeedForwardReferenceIdeal.Value Cert.RowNorm Idealize.ShloMosaic

variable (m : (ℓ : Loc nD τ sig) → Buf (Elt Ideal) ℓ) (c : Dev nD) (h : FVec Ideal S4x4096x1024 .f32) (wu : FVec Ideal S1024x4096 .f32)
  (wd : FVec Ideal S4096x1024 .f32) (g b : FVec Ideal S1024 .f32)
  (e0 : m ((c.tc : Thread nD τ).loc main_arg0) = h) (e1 : m ((c.tc : Thread nD τ).loc main_arg1) = wu) (e2 : m ((c.tc : Thread nD τ).loc main_arg2) = wd)
  (e3 : m ((c.tc : Thread nD τ).loc main_arg3) = g) (e4 : m ((c.tc : Thread nD τ).loc main_arg4) = b)

include e0 e1 e2 e3 e4 in
theorem result_at (s : Fin 4) (t : Fin 4096) (l : Fin 1024) :
    (res_main_v30 m c : FVec Ideal S4x4096x1024 .f32) (ix3 s t l) =
      normed (skip (fun j => h (ix3 s t j)) fun j => dot (fun k : Fin 4096 => max (dot (fun i : Fin 1024 => h (ix3 s t i)) fun i => wu (ix2 i k)) 0 * max (dot (fun i : Fin 1024 => h (ix3 s t i)) fun i => wu (ix2 i k)) 0) fun k => wd (ix2 k j))
        (fun j => g (ix1 j)) (fun j => b (ix1 j)) l := by
  unfold res_main_v30
  rw [e0, e1, e2, e3, e4]
  pointwise [normed, skip, dot, mean, alpha, width, eps]

end Cert.FeedForwardReferenceIdeal.Layer
end
-- ==== Proof.FeedForwardClaims.lean ====
/- The claims about the feed-forward layer. -/
module
public import proofs.«01_k».proof.Defs
public import proofs.«01_k».proof.Proof.FeedForwardResult
public import proofs.«01_k».proof.Proof.FeedForwardReference
public import proofs.«01_k».proof.Proof.Gen.FeedForward.Frame
@[expose] public section
noncomputable section
namespace Cert.FeedForwardClaims
open Idealize.ShloMosaic Idealize.SL.Sem Cert.RowNorm Cert.FeedForwardIdeal.Layer

theorem kernel : Cert.quiescent_FeedForward := fun m g _ => Cert.FeedForward.Gen.frame m g

theorem frame : Cert.quiescent_FeedForwardIdeal := fun m g _ => Cert.FeedForwardIdeal.Gen.frame m g

theorem reference : Cert.quiescent_FeedForwardReferenceIdeal := fun m g _ =>
  (θ_run Cert.FeedForwardReferenceIdeal.defs _ _).mono (fun r h => ⟨fun c => (h c).2, Idealize.ShloMosaic.sem_eq_zero_of_no_sems (by decide) r.2⟩)
    (Cert.FeedForwardReferenceIdeal.Value.run (F := Ideal) m g)

theorem preserves : Cert.preserves_FeedForward_FeedForwardIdeal := trivial

open Cert.FeedForwardIdeal in
/-- A token's row of the flattened input is the token's row. -/
theorem input_flat (h : FVec Ideal S4x4096x1024 .f32) (s : Fin 4) (t : Fin 4096) (j : Fin 1024) : input h (ix2 (flat s t) j) = h (ix3 s t j) := by
  have e0 : (⟨(flat s t).val / 4096, by have := (flat s t).isLt; omega⟩ : Fin 4) = s := Fin.ext (show (s.val * 4096 + t.val) / 4096 = s.val by omega)
  have e1 : (⟨(flat s t).val % 4096, by omega⟩ : Fin 4096) = t := Fin.ext (show (s.val * 4096 + t.val) % 4096 = t.val by omega)
  exact congrArg₂ (fun a b => h (ix3 a b j)) e0 e1

open Cert.FeedForwardIdeal in
/-- One entry of the layer. -/
theorem layer_at (h : FVec Ideal S4x4096x1024 .f32) (wu : FVec Ideal S1024x4096 .f32) (wd : FVec Ideal S4096x1024 .f32) (g b : FVec Ideal S1024 .f32)
    (s : Fin 4) (t : Fin 4096) (l : Fin 1024) :
    layer h wu wd g b (ix3 s t l) =
      normed (skip (fun j => h (ix3 s t j)) fun j => dot (fun k : Fin 4096 => max (dot (fun i : Fin 1024 => h (ix3 s t i)) fun i => wu (ix2 i k)) 0 * max (dot (fun i : Fin 1024 => h (ix3 s t i)) fun i => wu (ix2 i k)) 0) fun k => wd (ix2 k j))
        (fun j => g (ix1 j)) (fun j => b (ix1 j)) l := by
  show normed (skip (fun j => input h (ix2 (flat s t) j)) fun j => dot (fun k => units (input h) wu (ix2 (flat s t) k)) fun k => wd (ix2 k j))
    (fun j => g (ix1 j)) (fun j => b (ix1 j)) l = _
  refine normed_congr (input_flat h s t) (fun j => ?_) (fun _ => rfl) (fun _ => rfl) l
  refine congrArg (fun u : Fin 4096 → EReal => dot u fun k => wd (ix2 k j)) (funext fun k => ?_)
  refine congrArg (fun s : EReal => max s 0 * max s 0) ?_
  exact congrArg (fun u : Fin 1024 → EReal => dot u fun i => wu (ix2 i k)) (funext fun i => input_flat h s t i)

/-- The kernel's result is the reference's. -/
theorem algebraic : Cert.algebraic_FeedForwardIdeal_FeedForwardReferenceIdeal := fun m g m' g' _ hm => by
  refine ⟨fun c => _, run_result m g, ?_⟩
  refine (θ_run Cert.FeedForwardReferenceIdeal.defs _ _).mono (fun r h c => ⟨(h c).1.trans ?_, (h c).2⟩) (Cert.FeedForwardReferenceIdeal.Value.run (F := Ideal) m' g')
  obtain ⟨e0, e1, e2, e3, e4⟩ := hm c
  refine funext fun (i : Cert.FeedForwardIdeal.S4x4096x1024.Idx) => ?_
  rw [eq_ix3 i]
  exact (Cert.FeedForwardReferenceIdeal.Layer.result_at m' c _ _ _ _ _ e0 e1 e2 e3 e4 (i 0) (i 1) (i 2)).trans (layer_at _ _ _ _ _ (i 0) (i 1) (i 2)).symm

end Cert.FeedForwardClaims

end
-- ==== Proof.ProjectProduct.lean ====
/- The input projection: the array its kernel leaves is the product of its two arrays. -/
module
public import proofs.«01_k».proof.Proof.Gen.ProjectIdeal.Frame
public import proofs.«01_k».proof.Proof.RowNorm
public import proofs.«01_k».proof.Proof.Blocks
@[expose] public section
noncomputable section
namespace Cert.ProjectIdeal.Layer
open Cert.ProjectIdeal.Gen Cert.RowNorm Cert.Blocks
open Idealize.ShloMosaic Idealize.ShloMosaic.TcCoe Idealize.ShloMosaic.Tactic

/-- The body: the product of the two blocks. -/
theorem body_at (x : Vec Ideal S512x1024 .f32) (w : Vec Ideal S1024x640 .bf16) (r : Fin 512) (l : Fin 640) :
    k0_pay1 x w (ix2 r l) = dot (fun k : Fin 1024 => x (ix2 r k)) fun k => w (ix2 k l) := by
  pointwise [k0_pay1, dot]

theorem body_eq (x : Vec Ideal S512x1024 .f32) (w : Vec Ideal S1024x640 .bf16) : out0_2 x w = k0_pay1 x w := by
  unfold out0_2
  refine (View.canon_cons_unit_zero (S := S512x640) zeros2 _ _ _).trans ?_
  exact congrArg₂ k0_pay1 (View.ld_unit_zero (S := S512x1024) zeros2 _ _) (View.ld_unit_zero (S := S1024x640) zeros2 _ _)

/-- Point `t` is block row `t / 5` and block column `t % 5`. -/
theorem coord_0 (t : Fin grid0.N) : (grid0.coords t 0).val = t.val / 5 := by
  have h : (grid0.coords t 0).val = t.val / 5 % 32 := Pipeline.Grid.coords_val t 0 (by decide) rfl
  have ht : t.val < 160 := lt_of_lt_of_eq t.isLt N_0
  omega

theorem coord_1 (t : Fin grid0.N) : (grid0.coords t 1).val = t.val % 5 := by
  have h : (grid0.coords t 1).val = t.val / 1 % 5 := Pipeline.Grid.coords_val t 1 (by decide) rfl
  omega

def row (t : Fin cfg0.N) (y : Fin 512) : Fin 16384 := ⟨t.val / 5 * 512 + y.val, by have ht : t.val < 160 := lt_of_lt_of_eq t.isLt N_0; omega⟩
def col (t : Fin cfg0.N) (z : Fin 640) : Fin 3200 := ⟨t.val % 5 * 640 + z.val, by omega⟩

/-- The product of a matrix of rows and the weights. -/
def product (x : FVec Ideal S16384x1024 .f32) (w : FVec Ideal S1024x3200 .bf16) : FVec Ideal S16384x3200 .f32 := fun i =>
  dot (fun k : Fin 1024 => x (ix2 (i 0) k)) fun k => w (ix2 k (i 1))

variable (m : (ℓ : Loc nD τ sig) → Buf (Elt Ideal) ℓ) (c : Dev nD)
  (x : FVec Ideal S16384x1024 .f32) (w : FVec Ideal S1024x3200 .bf16) (hx : V m c main_v2 = x) (hw : V m c main_v1 = w)

include hx in
theorem block_0 (t : Fin cfg0.N) (y : Fin 512) (z : Fin 1024) : iblk m c 0 t (ix2 y z) = x (ix2 (row t y) z) := by
  unfold iblk
  refine (View.read_apply ..).trans ?_
  refine (congrFun hx _).trans ?_
  refine congrArg x (funext fun a => Fin.ext ?_)
  have e0 := coord_0 t
  have h0 : t.val < 160 := lt_of_lt_of_eq t.isLt N_0
  match a with
  | ⟨0, _⟩ => show (BitVec.ofNat 32 (grid0.coords t 0).val).toNat * 512 + 1 * y.val = t.val / 5 * 512 + y.val; rw [small _ (by omega), e0]; omega
  | ⟨1, _⟩ => show 0 * 1024 + 1 * z.val = z.val; omega

include hw in
theorem block_1 (t : Fin cfg0.N) (y : Fin 1024) (z : Fin 640) : iblk m c 1 t (ix2 y z) = w (ix2 y (col t z)) := by
  unfold iblk
  refine (View.read_apply ..).trans ?_
  refine (congrFun hw _).trans ?_
  refine congrArg w (funext fun a => Fin.ext ?_)
  have e1 := coord_1 t
  match a with
  | ⟨0, _⟩ => show 0 * 1024 + 1 * y.val = y.val; omega
  | ⟨1, _⟩ => show (BitVec.ofNat 32 (grid0.coords t 1).val).toNat * 640 + 1 * z.val = t.val % 5 * 640 + z.val; rw [small _ (by omega), e1]; omega

/-- Where the result's block lies. -/
theorem place (G : FVec Ideal S16384x3200 .f32) (t : Fin cfg0.N) (y : Fin 512) (z : Fin 640) :
    ((cfg0.win 2).blk t).view.read (Elt Ideal) G (ix2 y z) = G (ix2 (row t y) (col t z)) := by
  refine (View.read_apply ..).trans ?_
  show G _ = G (ix2 (row t y) (col t z))
  refine congrArg G (funext fun a => Fin.ext ?_)
  have e0 := coord_0 t
  have e1 := coord_1 t
  have h0 : t.val < 160 := lt_of_lt_of_eq t.isLt N_0
  match a with
  | ⟨0, _⟩ => show (BitVec.ofNat 32 (grid0.coords t 0).val).toNat * 512 + 1 * y.val = t.val / 5 * 512 + y.val; rw [small _ (by omega), e0]; omega
  | ⟨1, _⟩ => show (BitVec.ofNat 32 (grid0.coords t 1).val).toNat * 640 + 1 * z.val = t.val % 5 * 640 + z.val; rw [small _ (by omega), e1]; omega

include hx hw in
theorem flushed (t : Fin cfg0.N) (_ : (cfg0.win 2).flush t = true) :
    (dats m 0 c).flushed 2 t = ((cfg0.win 2).blk t).view.read (Elt Ideal) (product x w) := by
  show (cfg0.win 2).cut (grid0.coords t) ((dats m 0 c).after 2 t) = _
  rw [after0_2]
  refine funext fun (j : S512x640.Idx) => ?_
  rw [eq_ix2 j]
  refine Eq.trans ?_ (place (product x w) t (j 0) (j 1)).symm
  refine (congrFun (body_eq _ _) _).trans ((body_at _ _ _ _).trans ?_)
  exact dot_congr (fun k => block_0 m c x hx t (j 0) k) (fun k => block_1 m c w hw t k (j 1))

include hx hw in
/-- The array the kernel leaves. -/
theorem array : (dats m 0 c).arrAt 2 cfg0.N = product x w :=
  (dats m 0 c).arrAt_eq_of_cover 2 (product x w) (flushed m c x w hx hw) fun (i : S16384x3200.Idx) => by
    have h0 : (i 0 : Nat) < 16384 := (i 0).isLt
    have h1 : (i 1 : Nat) < 3200 := (i 1).isLt
    have ht : (i 0 : Nat) / 512 * 5 + (i 1 : Nat) / 640 < cfg0.N := lt_of_lt_of_eq (by omega) N_0.symm
    refine ⟨⟨_, ht⟩, flush0_2 _, ?_⟩
    have e0 : (grid0.coords ⟨_, ht⟩ 0).val = ((i 0 : Nat) / 512 * 5 + (i 1 : Nat) / 640) / 5 := coord_0 ⟨_, ht⟩
    have e1 : (grid0.coords ⟨_, ht⟩ 1).val = ((i 0 : Nat) / 512 * 5 + (i 1 : Nat) / 640) % 5 := coord_1 ⟨_, ht⟩
    show i ∈ ((View.whole main_v3).slice ((cfg0.win 2).rect ⟨_, ht⟩)).set
    refine (congrArg (i ∈ ·) (View.set_slice_whole _ _)).mpr (Rect.mem_set_unit.mpr fun a => ?_)
    match a with
    | ⟨0, _⟩ =>
      show (BitVec.ofNat 32 (grid0.coords ⟨_, ht⟩ 0).val).toNat * 512 ≤ (i 0 : Nat) ∧ (i 0 : Nat) < (BitVec.ofNat 32 (grid0.coords ⟨_, ht⟩ 0).val).toNat * 512 + 512
      rw [small _ (by omega), e0]; omega
    | ⟨1, _⟩ =>
      show (BitVec.ofNat 32 (grid0.coords ⟨_, ht⟩ 1).val).toNat * 640 ≤ (i 1 : Nat) ∧ (i 1 : Nat) < (BitVec.ofNat 32 (grid0.coords ⟨_, ht⟩ 1).val).toNat * 640 + 640
      rw [small _ (by omega), e1]; omega

end Cert.ProjectIdeal.Layer
end
-- ==== Proof.ProjectResult.lean ====
/- The input projection's result in its arguments: the columns added to the weights are cut off again. -/
module
public import proofs.«01_k».proof.Proof.ProjectProduct
public import Idealize.ShloMosaic.Lib.Pointwise
public import Idealize.ShloMosaic.Lib.StableHlo.RunRead
@[expose] public section
noncomputable section
namespace Cert.ProjectIdeal.Layer
open Cert.ProjectIdeal.Gen Cert.RowNorm
open Idealize.ShloMosaic Idealize.ShloMosaic.TcCoe Idealize.ShloMosaic.Tactic

variable (m : (ℓ : Loc nD τ sig) → Buf (Elt Ideal) ℓ) (ρ : Dev nD → PrngReg) (c : Dev nD)
  (x : FVec Ideal S4x4096x1024 .f32) (w : FVec Ideal S1024x3112 .f32)
  (e0 : m ((c : Thread nD τ).loc main_arg0) = x) (e1 : m ((c : Thread nD τ).loc main_arg1) = w)

include e0 in
theorem input_at (s : Fin 4) (t : Fin 4096) (l : Fin 1024) : V m c main_v2 (ix2 (⟨s.val * 4096 + t.val, by omega⟩ : Fin 16384) l) = x (ix3 s t l) := by
  have H (r : Fin 16384) (l : Fin 1024) : V m c main_v2 (ix2 r l) = m ((c : Thread nD τ).loc main_arg0) (ix3 (⟨r.val / 4096, by omega⟩ : Fin 4) (⟨r.val % 4096, by omega⟩ : Fin 4096) l) := by
    show StableHlo.after _ _ (Proc.devRef .tc main_v2) _ = _
    after_reads_simp
    pointwise []
  refine (H _ l).trans ((congrFun e0 _).trans ?_)
  exact congrArg₂ (fun a b => x (ix3 a b l)) (Fin.ext (show (s.val * 4096 + t.val) / 4096 = s.val by omega)) (Fin.ext (show (s.val * 4096 + t.val) % 4096 = t.val by omega))

include e1 in
theorem weights_at (k : Fin 1024) (l : Fin 3112) : V m c main_v1 (ix2 k (⟨l.val, by omega⟩ : Fin 3200)) = w (ix2 k l) := by
  refine Eq.trans ?_ (congrFun e1 _)
  show StableHlo.after _ _ (Proc.devRef .tc main_v1) _ = _
  after_reads_simp
  simp only [StableHlo.TRef.toBuf, StableHlo.TRef.ofBuf, cast_eq]
  pointwise [id]

set_option maxRecDepth 16384 in
/-- What the lines after the kernel do to the array it leaves. -/
theorem after_at (G : Valuation τ sig (Elt Ideal)) (s : Fin 4) (t : Fin 4096) (l : Fin 3112) :
    StableHlo.after hostOps1 G (Proc.devRef .tc main_v5) (ix3 s t l)
      = G (Proc.devRef .tc main_v3) (ix2 (⟨s.val * 4096 + t.val, by omega⟩ : Fin 16384) (⟨l.val, by omega⟩ : Fin 3200)) := by
  after_reads_simp
  pointwise []

/-- The projection of the arguments. -/
def layer : FVec Ideal S4x4096x3112 .f32 := fun i => dot (fun k : Fin 1024 => x (ix3 (i 0) (i 1) k)) fun k => w (ix2 k (i 2))

include e0 e1 in
theorem layer_eq : Pipeline.afterTail₀ cfgs (dats m) 0 (V0 m) [hostOps1] c main_v5 = layer x w := by
  refine funext fun (i : S4x4096x3112.Idx) => ?_
  rw [eq_ix3 i]
  refine (after_at _ (i 0) (i 1) (i 2)).trans ?_
  refine (congrFun ((Pipeline.withArrays_arr spec0 launch0.win.arr_inj c _ _ 2).trans (array m c _ _ rfl rfl)) _).trans ?_
  exact dot_congr (fun k => input_at m c x e0 (i 0) (i 1) k) (fun k => weights_at m c w e1 k (i 2))

/-- The run: the result at the projection of the arguments, the arguments unchanged. -/
theorem run_result : θ_run defs (onTc (τ := τ) (main (F := Ideal))) ⟨m, fun _ => 0, ρ⟩ fun r => ∀ c : Dev nD,
      r.2.mem ((c : Thread nD τ).loc main_v5) = layer (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (layer_eq m c _ _ rfl rfl),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.ProjectIdeal.Layer
end
-- ==== Proof.ProjectClaims.lean ====
/- The claims about the input projection. -/
module
public import proofs.«01_k».proof.Defs
public import proofs.«01_k».proof.Proof.ProjectResult
public import proofs.«01_k».proof.Proof.Gen.Project.Frame
public import proofs.«01_k».proof.Proof.Gen.ProjectReferenceIdeal.Run
public import Idealize.ShloMosaic.Lib.IdealHost
@[expose] public section
noncomputable section
namespace Cert.ProjectClaims
open Idealize.ShloMosaic Idealize.SL.Sem Cert.RowNorm Cert.ProjectIdeal.Layer

theorem kernel : Cert.quiescent_Project := fun m g _ => Cert.Project.Gen.frame m g

theorem frame : Cert.quiescent_ProjectIdeal := fun m g _ => Cert.ProjectIdeal.Gen.frame m g

theorem reference : Cert.quiescent_ProjectReferenceIdeal := fun m g _ =>
  (θ_run Cert.ProjectReferenceIdeal.defs _ _).mono (fun r h => ⟨fun c => (h c).2, Idealize.ShloMosaic.sem_eq_zero_of_no_sems (by decide) r.2⟩)
    (Cert.ProjectReferenceIdeal.Value.run (F := Ideal) m g)

theorem preserves : Cert.preserves_Project_ProjectIdeal := trivial

open Cert.ProjectReferenceIdeal Cert.ProjectReferenceIdeal.Gen in
/-- One entry of the reference's product. -/
theorem product_at (x : FVec Ideal S4x4096x1024 .f32) (w : FVec Ideal S1024x3112 .f32) (s : Fin 4) (t : Fin 4096) (l : Fin 3112) :
    Host.dotGeneral dot_S4x4096x1024_S1024x3112_S4x4096x3112_2_0_01_1_n_n none x w (ix3 s t l) = dot (fun k : Fin 1024 => x (ix3 s t k)) fun k => w (ix2 k l) := by
  pointwise [dot]

/-- The kernel's result is the reference's. -/
theorem algebraic : Cert.algebraic_ProjectIdeal_ProjectReferenceIdeal := fun m g m' g' _ hm => by
  refine ⟨fun c => _, run_result m g, ?_⟩
  refine (θ_run Cert.ProjectReferenceIdeal.defs _ _).mono (fun r h c => ⟨(h c).1.trans ?_, (h c).2⟩) (Cert.ProjectReferenceIdeal.Value.run (F := Ideal) m' g')
  obtain ⟨e0, e1⟩ := hm c
  rw [e0, e1]
  refine funext fun (i : Cert.ProjectIdeal.S4x4096x3112.Idx) => ?_
  rw [eq_ix3 i]
  exact product_at _ _ (i 0) (i 1) (i 2)

end Cert.ProjectClaims

end
-- ==== Proof.MixOutRows.lean ====
/- The mixer's output projection: the array its kernel leaves is the normalized sum of the scaled input and the product. -/
module
public import proofs.«01_k».proof.Proof.Gen.MixOutIdeal.Frame
public import proofs.«01_k».proof.Proof.RowNorm
public import proofs.«01_k».proof.Proof.Blocks
@[expose] public section
noncomputable section
namespace Cert.MixOutIdeal.Layer
open Cert.MixOutIdeal.Gen Cert.RowNorm Cert.Blocks
open Idealize.ShloMosaic Idealize.ShloMosaic.TcCoe Idealize.ShloMosaic.Tactic

/-- The body: the normalized row. -/
theorem body_at (x : Vec Ideal S256x1024 .f32) (w : Vec Ideal S1024x1024 .bf16) (h : Vec Ideal S256x1024 .f32) (g b : Vec Ideal S1x1024 .f32) (r : Fin 256) (l : Fin 1024) :
    k0_pay1 x w h g b (ix2 r l) = normed (skip (fun j => h (ix2 r j)) fun j => dot (fun k : Fin 1024 => x (ix2 r k)) fun k => w (ix2 k j)) (fun j => g (ix2 0 j)) (fun j => b (ix2 0 j)) l := by
  pointwise [k0_pay1, normed, skip, dot, mean, alpha, width, eps]

theorem body_eq (x0 : Vec Ideal S256x1024 .f32) (x1 : Vec Ideal S1024x1024 .bf16) (x2 : Vec Ideal S256x1024 .f32) (x3 x4 : Vec Ideal S1x1024 .f32) :
    out0_5 x0 x1 x2 x3 x4 = k0_pay1 x0 x1 x2 x3 x4 := by
  unfold out0_5
  refine (View.canon_cons_unit_zero (S := S256x1024) zeros2 _ _ _).trans ?_
  refine (congrArg₂ (fun a b => k0_pay1 a b _ _ _) (View.ld_unit_zero (S := S256x1024) zeros2 _ _) (View.ld_unit_zero (S := S1024x1024) zeros2 _ _)).trans ?_
  refine (congrArg₂ (fun a b => k0_pay1 x0 x1 a b _) (View.ld_unit_zero (S := S256x1024) zeros2 _ _) (View.ld_unit_zero (S := S1x1024) zeros2 _ _)).trans ?_
  exact congrArg (k0_pay1 x0 x1 x2 x3) (View.ld_unit_zero (S := S1x1024) zeros2 _ _)

/-- Point `t` is block row `t`. -/
theorem coord (t : Fin grid0.N) : (grid0.coords t 0).val = t.val := by
  have h : (grid0.coords t 0).val = t.val / 1 % 64 := Pipeline.Grid.coords_val t 0 (by decide) rfl
  have ht : t.val < 64 := lt_of_lt_of_eq t.isLt N_0
  omega

def row (t : Fin cfg0.N) (y : Fin 256) : Fin 16384 := ⟨t.val * 256 + y.val, by have ht : t.val < 64 := lt_of_lt_of_eq t.isLt N_0; omega⟩

/-- The rows of the layer. -/
def rows (x : FVec Ideal S16384x1024 .f32) (w : FVec Ideal S1024x1024 .bf16) (h : FVec Ideal S16384x1024 .f32) (g b : FVec Ideal S1x1024 .f32) :
    FVec Ideal S16384x1024 .f32 := fun i =>
  normed (skip (fun j => h (ix2 (i 0) j)) fun j => dot (fun k : Fin 1024 => x (ix2 (i 0) k)) fun k => w (ix2 k j)) (fun j => g (ix2 0 j)) (fun j => b (ix2 0 j)) (i 1)

variable (m : (ℓ : Loc nD τ sig) → Buf (Elt Ideal) ℓ) (c : Dev nD)
  (x : FVec Ideal S16384x1024 .f32) (w : FVec Ideal S1024x1024 .bf16) (h : FVec Ideal S16384x1024 .f32) (g b : FVec Ideal S1x1024 .f32)
  (hx : V m c main_v0 = x) (hw : V m c main_v1 = w) (hh : V m c main_v2 = h) (hg : V m c main_v3 = g) (hb : V m c main_v4 = b)

include hx in
theorem block_0 (t : Fin cfg0.N) (y : Fin 256) (z : Fin 1024) : iblk m c 0 t (ix2 y z) = x (ix2 (row t y) z) := by
  unfold iblk
  refine (View.read_apply ..).trans ((congrFun hx _).trans ?_)
  refine congrArg x (funext fun a => Fin.ext ?_)
  have e0 := coord t
  have h0 : t.val < 64 := lt_of_lt_of_eq t.isLt N_0
  match a with
  | ⟨0, _⟩ => show (BitVec.ofNat 32 (grid0.coords t 0).val).toNat * 256 + 1 * y.val = t.val * 256 + y.val; rw [small _ (by omega), e0]; omega
  | ⟨1, _⟩ => show 0 * 1024 + 1 * z.val = z.val; omega

include hw in
theorem block_1 (t : Fin cfg0.N) (y : Fin 1024) (z : Fin 1024) : iblk m c 1 t (ix2 y z) = w (ix2 y z) := by
  unfold iblk
  refine (View.read_apply ..).trans ((congrFun hw _).trans ?_)
  refine congrArg w (funext fun a => Fin.ext ?_)
  match a with
  | ⟨0, _⟩ => show 0 * 1024 + 1 * y.val = y.val; omega
  | ⟨1, _⟩ => show 0 * 1024 + 1 * z.val = z.val; omega

include hh in
theorem block_2 (t : Fin cfg0.N) (y : Fin 256) (z : Fin 1024) : iblk m c 2 t (ix2 y z) = h (ix2 (row t y) z) := by
  unfold iblk
  refine (View.read_apply ..).trans ((congrFun hh _).trans ?_)
  refine congrArg h (funext fun a => Fin.ext ?_)
  have e0 := coord t
  have h0 : t.val < 64 := lt_of_lt_of_eq t.isLt N_0
  match a with
  | ⟨0, _⟩ => show (BitVec.ofNat 32 (grid0.coords t 0).val).toNat * 256 + 1 * y.val = t.val * 256 + y.val; rw [small _ (by omega), e0]; omega
  | ⟨1, _⟩ => show 0 * 1024 + 1 * z.val = z.val; omega

include hg in
theorem block_3 (t : Fin cfg0.N) (z : Fin 1024) : iblk m c 3 t (ix2 0 z) = g (ix2 0 z) := by
  unfold iblk
  refine (View.read_apply ..).trans ((congrFun hg _).trans ?_)
  refine congrArg g (funext fun a => Fin.ext ?_)
  match a with
  | ⟨0, _⟩ => rfl
  | ⟨1, _⟩ => show 0 * 1024 + 1 * z.val = z.val; omega

include hb in
theorem block_4 (t : Fin cfg0.N) (z : Fin 1024) : iblk m c 4 t (ix2 0 z) = b (ix2 0 z) := by
  unfold iblk
  refine (View.read_apply ..).trans ((congrFun hb _).trans ?_)
  refine congrArg b (funext fun a => Fin.ext ?_)
  match a with
  | ⟨0, _⟩ => rfl
  | ⟨1, _⟩ => show 0 * 1024 + 1 * z.val = z.val; omega

/-- Where the result's block lies. -/
theorem place (G : FVec Ideal S16384x1024 .f32) (t : Fin cfg0.N) (y : Fin 256) (z : Fin 1024) :
    ((cfg0.win 5).blk t).view.read (Elt Ideal) G (ix2 y z) = G (ix2 (row t y) z) := by
  refine (View.read_apply ..).trans ?_
  show G _ = G (ix2 (row t y) z)
  refine congrArg G (funext fun a => Fin.ext ?_)
  have e0 := coord t
  have h0 : t.val < 64 := lt_of_lt_of_eq t.isLt N_0
  match a with
  | ⟨0, _⟩ => show (BitVec.ofNat 32 (grid0.coords t 0).val).toNat * 256 + 1 * y.val = t.val * 256 + y.val; rw [small _ (by omega), e0]; omega
  | ⟨1, _⟩ => show 0 * 1024 + 1 * z.val = z.val; omega

include hx hw hh hg hb in
theorem flushed (t : Fin cfg0.N) (_ : (cfg0.win 5).flush t = true) :
    (dats m 0 c).flushed 5 t = ((cfg0.win 5).blk t).view.read (Elt Ideal) (rows x w h g b) := by
  show (cfg0.win 5).cut (grid0.coords t) ((dats m 0 c).after 5 t) = _
  rw [after0_5]
  refine funext fun (j : S256x1024.Idx) => ?_
  rw [eq_ix2 j]
  refine Eq.trans ?_ (place (rows x w h g b) t (j 0) (j 1)).symm
  refine (congrFun (body_eq _ _ _ _ _) _).trans ((body_at _ _ _ _ _ _ _).trans ?_)
  exact normed_congr (fun l => block_2 m c h hh t (j 0) l)
    (fun l => dot_congr (fun k => block_0 m c x hx t (j 0) k) (fun k => block_1 m c w hw t k l))
    (fun l => block_3 m c g hg t l) (fun l => block_4 m c b hb t l) (j 1)

include hx hw hh hg hb in
/-- The array the kernel leaves. -/
theorem array : (dats m 0 c).arrAt 5 cfg0.N = rows x w h g b :=
  (dats m 0 c).arrAt_eq_of_cover 5 (rows x w h g b) (flushed m c x w h g b hx hw hh hg hb) fun (i : S16384x1024.Idx) => by
    have h0 : (i 0 : Nat) < 16384 := (i 0).isLt
    have h1 : (i 1 : Nat) < 1024 := (i 1).isLt
    have ht : (i 0 : Nat) / 256 < cfg0.N := lt_of_lt_of_eq (by omega) N_0.symm
    refine ⟨⟨_, ht⟩, flush0_5 _, ?_⟩
    have e0 : (grid0.coords ⟨_, ht⟩ 0).val = (i 0 : Nat) / 256 := coord ⟨_, ht⟩
    show i ∈ ((View.whole main_v5).slice ((cfg0.win 5).rect ⟨_, ht⟩)).set
    refine (congrArg (i ∈ ·) (View.set_slice_whole _ _)).mpr (Rect.mem_set_unit.mpr fun a => ?_)
    match a with
    | ⟨0, _⟩ =>
      show (BitVec.ofNat 32 (grid0.coords ⟨_, ht⟩ 0).val).toNat * 256 ≤ (i 0 : Nat) ∧ (i 0 : Nat) < (BitVec.ofNat 32 (grid0.coords ⟨_, ht⟩ 0).val).toNat * 256 + 256
      rw [small _ (by omega), e0]; omega
    | ⟨1, _⟩ => show 0 * 1024 ≤ (i 1 : Nat) ∧ (i 1 : Nat) < 0 * 1024 + 1024; omega

end Cert.MixOutIdeal.Layer
end
-- ==== Proof.MixOutResult.lean ====
/- The mixer's output projection's result in its arguments. -/
module
public import proofs.«01_k».proof.Proof.MixOutRows
public import Idealize.ShloMosaic.Lib.Pointwise
public import Idealize.ShloMosaic.Lib.StableHlo.RunRead
@[expose] public section
noncomputable section
namespace Cert.MixOutIdeal.Layer
open Cert.MixOutIdeal.Gen Cert.RowNorm
open Idealize.ShloMosaic Idealize.ShloMosaic.TcCoe Idealize.ShloMosaic.Tactic

/-- The row of a token of a sequence. -/
def flat (s : Fin 4) (t : Fin 4096) : Fin 16384 := ⟨s.val * 4096 + t.val, by omega⟩

variable (m : (ℓ : Loc nD τ sig) → Buf (Elt Ideal) ℓ) (ρ : Dev nD → PrngReg) (c : Dev nD)
  (h x : FVec Ideal S4x4096x1024 .f32) (w : FVec Ideal S1024x1024 .f32) (g b : FVec Ideal S1024 .f32)
  (e0 : m ((c : Thread nD τ).loc main_arg0) = h) (e1 : m ((c : Thread nD τ).loc main_arg1) = x) (e2 : m ((c : Thread nD τ).loc main_arg2) = w)
  (e3 : m ((c : Thread nD τ).loc main_arg3) = g) (e4 : m ((c : Thread nD τ).loc main_arg4) = b)

/-- A token's row of a flattened array. -/
theorem unflat (y : FVec Ideal S4x4096x1024 .f32) (s : Fin 4) (t : Fin 4096) (l : Fin 1024) :
    y (ix3 (⟨(flat s t).val / 4096, by have := (flat s t).isLt; omega⟩ : Fin 4) (⟨(flat s t).val % 4096, by omega⟩ : Fin 4096) l) = y (ix3 s t l) :=
  congrArg₂ (fun a b => y (ix3 a b l)) (Fin.ext (show (s.val * 4096 + t.val) / 4096 = s.val by omega)) (Fin.ext (show (s.val * 4096 + t.val) % 4096 = t.val by omega))

include e0 in
theorem input_at (s : Fin 4) (t : Fin 4096) (l : Fin 1024) : V m c main_v2 (ix2 (flat s t) l) = h (ix3 s t l) := by
  have H (r : Fin 16384) (l : Fin 1024) : V m c main_v2 (ix2 r l) = m ((c : Thread nD τ).loc main_arg0) (ix3 (⟨r.val / 4096, by omega⟩ : Fin 4) (⟨r.val % 4096, by omega⟩ : Fin 4096) l) := by
    show StableHlo.after _ _ (Proc.devRef .tc main_v2) _ = _
    after_reads_simp
    pointwise []
  exact (H _ l).trans ((congrFun e0 _).trans (unflat h s t l))

include e1 in
theorem mix_at (s : Fin 4) (t : Fin 4096) (l : Fin 1024) : V m c main_v0 (ix2 (flat s t) l) = x (ix3 s t l) := by
  have H (r : Fin 16384) (l : Fin 1024) : V m c main_v0 (ix2 r l) = m ((c : Thread nD τ).loc main_arg1) (ix3 (⟨r.val / 4096, by omega⟩ : Fin 4) (⟨r.val % 4096, by omega⟩ : Fin 4096) l) := by
    show StableHlo.after _ _ (Proc.devRef .tc main_v0) _ = _
    after_reads_simp
    pointwise []
  exact (H _ l).trans ((congrFun e1 _).trans (unflat x s t l))

include e2 in
theorem weights_at (k l : Fin 1024) : V m c main_v1 (ix2 k l) = w (ix2 k l) := by
  refine Eq.trans ?_ (congrFun e2 _)
  show StableHlo.after _ _ (Proc.devRef .tc main_v1) _ = _
  after_reads_simp
  pointwise []

include e3 in
theorem gains_at (l : Fin 1024) : V m c main_v3 (ix2 0 l) = g (ix1 l) := by
  refine Eq.trans ?_ (congrFun e3 _)
  show StableHlo.after _ _ (Proc.devRef .tc main_v3) _ = _
  after_reads_simp
  pointwise []

include e4 in
theorem offsets_at (l : Fin 1024) : V m c main_v4 (ix2 0 l) = b (ix1 l) := by
  refine Eq.trans ?_ (congrFun e4 _)
  show StableHlo.after _ _ (Proc.devRef .tc main_v4) _ = _
  after_reads_simp
  pointwise []

set_option maxRecDepth 16384 in
/-- What the line after the kernel does to the array it leaves. -/
theorem after_at (G : Valuation τ sig (Elt Ideal)) (s : Fin 4) (t : Fin 4096) (l : Fin 1024) :
    StableHlo.after hostOps1 G (Proc.devRef .tc main_v6) (ix3 s t l) = G (Proc.devRef .tc main_v5) (ix2 (flat s t) l) := by
  after_reads_simp
  pointwise [flat]

/-- The layer of the arguments. -/
def layer : FVec Ideal S4x4096x1024 .f32 := fun i =>
  normed (skip (fun j => h (ix3 (i 0) (i 1) j)) fun j => dot (fun k : Fin 1024 => x (ix3 (i 0) (i 1) k)) fun k => w (ix2 k j)) (fun j => g (ix1 j)) (fun j => b (ix1 j)) (i 2)

include e0 e1 e2 e3 e4 in
theorem layer_eq : Pipeline.afterTail₀ cfgs (dats m) 0 (V0 m) [hostOps1] c main_v6 = layer h x w g b := by
  refine funext fun (i : S4x4096x1024.Idx) => ?_
  rw [eq_ix3 i]
  refine (after_at _ (i 0) (i 1) (i 2)).trans ?_
  refine (congrFun ((Pipeline.withArrays_arr spec0 launch0.win.arr_inj c _ _ 5).trans (array m c _ _ _ _ _ rfl rfl rfl rfl rfl)) _).trans ?_
  exact normed_congr (fun j => input_at m c h e0 (i 0) (i 1) j) (fun j => dot_congr (fun k => mix_at m c x e1 (i 0) (i 1) k) (fun k => weights_at m c w e2 k j))
    (fun j => gains_at m c g e3 j) (fun j => offsets_at m c b e4 j) (i 2)

/-- The run: the result at the layer of the arguments, the arguments unchanged. -/
theorem run_result : θ_run defs (onTc (τ := τ) (main (F := Ideal))) ⟨m, fun _ => 0, ρ⟩ fun r => ∀ c : Dev nD,
      r.2.mem ((c : Thread nD τ).loc main_v6) = layer (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (layer_eq m c _ _ _ _ _ rfl rfl rfl rfl rfl),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m ρ)

end Cert.MixOutIdeal.Layer
end
-- ==== Proof.MixOutClaims.lean ====
/- The claims about the mixer's output projection. -/
module
public import proofs.«01_k».proof.Defs
public import proofs.«01_k».proof.Proof.MixOutResult
public import proofs.«01_k».proof.Proof.Gen.MixOut.Frame
public import proofs.«01_k».proof.Proof.Gen.MixOutReferenceIdeal.Run
public import Idealize.ShloMosaic.Lib.IdealHost
@[expose] public section
noncomputable section
namespace Cert.MixOutClaims
open Idealize.ShloMosaic Idealize.SL.Sem Cert.RowNorm Cert.MixOutIdeal.Layer

theorem kernel : Cert.quiescent_MixOut := fun m g _ => Cert.MixOut.Gen.frame m g

theorem frame : Cert.quiescent_MixOutIdeal := fun m g _ => Cert.MixOutIdeal.Gen.frame m g

theorem reference : Cert.quiescent_MixOutReferenceIdeal := fun m g _ =>
  (θ_run Cert.MixOutReferenceIdeal.defs _ _).mono (fun r h => ⟨fun c => (h c).2, Idealize.ShloMosaic.sem_eq_zero_of_no_sems (by decide) r.2⟩)
    (Cert.MixOutReferenceIdeal.Value.run (F := Ideal) m g)

theorem preserves : Cert.preserves_MixOut_MixOutIdeal := trivial

/-- The kernel's result is the reference's. -/
theorem algebraic : Cert.algebraic_MixOutIdeal_MixOutReferenceIdeal := fun m g m' g' _ hm => by
  refine ⟨fun c => _, run_result m g, ?_⟩
  refine (θ_run Cert.MixOutReferenceIdeal.defs _ _).mono (fun r h c => ⟨(h c).1.trans ?_, (h c).2⟩) (Cert.MixOutReferenceIdeal.Value.run (F := Ideal) m' g')
  obtain ⟨e0, e1, e2, e3, e4⟩ := hm c
  rw [e0, e1, e2, e3, e4]
  dsimp only
  generalize (m ((c.tc : Thread Cert.MixOutIdeal.nD Cert.MixOutIdeal.τ).loc Cert.MixOutIdeal.main_arg0)) = h
  generalize (m ((c.tc : Thread Cert.MixOutIdeal.nD Cert.MixOutIdeal.τ).loc Cert.MixOutIdeal.main_arg1)) = x
  generalize (m ((c.tc : Thread Cert.MixOutIdeal.nD Cert.MixOutIdeal.τ).loc Cert.MixOutIdeal.main_arg2)) = w
  generalize (m ((c.tc : Thread Cert.MixOutIdeal.nD Cert.MixOutIdeal.τ).loc Cert.MixOutIdeal.main_arg3)) = u
  generalize (m ((c.tc : Thread Cert.MixOutIdeal.nD Cert.MixOutIdeal.τ).loc Cert.MixOutIdeal.main_arg4)) = b
  refine funext fun (i : Cert.MixOutIdeal.S4x4096x1024.Idx) => ?_
  rw [eq_ix3 i]
  generalize (i 0 : Fin 4) = s
  generalize (i 1 : Fin 4096) = t
  generalize (i 2 : Fin 1024) = l
  show _ = normed (skip (fun j => h (ix3 s t j)) fun j => dot (fun k : Fin 1024 => x (ix3 s t k)) fun k => w (ix2 k j)) (fun j => u (ix1 j)) (fun j => b (ix1 j)) l
  pointwise [normed, skip, dot, mean, alpha, width, eps]

end Cert.MixOutClaims

end
-- ==== Proof.MemoryProduct.lean ====
/- The memory tokens' keys and values: the array their kernel leaves is the product of its two arrays. -/
module
public import proofs.«01_k».proof.Proof.Gen.MemoryIdeal.Frame
public import proofs.«01_k».proof.Proof.RowNorm
public import proofs.«01_k».proof.Proof.Blocks
@[expose] public section
noncomputable section
namespace Cert.MemoryIdeal.Layer
open Cert.MemoryIdeal.Gen Cert.RowNorm Cert.Blocks
open Idealize.ShloMosaic Idealize.ShloMosaic.TcCoe Idealize.ShloMosaic.Tactic

/-- The body: the product of the two blocks. -/
theorem body_at (x : Vec Ideal S512x1024 .f32) (w : Vec Ideal S1024x1024 .bf16) (r : Fin 512) (l : Fin 1024) :
    k0_pay1 x w (ix2 r l) = dot (fun k : Fin 1024 => x (ix2 r k)) fun k => w (ix2 k l) := by
  pointwise [k0_pay1, dot]

theorem body_eq (x : Vec Ideal S512x1024 .f32) (w : Vec Ideal S1024x1024 .bf16) : out0_2 x w = k0_pay1 x w := by
  unfold out0_2
  refine (View.canon_cons_unit_zero (S := S512x1024) zeros2 _ _ _).trans ?_
  exact congrArg₂ k0_pay1 (View.ld_unit_zero (S := S512x1024) zeros2 _ _) (View.ld_unit_zero (S := S1024x1024) zeros2 _ _)

/-- Point `t` is block row `t`. -/
theorem coord (t : Fin grid0.N) : (grid0.coords t 0).val = t.val := by
  have h : (grid0.coords t 0).val = t.val / 1 % 2 := Pipeline.Grid.coords_val t 0 (by decide) rfl
  have ht : t.val < 2 := lt_of_lt_of_eq t.isLt N_0
  omega

theorem coord_1 (t : Fin grid0.N) : (grid0.coords t 1).val = 0 := by
  have h : (grid0.coords t 1).val < 1 := (grid0.coords t 1).isLt
  omega

def row (t : Fin cfg0.N) (y : Fin 512) : Fin 1024 := ⟨t.val * 512 + y.val, by have ht : t.val < 2 := lt_of_lt_of_eq t.isLt N_0; omega⟩

/-- The product of a matrix of rows and the weights. -/
def product (x : FVec Ideal S1024x1024 .f32) (w : FVec Ideal S1024x1024 .bf16) : FVec Ideal S1024x1024 .f32 := fun i =>
  dot (fun k : Fin 1024 => x (ix2 (i 0) k)) fun k => w (ix2 k (i 1))

variable (m : (ℓ : Loc nD τ sig) → Buf (Elt Ideal) ℓ) (c : Dev nD)
  (x : FVec Ideal S1024x1024 .f32) (w : FVec Ideal S1024x1024 .bf16) (hx : V m c main_v2 = x) (hw : V m c main_v1 = w)

include hx in
theorem block_0 (t : Fin cfg0.N) (y : Fin 512) (z : Fin 1024) : iblk m c 0 t (ix2 y z) = x (ix2 (row t y) z) := by
  unfold iblk
  refine (View.read_apply ..).trans ?_
  refine (congrFun hx _).trans ?_
  refine congrArg x (funext fun a => Fin.ext ?_)
  have e0 := coord t
  have h0 : t.val < 2 := lt_of_lt_of_eq t.isLt N_0
  match a with
  | ⟨0, _⟩ => show (BitVec.ofNat 32 (grid0.coords t 0).val).toNat * 512 + 1 * y.val = t.val * 512 + y.val; rw [small _ (by omega), e0]; omega
  | ⟨1, _⟩ => show 0 * 1024 + 1 * z.val = z.val; omega

include hw in
theorem block_1 (t : Fin cfg0.N) (y : Fin 1024) (z : Fin 1024) : iblk m c 1 t (ix2 y z) = w (ix2 y z) := by
  unfold iblk
  refine (View.read_apply ..).trans ?_
  refine (congrFun hw _).trans ?_
  refine congrArg w (funext fun a => Fin.ext ?_)
  have e1 := coord_1 t
  match a with
  | ⟨0, _⟩ => show 0 * 1024 + 1 * y.val = y.val; omega
  | ⟨1, _⟩ => show (BitVec.ofNat 32 (grid0.coords t 1).val).toNat * 1024 + 1 * z.val = z.val; rw [small _ (by omega), e1]; omega

/-- Where the result's block lies. -/
theorem place (G : FVec Ideal S1024x1024 .f32) (t : Fin cfg0.N) (y : Fin 512) (z : Fin 1024) :
    ((cfg0.win 2).blk t).view.read (Elt Ideal) G (ix2 y z) = G (ix2 (row t y) z) := by
  refine (View.read_apply ..).trans ?_
  show G _ = G (ix2 (row t y) z)
  refine congrArg G (funext fun a => Fin.ext ?_)
  have e0 := coord t
  have e1 := coord_1 t
  have h0 : t.val < 2 := lt_of_lt_of_eq t.isLt N_0
  match a with
  | ⟨0, _⟩ => show (BitVec.ofNat 32 (grid0.coords t 0).val).toNat * 512 + 1 * y.val = t.val * 512 + y.val; rw [small _ (by omega), e0]; omega
  | ⟨1, _⟩ => show (BitVec.ofNat 32 (grid0.coords t 1).val).toNat * 1024 + 1 * z.val = z.val; rw [small _ (by omega), e1]; omega

include hx hw in
theorem flushed (t : Fin cfg0.N) (_ : (cfg0.win 2).flush t = true) :
    (dats m 0 c).flushed 2 t = ((cfg0.win 2).blk t).view.read (Elt Ideal) (product x w) := by
  show (cfg0.win 2).cut (grid0.coords t) ((dats m 0 c).after 2 t) = _
  rw [after0_2]
  refine funext fun (j : S512x1024.Idx) => ?_
  rw [eq_ix2 j]
  refine Eq.trans ?_ (place (product x w) t (j 0) (j 1)).symm
  refine (congrFun (body_eq _ _) _).trans ((body_at _ _ _ _).trans ?_)
  exact dot_congr (fun k => block_0 m c x hx t (j 0) k) (fun k => block_1 m c w hw t k (j 1))

include hx hw in
/-- The array the kernel leaves. -/
theorem array : (dats m 0 c).arrAt 2 cfg0.N = product x w :=
  (dats m 0 c).arrAt_eq_of_cover 2 (product x w) (flushed m c x w hx hw) fun (i : S1024x1024.Idx) => by
    have h0 : (i 0 : Nat) < 1024 := (i 0).isLt
    have h1 : (i 1 : Nat) < 1024 := (i 1).isLt
    have ht : (i 0 : Nat) / 512 < cfg0.N := lt_of_lt_of_eq (by omega) N_0.symm
    refine ⟨⟨_, ht⟩, flush0_2 _, ?_⟩
    have e0 : (grid0.coords ⟨_, ht⟩ 0).val = (i 0 : Nat) / 512 := coord ⟨_, ht⟩
    have e1 : (grid0.coords ⟨_, ht⟩ 1).val = 0 := coord_1 ⟨_, ht⟩
    show i ∈ ((View.whole main_v3).slice ((cfg0.win 2).rect ⟨_, ht⟩)).set
    refine (congrArg (i ∈ ·) (View.set_slice_whole _ _)).mpr (Rect.mem_set_unit.mpr fun a => ?_)
    match a with
    | ⟨0, _⟩ =>
      show (BitVec.ofNat 32 (grid0.coords ⟨_, ht⟩ 0).val).toNat * 512 ≤ (i 0 : Nat) ∧ (i 0 : Nat) < (BitVec.ofNat 32 (grid0.coords ⟨_, ht⟩ 0).val).toNat * 512 + 512
      rw [small _ (by omega), e0]; omega
    | ⟨1, _⟩ =>
      show (BitVec.ofNat 32 (grid0.coords ⟨_, ht⟩ 1).val).toNat * 1024 ≤ (i 1 : Nat) ∧ (i 1 : Nat) < (BitVec.ofNat 32 (grid0.coords ⟨_, ht⟩ 1).val).toNat * 1024 + 1024
      rw [small _ (by omega), e1]; omega

end Cert.MemoryIdeal.Layer
end
-- ==== Proof.MemoryResult.lean ====
/- The memory tokens' keys and values in the arguments: the two weight matrices stand side by side, and the product is cut in two. -/
module
public import proofs.«01_k».proof.Proof.MemoryProduct
public import Idealize.ShloMosaic.Lib.Pointwise
public import Idealize.ShloMosaic.Lib.StableHlo.RunRead
@[expose] public section
noncomputable section
namespace Cert.MemoryIdeal.Layer
open Cert.MemoryIdeal.Gen Cert.RowNorm
open Idealize.ShloMosaic Idealize.ShloMosaic.TcCoe Idealize.ShloMosaic.Tactic

/-- The row of a memory token, and the column of a head's coordinate. -/
def flat (s : Fin 4) (t : Fin 256) : Fin 1024 := ⟨s.val * 256 + t.val, by omega⟩
def lane (a : Fin 4) (d : Fin 128) : Fin 512 := ⟨a.val * 128 + d.val, by omega⟩

variable (m : (ℓ : Loc nD τ sig) → Buf (Elt Ideal) ℓ) (ρ : Dev nD → PrngReg) (c : Dev nD)
  (x : FVec Ideal S4x256x1024 .f32) (w : FVec Ideal S1024x512 .f32)

theorem input_at (e0 : m ((c : Thread nD τ).loc main_arg0) = x) (s : Fin 4) (t : Fin 256) (l : Fin 1024) : V m c main_v2 (ix2 (flat s t) l) = x (ix3 s t l) := by
  have H (r : Fin 1024) (l : Fin 1024) : V m c main_v2 (ix2 r l) = m ((c : Thread nD τ).loc main_arg0) (ix3 (⟨r.val / 256, by omega⟩ : Fin 4) (⟨r.val % 256, by omega⟩ : Fin 256) l) := by
    show StableHlo.after _ _ (Proc.devRef .tc main_v2) _ = _
    after_reads_simp
    pointwise []
  refine (H _ l).trans ((congrFun e0 _).trans ?_)
  exact congrArg₂ (fun a b => x (ix3 a b l)) (Fin.ext (show (s.val * 256 + t.val) / 256 = s.val by omega)) (Fin.ext (show (s.val * 256 + t.val) % 256 = t.val by omega))

theorem key_weights_at (e1 : m ((c : Thread nD τ).loc main_arg1) = w) (k : Fin 1024) (l : Fin 512) : V m c main_v1 (ix2 k (⟨l.val, by omega⟩ : Fin 1024)) = w (ix2 k l) := by
  refine Eq.trans ?_ (congrFun e1 _)
  show StableHlo.after _ _ (Proc.devRef .tc main_v1) _ = _
  after_reads_simp
  pointwise []
  rfl

theorem value_weights_at (e2 : m ((c : Thread nD τ).loc main_arg2) = w) (k : Fin 1024) (l : Fin 512) : V m c main_v1 (ix2 k (⟨512 + l.val, by omega⟩ : Fin 1024)) = w (ix2 k l) := by
  refine Eq.trans ?_ (congrFun e2 _)
  show StableHlo.after _ _ (Proc.devRef .tc main_v1) _ = _
  after_reads_simp
  pointwise []
  rfl

set_option maxRecDepth 16384 in
/-- What the lines after the kernel do to the array it leaves. -/
theorem keys_after (G : Valuation τ sig (Elt Ideal)) (s : Fin 4) (t : Fin 256) (a : Fin 4) (d : Fin 128) :
    StableHlo.after hostOps1 G (Proc.devRef .tc main_v7) (ix4 s t a d) = G (Proc.devRef .tc main_v3) (ix2 (flat s t) (⟨(lane a d).val, by have := (lane a d).isLt; omega⟩ : Fin 1024)) := by
  after_reads_simp
  pointwise [flat, lane]

set_option maxRecDepth 16384 in
theorem values_after (G : Valuation τ sig (Elt Ideal)) (s : Fin 4) (t : Fin 256) (a : Fin 4) (d : Fin 128) :
    StableHlo.after hostOps1 G (Proc.devRef .tc main_v8) (ix4 s t a d) = G (Proc.devRef .tc main_v3) (ix2 (flat s t) (⟨512 + (lane a d).val, by have := (lane a d).isLt; omega⟩ : Fin 1024)) := by
  after_reads_simp
  pointwise [flat, lane]

/-- A projection of the memory tokens, head by head. -/
def heads : FVec Ideal S4x256x4x128 .f32 := fun i => dot (fun k : Fin 1024 => x (ix3 (i 0) (i 1) k)) fun k => w (ix2 k (lane (i 2) (i 3)))

theorem keys_eq (e0 : m ((c : Thread nD τ).loc main_arg0) = x) (e1 : m ((c : Thread nD τ).loc main_arg1) = w) :
    Pipeline.afterTail₀ cfgs (dats m) 0 (V0 m) [hostOps1] c main_v7 = heads x w := by
  refine funext fun (i : S4x256x4x128.Idx) => ?_
  rw [eq_ix4 i]
  refine (keys_after _ (i 0) (i 1) (i 2) (i 3)).trans ?_
  refine (congrFun ((Pipeline.withArrays_arr spec0 launch0.win.arr_inj c _ _ 2).trans (array m c _ _ rfl rfl)) _).trans ?_
  exact dot_congr (fun k => input_at m c x e0 (i 0) (i 1) k) (fun k => key_weights_at m c w e1 k (lane (i 2) (i 3)))

theorem values_eq (e0 : m ((c : Thread nD τ).loc main_arg0) = x) (e2 : m ((c : Thread nD τ).loc main_arg2) = w) :
    Pipeline.afterTail₀ cfgs (dats m) 0 (V0 m) [hostOps1] c main_v8 = heads x w := by
  refine funext fun (i : S4x256x4x128.Idx) => ?_
  rw [eq_ix4 i]
  refine (values_after _ (i 0) (i 1) (i 2) (i 3)).trans ?_
  refine (congrFun ((Pipeline.withArrays_arr spec0 launch0.win.arr_inj c _ _ 2).trans (array m c _ _ rfl rfl)) _).trans ?_
  exact dot_congr (fun k => input_at m c x e0 (i 0) (i 1) k) (fun k => value_weights_at m c w e2 k (lane (i 2) (i 3)))

/-- The run: the results at the two projections of the arguments, the arguments unchanged. -/
theorem run_result : θ_run defs (onTc (τ := τ) (main (F := Ideal))) ⟨m, fun _ => 0, ρ⟩ fun r => ∀ c : Dev nD,
      r.2.mem ((c : Thread nD τ).loc main_v7) = heads (m ((c : Thread nD τ).loc main_arg0)) (m ((c : Thread nD τ).loc main_arg1))
      ∧ r.2.mem ((c : Thread nD τ).loc main_v8) = heads (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (keys_eq m c _ _ rfl rfl),
     ((h c).2 main_v8 (Pipeline.mem_restRefs_of main_v8 (by decide) (by decide))).trans (values_eq m c _ _ rfl rfl),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Cert.MemoryIdeal.Layer
end
-- ==== Proof.MemoryClaims.lean ====
/- The claims about the memory tokens' keys and values. -/
module
public import proofs.«01_k».proof.Defs
public import proofs.«01_k».proof.Proof.MemoryResult
public import proofs.«01_k».proof.Proof.Gen.Memory.Frame
public import proofs.«01_k».proof.Proof.Gen.MemoryReferenceIdeal.Run
public import Idealize.ShloMosaic.Lib.IdealHost
@[expose] public section
noncomputable section
namespace Cert.MemoryClaims
open Idealize.ShloMosaic Idealize.SL.Sem Cert.RowNorm Cert.MemoryIdeal.Layer

theorem kernel : Cert.quiescent_Memory := fun m g _ => Cert.Memory.Gen.frame m g

theorem frame : Cert.quiescent_MemoryIdeal := fun m g _ => Cert.MemoryIdeal.Gen.frame m g

theorem reference : Cert.quiescent_MemoryReferenceIdeal := fun m g _ =>
  (θ_run Cert.MemoryReferenceIdeal.defs _ _).mono (fun r h => ⟨fun c => (h c).2.2, Idealize.ShloMosaic.sem_eq_zero_of_no_sems (by decide) r.2⟩)
    (Cert.MemoryReferenceIdeal.Value.run (F := Ideal) m g)

theorem preserves : Cert.preserves_Memory_MemoryIdeal := trivial

open Cert.MemoryReferenceIdeal Cert.MemoryReferenceIdeal.Gen in
/-- The reference's projection, head by head. -/
theorem heads_eq (x : FVec Ideal S4x256x1024 .f32) (w : FVec Ideal S1024x512 .f32) :
    shapeCast S4x256x4x128 (Host.dotGeneral dot_S4x256x1024_S1024x512_S4x256x512_2_0_01_1_n_n none x w) shapeCasts_S4x256x512_S4x256x4x128 = heads x w := by
  refine funext fun (i : S4x256x4x128.Idx) => ?_
  rw [eq_ix4 i]
  have H (s : Fin 4) (t : Fin 256) (a : Fin 4) (d : Fin 128) :
      shapeCast S4x256x4x128 (Host.dotGeneral dot_S4x256x1024_S1024x512_S4x256x512_2_0_01_1_n_n none x w) shapeCasts_S4x256x512_S4x256x4x128 (ix4 s t a d)
        = dot (fun k : Fin 1024 => x (ix3 s t k)) fun k => w (ix2 k (lane a d)) := by
    pointwise [dot, lane]
  exact H (i 0) (i 1) (i 2) (i 3)

/-- The kernel's results are the reference's. -/
theorem algebraic : Cert.algebraic_MemoryIdeal_MemoryReferenceIdeal := fun m g m' g' _ hm => by
  refine ⟨fun c => _, fun c => _, run_result m g, ?_⟩
  refine (θ_run Cert.MemoryReferenceIdeal.defs _ _).mono (fun r h c => ⟨(h c).1.trans ?_, (h c).2.1.trans ?_, (h c).2.2⟩) (Cert.MemoryReferenceIdeal.Value.run (F := Ideal) m' g')
  · obtain ⟨e0, e1, e2⟩ := hm c
    rw [e0, e1]
    exact heads_eq _ _
  · obtain ⟨e0, e1, e2⟩ := hm c
    rw [e0, e2]
    exact heads_eq _ _

end Cert.MemoryClaims

end
-- ==== Proof.CrossRun.lean ====
/- The cross-attention's run as a whole: every array of the final memory at what the steps of the program leave there. -/
module
public import proofs.«01_k».proof.Proof.Gen.CrossIdeal.Frame
@[expose] public section
noncomputable section
namespace Cert.CrossIdeal.Layer
open Cert.CrossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The final memory: every array is at the last step's contents. -/
theorem final : θ_run defs (onTc (τ := τ) (main (F := F))) ⟨m, fun _ => 0, ρ⟩ (fun r => ∀ c : Dev nD, ∀ b ∈ Pipeline.ucRefs τ sig,
      r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.CrossIdeal.Layer
end
-- ==== Proof.CrossSoftmax.lean ====
/- A head's attention over 256 tokens: the weights summed against the values and divided after the sum, or divided before it. -/
module
public import proofs.«01_k».proof.Proof.OnlineSoftmax
public import proofs.«01_k».proof.Proof.RowNorm
@[expose] public section
noncomputable section
namespace Cert.CrossSoftmax
open Idealize.ShloMosaic Cert.OnlineSoftmax Cert.RowNorm

/-- The factor of the scores, as the extended real that its pattern is. -/
def scale : EReal := Ideal.ofBits FTy.f32 0x3DB504F3#32

/-- The largest of 256 scores. -/
def largest (s : Fin 256 → EReal) : EReal := Finset.univ.fold max (Ideal.ofBits FTy.f32 0xFF800000#32) s

/-- A score's weight. -/
def weight (s : Fin 256 → EReal) (j : Fin 256) : EReal := Ideal.exp (s j - largest s)

/-- The weighted sum of the values, divided by the sum of the weights. -/
def late (s v : Fin 256 → EReal) : EReal := Ideal.div (∑ j, weight s j * v j) (∑ j, weight s j)

/-- The sum of the values by their normalized weights. -/
def early (s v : Fin 256 → EReal) : EReal := ∑ j, v j * Ideal.div (weight s j) (∑ i, weight s i)

theorem ofBits_neg_inf : Ideal.ofBits FTy.f32 0xFF800000#32 = ⊥ := by
  simp [Ideal.ofBits, Ideal.ieee]

/-- 256 numbers as the beginning of a sequence. -/
def seq (s : Fin 256 → EReal) (n : ℕ) : EReal := if h : n < 256 then s ⟨n, h⟩ else ⊥

theorem seq_val (s : Fin 256 → EReal) (j : Fin 256) : seq s j.val = s j := dif_pos j.isLt

theorem largest_eq (s : Fin 256 → EReal) : largest s = rmax (seq s) 256 := by
  rw [rmax_fold, largest, ofBits_neg_inf]
  simp only [seq_val]

theorem weight_eq (s : Fin 256 → EReal) (j : Fin 256) : weight s j = Ideal.exp (seq s j.val - rmax (seq s) 256) := by
  rw [weight, largest_eq, seq_val]

theorem sum_eq (s : Fin 256 → EReal) : ∑ j, weight s j = rden (seq s) 256 := by
  rw [rden_fin]
  exact Finset.sum_congr rfl fun j _ => weight_eq s j

/-- For finite scores the two agree. -/
theorem late_eq (s v : Fin 256 → EReal) (h : ∀ j, s j ≠ ⊤ ∧ s j ≠ ⊥) : late s v = early s v := by
  have hn : ∑ j, weight s j * v j = rnum (seq s) (seq v) 256 := by
    rw [rnum, Finset.sum_range fun j => Ideal.exp (seq s j - rmax (seq s) 256) * seq v j]
    exact Finset.sum_congr rfl fun j _ => by rw [weight_eq, seq_val v]
  rw [late, early, sum_eq, hn, softmax_quotient (s := seq s) (seq v) (n := 256)
    (fun j hj => by rw [seq, dif_pos hj]; exact (h _).1) (k := 0) (by decide) (by rw [seq, dif_pos (by decide)]; exact (h _).2)]
  exact Finset.sum_congr rfl fun j _ => by rw [weight_eq, seq_val v, mul_comm]

/-- A product of two finite numbers, and a finite sum of finite numbers, are finite. -/
theorem finite_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

theorem finite_sum {n : ℕ} (f : Fin n → EReal) (h : ∀ k, f k ≠ ⊤ ∧ f k ≠ ⊥) : ∑ k, f k ≠ ⊤ ∧ ∑ k, f k ≠ ⊥ := by
  have e : ∀ k, f k = ((f k).toReal : EReal) := fun k => (EReal.coe_toReal (h k).1 (h k).2).symm
  have s : ∑ k, f k = ((∑ k, (f k).toReal : ℝ) : EReal) := by
    rw [Finset.sum_congr rfl fun k _ => e k]
    induction (Finset.univ : Finset (Fin n)) using Finset.cons_induction with
    | empty => simp
    | cons a t ha ih => rw [Finset.sum_cons, Finset.sum_cons, EReal.coe_add, ih]
  rw [s]
  exact ⟨EReal.coe_ne_top _, EReal.coe_ne_bot _⟩

/-- A product of a finite row with a finite column is finite. -/
theorem finite_dot {n : ℕ} (x w : Fin n → EReal) (hx : ∀ k, x k ≠ ⊤ ∧ x k ≠ ⊥) (hw : ∀ k, w k ≠ ⊤ ∧ w k ≠ ⊥) : dot x w ≠ ⊤ ∧ dot x w ≠ ⊥ :=
  finite_sum _ fun k => finite_mul (hx k) (hw k)

/-- The scale is a finite number. -/
theorem finite_scale : scale ≠ ⊤ ∧ scale ≠ ⊥ := by
  constructor <;> simp [scale, Ideal.ofBits, Ideal.ieee, -EReal.coe_mul]

/-- The scores of a query against the 256 keys. -/
def scores {n : ℕ} (q : Fin n → EReal) (k : Fin 256 → Fin n → EReal) (j : Fin 256) : EReal := dot q (k j) * scale

theorem finite_scores {n : ℕ} (q : Fin n → EReal) (k : Fin 256 → Fin n → EReal) (hq : ∀ i, q i ≠ ⊤ ∧ q i ≠ ⊥) (hk : ∀ j i, k j i ≠ ⊤ ∧ k j i ≠ ⊥)
    (j : Fin 256) : scores q k j ≠ ⊤ ∧ scores q k j ≠ ⊥ := finite_mul (finite_dot q (k j) hq (hk j)) finite_scale

end Cert.CrossSoftmax
end
-- ==== Proof.CrossBody.lean ====
/- What the cross-attention's three bodies compute, read at an index. -/
module
public import proofs.«01_k».proof.Proof.Gen.CrossIdeal.Skeleton
public import proofs.«01_k».proof.Proof.CrossSoftmax
@[expose] public section
noncomputable section
namespace Cert.CrossIdeal.Layer
open Cert.CrossIdeal.Gen Cert.RowNorm Cert.CrossSoftmax Idealize.ShloMosaic

/-- The first body: the product. -/
theorem query_at (x : Vec Ideal S512x1024 .f32) (w : Vec Ideal S1024x512 .bf16) (r : Fin 512) (l : Fin 512) :
    k0_pay1 x w (ix2 r l) = dot (fun k : Fin 1024 => x (ix2 r k)) fun k => w (ix2 k l) := by
  pointwise [k0_pay1, dot]

/-- The second body, one head: the weights against the values, divided after the sum. -/
theorem head_at (q : Vec Ideal S1x512x128 .f32) (k v : Vec Ideal S1x256x128 .f32) (r : Fin 512) (d : Fin 128) :
    k1_pay1 q k v (ix3 0 r d) = late (scores (fun i : Fin 128 => q (ix3 0 r i)) fun j i => k (ix3 0 j i)) fun j => v (ix3 0 j d) := by
  pointwise [k1_pay1, late, scores, weight, largest, scale, dot]

theorem head1_at (q : Vec Ideal S1x512x128 .f32) (k v : Vec Ideal S1x256x128 .f32) : k1_pay4 (k1_pay2 q) (k1_pay3 k) v = k1_pay1 q k v := rfl

theorem head2_at (q : Vec Ideal S1x512x128 .f32) (k v : Vec Ideal S1x256x128 .f32) : k1_pay7 (k1_pay5 v) (k1_pay6 q k) = k1_pay1 q k v := rfl

theorem head3_at (q : Vec Ideal S1x512x128 .f32) (k v : Vec Ideal S1x256x128 .f32) : k1_pay8 q k v = k1_pay1 q k v := rfl

/-- The third body: the normalized row. -/
theorem out_at (x : Vec Ideal S256x512 .f32) (w : Vec Ideal S512x1024 .bf16) (h : Vec Ideal S256x1024 .f32) (g b : Vec Ideal S1x1024 .f32) (r : Fin 256) (l : Fin 1024) :
    k2_pay1 x w h g b (ix2 r l) = normed (skip (fun j => h (ix2 r j)) fun j => dot (fun k : Fin 512 => x (ix2 r k)) fun k => w (ix2 k j)) (fun j => g (ix2 0 j)) (fun j => b (ix2 0 j)) l := by
  pointwise [k2_pay1, normed, skip, dot, mean, alpha, width, eps]

end Cert.CrossIdeal.Layer
end
-- ==== Proof.CrossQuery.lean ====
/- The first part of the cross-attention: the array it leaves is the product of the input and the queries' weights. -/
module
public import proofs.«01_k».proof.Proof.Gen.CrossIdeal.Frame
public import proofs.«01_k».proof.Proof.CrossBody
public import proofs.«01_k».proof.Proof.Blocks
@[expose] public section
noncomputable section
namespace Cert.CrossIdeal.Layer
open Cert.CrossIdeal.Gen Cert.RowNorm Cert.Blocks
open Idealize.ShloMosaic Idealize.ShloMosaic.TcCoe Idealize.ShloMosaic.Tactic

theorem coord0_0 (t : Fin grid0.N) : (grid0.coords t 0).val = t.val := by
  have h : (grid0.coords t 0).val = t.val / 1 % 32 := Pipeline.Grid.coords_val t 0 (by decide) rfl
  have ht : t.val < 32 := lt_of_lt_of_eq t.isLt N_0
  omega

theorem coord0_1 (t : Fin grid0.N) : (grid0.coords t 1).val = 0 := by
  have h : (grid0.coords t 1).val = t.val / 1 % 1 := Pipeline.Grid.coords_val t 1 (by decide) rfl
  omega

/-- The rows of the queries. -/
def queries (x : FVec Ideal S16384x1024 .f32) (w : FVec Ideal S1024x512 .bf16) : FVec Ideal S16384x512 .f32 := fun i =>
  dot (fun k : Fin 1024 => x (ix2 (i 0) k)) fun k => w (ix2 k (i 1))

variable (V : (c : Dev nD) → (b : Ref sig .tc) → Buf (Elt Ideal) ((c : Thread nD τ).loc b)) (c : Dev nD)
  (x : FVec Ideal S16384x1024 .f32) (w : FVec Ideal S1024x512 .bf16) (hx : V c main_v0 = x) (hw : V c main_v1 = w)

/-- The row of a grid point's block. -/
def row0 (t : Fin cfg0.N) (y : Fin 512) : Fin 16384 := ⟨t.val * 512 + y.val, by have ht : t.val < 32 := lt_of_lt_of_eq t.isLt N_0; omega⟩

include hx in
theorem block0_0 (t : Fin cfg0.N) (y : Fin 512) (z : Fin 1024) : iblk0 V c 0 t (ix2 y z) = x (ix2 (row0 t y) z) := by
  unfold iblk0
  refine (View.read_apply ..).trans ?_
  refine (congrFun hx _).trans ?_
  refine congrArg x (funext fun a => Fin.ext ?_)
  have e0 := coord0_0 t
  have h0 : t.val < 32 := lt_of_lt_of_eq t.isLt N_0
  match a with
  | ⟨0, _⟩ => show (BitVec.ofNat 32 (grid0.coords t 0).val).toNat * 512 + 1 * y.val = t.val * 512 + y.val; rw [small _ (by omega), e0]; omega
  | ⟨1, _⟩ => show 0 * 1024 + 1 * z.val = z.val; omega

include hw in
theorem block0_1 (t : Fin cfg0.N) (y : Fin 1024) (z : Fin 512) : iblk0 V c 1 t (ix2 y z) = w (ix2 y z) := by
  unfold iblk0
  refine (View.read_apply ..).trans ?_
  refine (congrFun hw _).trans ?_
  refine congrArg w (funext fun a => Fin.ext ?_)
  have e1 := coord0_1 t
  match a with
  | ⟨0, _⟩ => show 0 * 1024 + 1 * y.val = y.val; omega
  | ⟨1, _⟩ => show (BitVec.ofNat 32 (grid0.coords t 1).val).toNat * 512 + 1 * z.val = z.val; rw [small _ (by omega), e1]; omega

/-- Where the result's block lies. -/
theorem place0 (G : FVec Ideal S16384x512 .f32) (t : Fin cfg0.N) (y : Fin 512) (z : Fin 512) :
    ((cfg0.win 2).blk t).view.read (Elt Ideal) G (ix2 y z) = G (ix2 (row0 t y) z) := by
  refine (View.read_apply ..).trans ?_
  show G _ = G (ix2 (row0 t y) z)
  refine congrArg G (funext fun a => Fin.ext ?_)
  have e0 := coord0_0 t
  have e1 := coord0_1 t
  have h0 : t.val < 32 := lt_of_lt_of_eq t.isLt N_0
  match a with
  | ⟨0, _⟩ => show (BitVec.ofNat 32 (grid0.coords t 0).val).toNat * 512 + 1 * y.val = t.val * 512 + y.val; rw [small _ (by omega), e0]; omega
  | ⟨1, _⟩ => show (BitVec.ofNat 32 (grid0.coords t 1).val).toNat * 512 + 1 * z.val = z.val; rw [small _ (by omega), e1]; omega

theorem out0_eq (x0 : Vec Ideal S512x1024 .f32) (x1 : Vec Ideal S1024x512 .bf16) : out0_2 x0 x1 = k0_pay1 x0 x1 := by
  unfold out0_2
  refine (View.canon_cons_unit_zero (S := S512x512) zeros2 _ _ _).trans ?_
  exact congrArg₂ k0_pay1 (View.ld_unit_zero (S := S512x1024) zeros2 _ _) (View.ld_unit_zero (S := S1024x512) zeros2 _ _)

include hx hw in
theorem flushed0 (t : Fin cfg0.N) (_ : (cfg0.win 2).flush t = true) :
    (dat0 V c).flushed 2 t = ((cfg0.win 2).blk t).view.read (Elt Ideal) (queries x w) := by
  show (cfg0.win 2).cut (grid0.coords t) ((dat0 V c).after 2 t) = _
  rw [after0_2]
  refine funext fun (j : S512x512.Idx) => ?_
  rw [eq_ix2 j]
  refine Eq.trans ?_ (place0 (queries x w) t (j 0) (j 1)).symm
  refine (congrFun (out0_eq _ _) _).trans ((query_at _ _ _ _).trans ?_)
  exact dot_congr (fun k => block0_0 V c x hx t (j 0) k) (fun k => block0_1 V c w hw t k (j 1))

include hx hw in
/-- The array the first part leaves. -/
theorem array0 : (dat0 V c).arrAt 2 cfg0.N = queries x w :=
  (dat0 V c).arrAt_eq_of_cover 2 (queries x w) (flushed0 V c x w hx hw) fun (i : S16384x512.Idx) => by
    have h0 : (i 0 : Nat) < 16384 := (i 0).isLt
    have h1 : (i 1 : Nat) < 512 := (i 1).isLt
    have ht : (i 0 : Nat) / 512 < cfg0.N := lt_of_lt_of_eq (by omega) N_0.symm
    refine ⟨⟨_, ht⟩, flush0_2 _, ?_⟩
    have e0 : (grid0.coords ⟨_, ht⟩ 0).val = (i 0 : Nat) / 512 := coord0_0 ⟨_, ht⟩
    have e1 : (grid0.coords ⟨_, ht⟩ 1).val = 0 := coord0_1 ⟨_, ht⟩
    show i ∈ ((View.whole main_v2).slice ((cfg0.win 2).rect ⟨_, ht⟩)).set
    refine (congrArg (i ∈ ·) (View.set_slice_whole _ _)).mpr (Rect.mem_set_unit.mpr fun a => ?_)
    match a with
    | ⟨0, _⟩ =>
      show (BitVec.ofNat 32 (grid0.coords ⟨_, ht⟩ 0).val).toNat * 512 ≤ (i 0 : Nat) ∧ (i 0 : Nat) < (BitVec.ofNat 32 (grid0.coords ⟨_, ht⟩ 0).val).toNat * 512 + 512
      rw [small _ (by omega), e0]; omega
    | ⟨1, _⟩ =>
      show (BitVec.ofNat 32 (grid0.coords ⟨_, ht⟩ 1).val).toNat * 512 ≤ (i 1 : Nat) ∧ (i 1 : Nat) < (BitVec.ofNat 32 (grid0.coords ⟨_, ht⟩ 1).val).toNat * 512 + 512
      rw [small _ (by omega), e1]; omega

end Cert.CrossIdeal.Layer
end
-- ==== Proof.CrossAttend.lean ====
/- The second part of the cross-attention: the array it leaves is each head's attention over the memory's tokens. -/
module
public import proofs.«01_k».proof.Proof.CrossQuery
@[expose] public section
noncomputable section
namespace Cert.CrossIdeal.Layer
open Cert.CrossIdeal.Gen Cert.RowNorm Cert.Blocks Cert.CrossSoftmax
open Idealize.ShloMosaic Idealize.ShloMosaic.TcCoe Idealize.ShloMosaic.Tactic

/-- Lane `i` of the head that lane `l` belongs to. -/
def lane (l : Fin 512) (i : Fin 128) : Fin 512 := ⟨l.val / 128 * 128 + i.val, by omega⟩

/-- A block of the result, in the three blocks it is computed from. -/
def heads (q : Vec Ideal S1x512x512 .f32) (k v : Vec Ideal S1x256x512 .f32) : Vec Ideal S1x512x512 .f32 := fun y =>
  late (scores (fun i : Fin 128 => q (ix3 0 (y 1) (lane (y 2) i))) fun j i => k (ix3 0 j (lane (y 2) i))) fun j => v (ix3 0 j (y 2))

/-- A head's slice of lanes, read. -/
theorem slice_at {n : ℕ} (x : Vec Ideal ⟨3, ![1, n, 512]⟩ .f32) (o : ℕ) (inb : ∀ a, (![0, 0, o] : Fin 3 → ℕ) a + (![1, n, 128] : Fin 3 → ℕ) a ≤ (![1, n, 512] : Fin 3 → ℕ) a)
    (r : Fin n) (i : Fin 128) (l : Fin 512) (h : l.val = o + i.val) :
    View.ld x (Rect.unit (s := ⟨3, ![1, n, 512]⟩) ![0, 0, o] ![1, n, 128] inb) (ix3 0 r i) = x (ix3 0 r l) := by
  refine congrArg x (funext fun a => Fin.ext ?_)
  match a with
  | ⟨0, _⟩ => rfl
  | ⟨1, _⟩ => show 0 + 1 * r.val = r.val; omega
  | ⟨2, _⟩ => show o + 1 * i.val = l.val; omega

/-- What one head stores is its slice of the block. -/
theorem head_piece (q : Vec Ideal S1x512x512 .f32) (k v : Vec Ideal S1x256x512 .f32) (o : ℕ) (ho : o % 128 = 0)
    (inb : ∀ a, (![0, 0, o] : Fin 3 → ℕ) a + S1x512x128.size a ≤ S1x512x512.size a)
    (inb' : ∀ a, (![0, 0, o] : Fin 3 → ℕ) a + S1x256x128.size a ≤ S1x256x512.size a) (x : S1x512x128.Idx) :
    k1_pay1 (View.ld q (Rect.unit (s := S1x512x512) ![0, 0, o] S1x512x128.size inb)) (View.ld k (Rect.unit (s := S1x256x512) ![0, 0, o] S1x256x128.size inb'))
      (View.ld v (Rect.unit (s := S1x256x512) ![0, 0, o] S1x256x128.size inb')) x
      = heads q k v ((Rect.unit (s := S1x512x512) ![0, 0, o] S1x512x128.size inb).emb x) := by
  have hx : x = ix3 0 (x 1 : Fin 512) (x 2 : Fin 128) := by
    funext a
    match a with
    | ⟨0, _⟩ => exact Fin.ext (by have : (x 0).val < 1 := (x 0).isLt; show (x 0).val = 0; omega)
    | ⟨1, _⟩ => rfl
    | ⟨2, _⟩ => rfl
  have ho' : o + 128 ≤ 512 := inb (2 : Fin 3)
  have h2 : (x 2).val < 128 := (x 2).isLt
  have e : (Rect.unit (s := S1x512x512) ![0, 0, o] S1x512x128.size inb).emb x = ix3 (0 : Fin 1) (x 1 : Fin 512) (⟨o + (x 2).val, by omega⟩ : Fin 512) := by
    funext a
    match a with
    | ⟨0, _⟩ => exact Fin.ext (by have : (x 0).val < 1 := (x 0).isLt; show 0 + 1 * (x 0).val = 0; omega)
    | ⟨1, _⟩ => exact Fin.ext (show 0 + 1 * (x 1).val = (x 1).val by omega)
    | ⟨2, _⟩ => exact Fin.ext (show o + 1 * (x 2).val = o + (x 2).val by omega)
  rw [e]
  refine (congrArg (k1_pay1 (F := Ideal) _ _ _) hx).trans ((head_at _ _ _ (x 1) (x 2)).trans ?_)
  show late _ _ = late (scores (fun i : Fin 128 => q (ix3 0 (x 1 : Fin 512) (lane ⟨o + (x 2).val, by omega⟩ i))) fun j i => k (ix3 0 j (lane ⟨o + (x 2).val, by omega⟩ i)))
    fun j => v (ix3 0 j (⟨o + (x 2).val, by omega⟩ : Fin 512))
  have hl (i : Fin 128) : (lane ⟨o + (x 2).val, by omega⟩ i).val = o + i.val := show (o + (x 2).val) / 128 * 128 + i.val = o + i.val by omega
  exact congrArg₂ late
    (congrArg₂ (scores (n := 128)) (funext fun i => slice_at q o inb (x 1) i _ (hl i)) (funext fun j => funext fun i => slice_at k o inb' j i _ (hl i)))
    (funext fun j => slice_at v o inb' j (x 2) _ rfl)

/-- The block that a grid point leaves. -/
theorem out1_at (q : Vec Ideal S1x512x512 .f32) (k v : Vec Ideal S1x256x512 .f32) (y : S1x512x512.Idx) : out1_3 q k v y = heads q k v y := by
  unfold out1_3
  refine View.canon_apply_of_pieces (heads q k v) _ (fun p hp x => ?_) y (cover1_3 _ _ _ _ y)
  simp only [List.mem_cons, List.mem_nil_iff, or_false] at hp
  rcases hp with rfl | rfl | rfl | rfl
  · exact head_piece q k v 384 (by decide) _ _ x
  · exact head_piece q k v 256 (by decide) _ _ x
  · exact head_piece q k v 128 (by decide) _ _ x
  · exact head_piece q k v 0 (by decide) _ _ x

theorem coord1_0 (t : Fin grid1.N) : (grid1.coords t 0).val = t.val / 8 := by
  have h : (grid1.coords t 0).val = t.val / 8 % 4 := Pipeline.Grid.coords_val t 0 (by decide) rfl
  have ht : t.val < 32 := lt_of_lt_of_eq t.isLt N_1
  omega

theorem coord1_1 (t : Fin grid1.N) : (grid1.coords t 1).val = t.val % 8 := by
  have h : (grid1.coords t 1).val = t.val / 1 % 8 := Pipeline.Grid.coords_val t 1 (by decide) rfl
  omega

/-- The attention of every token of every sequence. -/
def attended (q : FVec Ideal S4x4096x512 .f32) (k v : FVec Ideal S4x256x512 .f32) : FVec Ideal S4x4096x512 .f32 := fun y =>
  late (scores (fun i : Fin 128 => q (ix3 (y 0) (y 1) (lane (y 2) i))) fun j i => k (ix3 (y 0) j (lane (y 2) i))) fun j => v (ix3 (y 0) j (y 2))

variable (V : (c : Dev nD) → (b : Ref sig .tc) → Buf (Elt Ideal) ((c : Thread nD τ).loc b)) (c : Dev nD)
  (q : FVec Ideal S4x4096x512 .f32) (k v : FVec Ideal S4x256x512 .f32) (hq : V c main_v3 = q) (hk : V c main_v4 = k) (hv : V c main_v5 = v)

/-- The sequence of a grid point, and the token of a row of its block. -/
def batch1 (t : Fin cfg1.N) : Fin 4 := ⟨t.val / 8, by have ht : t.val < 32 := lt_of_lt_of_eq t.isLt N_1; omega⟩
def token1 (t : Fin cfg1.N) (y : Fin 512) : Fin 4096 := ⟨t.val % 8 * 512 + y.val, by omega⟩

include hq in
theorem block1_0 (t : Fin cfg1.N) (y : Fin 512) (z : Fin 512) : iblk1 V c 0 t (ix3 0 y z) = q (ix3 (batch1 t) (token1 t y) z) := by
  unfold iblk1
  refine (View.read_apply ..).trans ?_
  refine (congrFun hq _).trans ?_
  refine congrArg q (funext fun a => Fin.ext ?_)
  have e0 := coord1_0 t
  have e1 := coord1_1 t
  have h0 : t.val < 32 := lt_of_lt_of_eq t.isLt N_1
  match a with
  | ⟨0, _⟩ => show (BitVec.ofNat 32 (grid1.coords t 0).val).toNat * 1 + 1 * 0 = t.val / 8; rw [small _ (by omega), e0]; omega
  | ⟨1, _⟩ => show (BitVec.ofNat 32 (grid1.coords t 1).val).toNat * 512 + 1 * y.val = t.val % 8 * 512 + y.val; rw [small _ (by omega), e1]; omega
  | ⟨2, _⟩ => show 0 * 512 + 1 * z.val = z.val; omega

include hk in
theorem block1_1 (t : Fin cfg1.N) (y : Fin 256) (z : Fin 512) : iblk1 V c 1 t (ix3 0 y z) = k (ix3 (batch1 t) y z) := by
  unfold iblk1
  refine (View.read_apply ..).trans ?_
  refine (congrFun hk _).trans ?_
  refine congrArg k (funext fun a => Fin.ext ?_)
  have e0 := coord1_0 t
  have h0 : t.val < 32 := lt_of_lt_of_eq t.isLt N_1
  match a with
  | ⟨0, _⟩ => show (BitVec.ofNat 32 (grid1.coords t 0).val).toNat * 1 + 1 * 0 = t.val / 8; rw [small _ (by omega), e0]; omega
  | ⟨1, _⟩ => show 0 * 256 + 1 * y.val = y.val; omega
  | ⟨2, _⟩ => show 0 * 512 + 1 * z.val = z.val; omega

include hv in
theorem block1_2 (t : Fin cfg1.N) (y : Fin 256) (z : Fin 512) : iblk1 V c 2 t (ix3 0 y z) = v (ix3 (batch1 t) y z) := by
  unfold iblk1
  refine (View.read_apply ..).trans ?_
  refine (congrFun hv _).trans ?_
  refine congrArg v (funext fun a => Fin.ext ?_)
  have e0 := coord1_0 t
  have h0 : t.val < 32 := lt_of_lt_of_eq t.isLt N_1
  match a with
  | ⟨0, _⟩ => show (BitVec.ofNat 32 (grid1.coords t 0).val).toNat * 1 + 1 * 0 = t.val / 8; rw [small _ (by omega), e0]; omega
  | ⟨1, _⟩ => show 0 * 256 + 1 * y.val = y.val; omega
  | ⟨2, _⟩ => show 0 * 512 + 1 * z.val = z.val; omega

/-- Where the result's block lies. -/
theorem place1 (G : FVec Ideal S4x4096x512 .f32) (t : Fin cfg1.N) (y : Fin 512) (z : Fin 512) :
    ((cfg1.win 3).blk t).view.read (Elt Ideal) G (ix3 0 y z) = G (ix3 (batch1 t) (token1 t y) z) := by
  refine (View.read_apply ..).trans ?_
  show G _ = G (ix3 (batch1 t) (token1 t y) z)
  refine congrArg G (funext fun a => Fin.ext ?_)
  have e0 := coord1_0 t
  have e1 := coord1_1 t
  have h0 : t.val < 32 := lt_of_lt_of_eq t.isLt N_1
  match a with
  | ⟨0, _⟩ => show (BitVec.ofNat 32 (grid1.coords t 0).val).toNat * 1 + 1 * 0 = t.val / 8; rw [small _ (by omega), e0]; omega
  | ⟨1, _⟩ => show (BitVec.ofNat 32 (grid1.coords t 1).val).toNat * 512 + 1 * y.val = t.val % 8 * 512 + y.val; rw [small _ (by omega), e1]; omega
  | ⟨2, _⟩ => show 0 * 512 + 1 * z.val = z.val; omega

include hq hk hv in
theorem flushed1 (t : Fin cfg1.N) (_ : (cfg1.win 3).flush t = true) :
    (dat1 V c).flushed 3 t = ((cfg1.win 3).blk t).view.read (Elt Ideal) (attended q k v) := by
  show (cfg1.win 3).cut (grid1.coords t) ((dat1 V c).after 3 t) = _
  rw [after1_3]
  refine funext fun (j : S1x512x512.Idx) => ?_
  have hj : j = ix3 0 (j 1 : Fin 512) (j 2 : Fin 512) := by
    funext a
    match a with
    | ⟨0, _⟩ => exact Fin.ext (by have : (j 0).val < 1 := (j 0).isLt; show (j 0).val = 0; omega)
    | ⟨1, _⟩ => rfl
    | ⟨2, _⟩ => rfl
  rw [hj]
  refine Eq.trans ?_ (place1 (attended q k v) t (j 1) (j 2)).symm
  refine (out1_at _ _ _ _).trans ?_
  exact congrArg₂ late
    (congrArg₂ (scores (n := 128)) (funext fun i => block1_0 V c q hq t (j 1) (lane (j 2) i)) (funext fun m => funext fun i => block1_1 V c k hk t m (lane (j 2) i)))
    (funext fun m => block1_2 V c v hv t m (j 2))

include hq hk hv in
/-- The array the second part leaves. -/
theorem array1 : (dat1 V c).arrAt 3 cfg1.N = attended q k v :=
  (dat1 V c).arrAt_eq_of_cover 3 (attended q k v) (flushed1 V c q k v hq hk hv) fun (i : S4x4096x512.Idx) => by
    have h0 : (i 0 : Nat) < 4 := (i 0).isLt
    have h1 : (i 1 : Nat) < 4096 := (i 1).isLt
    have h2 : (i 2 : Nat) < 512 := (i 2).isLt
    have ht : (i 0 : Nat) * 8 + (i 1 : Nat) / 512 < cfg1.N := lt_of_lt_of_eq (by omega) N_1.symm
    refine ⟨⟨_, ht⟩, flush1_3 _, ?_⟩
    have e0 : (grid1.coords ⟨_, ht⟩ 0).val = ((i 0 : Nat) * 8 + (i 1 : Nat) / 512) / 8 := coord1_0 ⟨_, ht⟩
    have e1 : (grid1.coords ⟨_, ht⟩ 1).val = ((i 0 : Nat) * 8 + (i 1 : Nat) / 512) % 8 := coord1_1 ⟨_, ht⟩
    show i ∈ ((View.whole main_v6).slice ((cfg1.win 3).rect ⟨_, ht⟩)).set
    refine (congrArg (i ∈ ·) (View.set_slice_whole _ _)).mpr (Rect.mem_set_unit.mpr fun a => ?_)
    match a with
    | ⟨0, _⟩ =>
      show (BitVec.ofNat 32 (grid1.coords ⟨_, ht⟩ 0).val).toNat * 1 ≤ (i 0 : Nat) ∧ (i 0 : Nat) < (BitVec.ofNat 32 (grid1.coords ⟨_, ht⟩ 0).val).toNat * 1 + 1
      rw [small _ (by omega), e0]; omega
    | ⟨1, _⟩ =>
      show (BitVec.ofNat 32 (grid1.coords ⟨_, ht⟩ 1).val).toNat * 512 ≤ (i 1 : Nat) ∧ (i 1 : Nat) < (BitVec.ofNat 32 (grid1.coords ⟨_, ht⟩ 1).val).toNat * 512 + 512
      rw [small _ (by omega), e1]; omega
    | ⟨2, _⟩ => show 0 * 512 ≤ (i 2 : Nat) ∧ (i 2 : Nat) < 0 * 512 + 512; omega

end Cert.CrossIdeal.Layer
end
-- ==== Proof.CrossRows.lean ====
/- The last part of the cross-attention: the array it leaves is the normalized sum of the scaled input and the output projection. -/
module
public import proofs.«01_k».proof.Proof.CrossAttend
@[expose] public section
noncomputable section
namespace Cert.CrossIdeal.Layer
open Cert.CrossIdeal.Gen Cert.RowNorm Cert.Blocks
open Idealize.ShloMosaic Idealize.ShloMosaic.TcCoe Idealize.ShloMosaic.Tactic

theorem coord2_0 (t : Fin grid2.N) : (grid2.coords t 0).val = t.val := by
  have h : (grid2.coords t 0).val = t.val / 1 % 64 := Pipeline.Grid.coords_val t 0 (by decide) rfl
  have ht : t.val < 64 := lt_of_lt_of_eq t.isLt N_2
  omega

/-- The rows of the layer, in the attention's rows `u`. -/
def rows (u : FVec Ideal S16384x512 .f32) (w : FVec Ideal S512x1024 .bf16) (h : FVec Ideal S16384x1024 .f32) (g b : FVec Ideal S1x1024 .f32) :
    FVec Ideal S16384x1024 .f32 := fun i =>
  normed (skip (fun j => h (ix2 (i 0) j)) fun j => dot (fun k : Fin 512 => u (ix2 (i 0) k)) fun k => w (ix2 k j)) (fun j => g (ix2 0 j)) (fun j => b (ix2 0 j)) (i 1)

variable (V : (c : Dev nD) → (b : Ref sig .tc) → Buf (Elt Ideal) ((c : Thread nD τ).loc b)) (c : Dev nD)
  (u : FVec Ideal S16384x512 .f32) (w : FVec Ideal S512x1024 .bf16) (h : FVec Ideal S16384x1024 .f32) (g b : FVec Ideal S1x1024 .f32)
  (hu : V c main_v7 = u) (hw : V c main_v8 = w) (hh : V c main_v0 = h) (hg : V c main_v9 = g) (hb : V c main_v10 = b)

/-- The row of a grid point's block. -/
def row2 (t : Fin cfg2.N) (y : Fin 256) : Fin 16384 := ⟨t.val * 256 + y.val, by have ht : t.val < 64 := lt_of_lt_of_eq t.isLt N_2; omega⟩

include hu in
theorem block2_0 (t : Fin cfg2.N) (y : Fin 256) (z : Fin 512) : iblk2 V c 0 t (ix2 y z) = u (ix2 (row2 t y) z) := by
  unfold iblk2
  refine (View.read_apply ..).trans ?_
  refine (congrFun hu _).trans ?_
  refine congrArg u (funext fun a => Fin.ext ?_)
  have e0 := coord2_0 t
  have h0 : t.val < 64 := lt_of_lt_of_eq t.isLt N_2
  match a with
  | ⟨0, _⟩ => show (BitVec.ofNat 32 (grid2.coords t 0).val).toNat * 256 + 1 * y.val = t.val * 256 + y.val; rw [small _ (by omega), e0]; omega
  | ⟨1, _⟩ => show 0 * 512 + 1 * z.val = z.val; omega

include hw in
theorem block2_1 (t : Fin cfg2.N) (y : Fin 512) (z : Fin 1024) : iblk2 V c 1 t (ix2 y z) = w (ix2 y z) := by
  unfold iblk2
  refine (View.read_apply ..).trans ?_
  refine (congrFun hw _).trans ?_
  refine congrArg w (funext fun a => Fin.ext ?_)
  match a with
  | ⟨0, _⟩ => show 0 * 512 + 1 * y.val = y.val; omega
  | ⟨1, _⟩ => show 0 * 1024 + 1 * z.val = z.val; omega

include hh in
theorem block2_2 (t : Fin cfg2.N) (y : Fin 256) (z : Fin 1024) : iblk2 V c 2 t (ix2 y z) = h (ix2 (row2 t y) z) := by
  unfold iblk2
  refine (View.read_apply ..).trans ?_
  refine (congrFun hh _).trans ?_
  refine congrArg h (funext fun a => Fin.ext ?_)
  have e0 := coord2_0 t
  have h0 : t.val < 64 := lt_of_lt_of_eq t.isLt N_2
  match a with
  | ⟨0, _⟩ => show (BitVec.ofNat 32 (grid2.coords t 0).val).toNat * 256 + 1 * y.val = t.val * 256 + y.val; rw [small _ (by omega), e0]; omega
  | ⟨1, _⟩ => show 0 * 1024 + 1 * z.val = z.val; omega

include hg in
theorem block2_3 (t : Fin cfg2.N) (z : Fin 1024) : iblk2 V c 3 t (ix2 0 z) = g (ix2 0 z) := by
  unfold iblk2
  refine (View.read_apply ..).trans ?_
  refine (congrFun hg _).trans ?_
  refine congrArg g (funext fun a => Fin.ext ?_)
  match a with
  | ⟨0, _⟩ => rfl
  | ⟨1, _⟩ => show 0 * 1024 + 1 * z.val = z.val; omega

include hb in
theorem block2_4 (t : Fin cfg2.N) (z : Fin 1024) : iblk2 V c 4 t (ix2 0 z) = b (ix2 0 z) := by
  unfold iblk2
  refine (View.read_apply ..).trans ?_
  refine (congrFun hb _).trans ?_
  refine congrArg b (funext fun a => Fin.ext ?_)
  match a with
  | ⟨0, _⟩ => rfl
  | ⟨1, _⟩ => show 0 * 1024 + 1 * z.val = z.val; omega

/-- Where the result's block lies. -/
theorem place2 (G : FVec Ideal S16384x1024 .f32) (t : Fin cfg2.N) (y : Fin 256) (z : Fin 1024) :
    ((cfg2.win 5).blk t).view.read (Elt Ideal) G (ix2 y z) = G (ix2 (row2 t y) z) := by
  refine (View.read_apply ..).trans ?_
  show G _ = G (ix2 (row2 t y) z)
  refine congrArg G (funext fun a => Fin.ext ?_)
  have e0 := coord2_0 t
  have h0 : t.val < 64 := lt_of_lt_of_eq t.isLt N_2
  match a with
  | ⟨0, _⟩ => show (BitVec.ofNat 32 (grid2.coords t 0).val).toNat * 256 + 1 * y.val = t.val * 256 + y.val; rw [small _ (by omega), e0]; omega
  | ⟨1, _⟩ => show 0 * 1024 + 1 * z.val = z.val; omega

theorem out2_eq (x0 : Vec Ideal S256x512 .f32) (x1 : Vec Ideal S512x1024 .bf16) (x2 : Vec Ideal S256x1024 .f32) (x3 x4 : Vec Ideal S1x1024 .f32) :
    out2_5 x0 x1 x2 x3 x4 = k2_pay1 x0 x1 x2 x3 x4 := by
  unfold out2_5
  refine (View.canon_cons_unit_zero (S := S256x1024) zeros2 _ _ _).trans ?_
  refine (congrArg₂ (fun a b => k2_pay1 a b _ _ _) (View.ld_unit_zero (S := S256x512) zeros2 _ _) (View.ld_unit_zero (S := S512x1024) zeros2 _ _)).trans ?_
  refine (congrArg₂ (fun a b => k2_pay1 x0 x1 a b _) (View.ld_unit_zero (S := S256x1024) zeros2 _ _) (View.ld_unit_zero (S := S1x1024) zeros2 _ _)).trans ?_
  exact congrArg (k2_pay1 x0 x1 x2 x3) (View.ld_unit_zero (S := S1x1024) zeros2 _ _)

include hu hw hh hg hb in
theorem flushed2 (t : Fin cfg2.N) (_ : (cfg2.win 5).flush t = true) :
    (dat2 V c).flushed 5 t = ((cfg2.win 5).blk t).view.read (Elt Ideal) (rows u w h g b) := by
  show (cfg2.win 5).cut (grid2.coords t) ((dat2 V c).after 5 t) = _
  rw [after2_5]
  refine funext fun (j : S256x1024.Idx) => ?_
  have hj : j = ix2 (j 0 : Fin 256) (j 1 : Fin 1024) := by
    funext a
    match a with
    | ⟨0, _⟩ => rfl
    | ⟨1, _⟩ => rfl
  rw [hj]
  refine Eq.trans ?_ (place2 (rows u w h g b) t (j 0) (j 1)).symm
  refine (congrFun (out2_eq _ _ _ _ _) _).trans ((out_at _ _ _ _ _ _ _).trans ?_)
  exact normed_congr (fun l => block2_2 V c h hh t (j 0) l)
    (fun l => congrArg₂ (fun u v : Fin 512 → EReal => dot u v) (funext fun k => block2_0 V c u hu t (j 0) k) (funext fun k => block2_1 V c w hw t k l))
    (fun l => block2_3 V c g hg t l) (fun l => block2_4 V c b hb t l) (j 1)

include hu hw hh hg hb in
/-- The array the last part leaves. -/
theorem array2 : (dat2 V c).arrAt 5 cfg2.N = rows u w h g b :=
  (dat2 V c).arrAt_eq_of_cover 5 (rows u w h g b) (flushed2 V c u w h g b hu hw hh hg hb) fun (i : S16384x1024.Idx) => by
    have h0 : (i 0 : Nat) < 16384 := (i 0).isLt
    have h1 : (i 1 : Nat) < 1024 := (i 1).isLt
    have ht : (i 0 : Nat) / 256 < cfg2.N := lt_of_lt_of_eq (by omega) N_2.symm
    refine ⟨⟨_, ht⟩, flush2_5 _, ?_⟩
    have e0 : (grid2.coords ⟨_, ht⟩ 0).val = (i 0 : Nat) / 256 := coord2_0 ⟨_, ht⟩
    show i ∈ ((View.whole main_v11).slice ((cfg2.win 5).rect ⟨_, ht⟩)).set
    refine (congrArg (i ∈ ·) (View.set_slice_whole _ _)).mpr (Rect.mem_set_unit.mpr fun a => ?_)
    match a with
    | ⟨0, _⟩ =>
      show (BitVec.ofNat 32 (grid2.coords ⟨_, ht⟩ 0).val).toNat * 256 ≤ (i 0 : Nat) ∧ (i 0 : Nat) < (BitVec.ofNat 32 (grid2.coords ⟨_, ht⟩ 0).val).toNat * 256 + 256
      rw [small _ (by omega), e0]; omega
    | ⟨1, _⟩ => show 0 * 1024 ≤ (i 1 : Nat) ∧ (i 1 : Nat) < 0 * 1024 + 1024; omega

end Cert.CrossIdeal.Layer
end
-- ==== Proof.CrossResult.lean ====
/- The cross-attention's result in its arguments. -/
module
public import proofs.«01_k».proof.Proof.CrossRun
public import proofs.«01_k».proof.Proof.CrossRows
public import Idealize.ShloMosaic.Lib.Pointwise
public import Idealize.ShloMosaic.Lib.StableHlo.RunRead
@[expose] public section
noncomputable section
namespace Cert.CrossIdeal.Layer
open Cert.CrossIdeal.Gen Cert.RowNorm
open Idealize.ShloMosaic Idealize.ShloMosaic.TcCoe Idealize.ShloMosaic.Tactic

variable (m : (ℓ : Loc nD τ sig) → Buf (Elt Ideal) ℓ) (ρ : Dev nD → PrngReg) (c : Dev nD)

/-- The row of a token of a sequence. -/
def flat (s : Fin 4) (t : Fin 4096) : Fin 16384 := ⟨s.val * 4096 + t.val, by omega⟩

/-- The arrays the three parts take, from the arguments. -/
def input (h : FVec Ideal S4x4096x1024 .f32) : FVec Ideal S16384x1024 .f32 := fun i =>
  h (ix3 (⟨(i 0).val / 4096, by have h0 : (i 0).val < 16384 := (i 0).isLt; omega⟩ : Fin 4) (⟨(i 0).val % 4096, by omega⟩ : Fin 4096) (i 1))
def lone (g : FVec Ideal S1024 .f32) : FVec Ideal S1x1024 .f32 := fun i => g (ix1 (i 1))
def merged (k : FVec Ideal S4x256x4x128 .f32) : FVec Ideal S4x256x512 .f32 := fun i =>
  k (ix4 (i 0) (i 1) (⟨(i 2).val / 128, by have h2 : (i 2).val < 512 := (i 2).isLt; omega⟩ : Fin 4) (⟨(i 2).val % 128, by omega⟩ : Fin 128))
def parted (x : FVec Ideal S16384x512 .f32) : FVec Ideal S4x4096x512 .f32 := fun i => x (ix2 (flat (i 0) (i 1)) (i 2))
def joined (x : FVec Ideal S4x4096x512 .f32) : FVec Ideal S16384x512 .f32 := fun i =>
  x (ix3 (⟨(i 0).val / 4096, by have h0 : (i 0).val < 16384 := (i 0).isLt; omega⟩ : Fin 4) (⟨(i 0).val % 4096, by omega⟩ : Fin 4096) (i 1))

variable (h : FVec Ideal S4x4096x1024 .f32) (k v : FVec Ideal S4x256x4x128 .f32) (wq : FVec Ideal S1024x512 .f32) (wo : FVec Ideal S512x1024 .f32) (g b : FVec Ideal S1024 .f32)
  (e0 : m ((c : Thread nD τ).loc main_arg0) = h) (e1 : m ((c : Thread nD τ).loc main_arg1) = k) (e2 : m ((c : Thread nD τ).loc main_arg2) = v)
  (e3 : m ((c : Thread nD τ).loc main_arg3) = wq) (e4 : m ((c : Thread nD τ).loc main_arg4) = wo)
  (e5 : m ((c : Thread nD τ).loc main_arg5) = g) (e6 : m ((c : Thread nD τ).loc main_arg6) = b)

include e0 in
theorem input_eq : V1 m ρ c main_v0 = input h := by
  refine funext fun (i : S16384x1024.Idx) => ?_
  have H (r : Fin 16384) (l : Fin 1024) : V1 m ρ c main_v0 (ix2 r l) = m ((c : Thread nD τ).loc main_arg0) (ix3 (⟨r.val / 4096, by omega⟩ : Fin 4) (⟨r.val % 4096, by omega⟩ : Fin 4096) l) := by
    show StableHlo.after _ _ (Proc.devRef .tc main_v0) _ = _
    after_reads_simp
    pointwise []
  rw [eq_ix2 i]
  exact (H _ _).trans (congrFun e0 _)

include e3 in
theorem query_weights : V1 m ρ c main_v1 = wq := by
  refine funext fun (i : S1024x512.Idx) => ?_
  have H (r : Fin 1024) (l : Fin 512) : V1 m ρ c main_v1 (ix2 r l) = m ((c : Thread nD τ).loc main_arg3) (ix2 r l) := by
    show StableHlo.after _ _ (Proc.devRef .tc main_v1) _ = _
    after_reads_simp
    pointwise []
  rw [eq_ix2 i]
  exact (H _ _).trans (congrFun e3 _)

include e0 e3 in
theorem queries_eq : V3 m ρ c main_v3 = parted (queries (input h) wq) := by
  refine funext fun (i : S4x4096x512.Idx) => ?_
  have H (s : Fin 4) (t : Fin 4096) (l : Fin 512) : V3 m ρ c main_v3 (ix3 s t l) = W2 m ρ c (Proc.devRef .tc main_v2) (ix2 (flat s t) l) := by
    show StableHlo.after _ _ (Proc.devRef .tc main_v3) _ = _
    after_reads_simp
    pointwise [flat]
  rw [eq_ix3 i]
  exact (H _ _ _).trans (congrFun ((W2_arr m ρ c 2).trans (array0 (V1 m ρ) c _ _ (input_eq m ρ c h e0) (query_weights m ρ c wq e3))) _)

include e1 in
theorem keys_eq : V3 m ρ c main_v4 = merged k := by
  refine funext fun (i : S4x256x512.Idx) => ?_
  have H (s : Fin 4) (t : Fin 256) (l : Fin 512) : V3 m ρ c main_v4 (ix3 s t l)
      = W2 m ρ c (Proc.devRef .tc main_arg1) (ix4 s t (⟨l.val / 128, by omega⟩ : Fin 4) (⟨l.val % 128, by omega⟩ : Fin 128)) := by
    show StableHlo.after _ _ (Proc.devRef .tc main_v4) _ = _
    after_reads_simp
    pointwise []
  rw [eq_ix3 i]
  exact (H _ _ _).trans (congrFun ((W2_args m ρ c main_arg1 (by decide)).trans e1) _)

include e2 in
theorem values_eq : V3 m ρ c main_v5 = merged v := by
  refine funext fun (i : S4x256x512.Idx) => ?_
  have H (s : Fin 4) (t : Fin 256) (l : Fin 512) : V3 m ρ c main_v5 (ix3 s t l)
      = W2 m ρ c (Proc.devRef .tc main_arg2) (ix4 s t (⟨l.val / 128, by omega⟩ : Fin 4) (⟨l.val % 128, by omega⟩ : Fin 128)) := by
    show StableHlo.after _ _ (Proc.devRef .tc main_v5) _ = _
    after_reads_simp
    pointwise []
  rw [eq_ix3 i]
  exact (H _ _ _).trans (congrFun ((W2_args m ρ c main_arg2 (by decide)).trans e2) _)

/-- The attention, in the arguments. -/
def attention : FVec Ideal S4x4096x512 .f32 := attended (parted (queries (input h) wq)) (merged k) (merged v)

include e0 e1 e2 e3 in
theorem attention_eq : V5 m ρ c main_v7 = joined (attention h k v wq) := by
  refine funext fun (i : S16384x512.Idx) => ?_
  have H (r : Fin 16384) (l : Fin 512) : V5 m ρ c main_v7 (ix2 r l)
      = W4 m ρ c (Proc.devRef .tc main_v6) (ix3 (⟨r.val / 4096, by omega⟩ : Fin 4) (⟨r.val % 4096, by omega⟩ : Fin 4096) l) := by
    show StableHlo.after _ _ (Proc.devRef .tc main_v7) _ = _
    after_reads_simp
    pointwise []
  rw [eq_ix2 i]
  exact (H _ _).trans (congrFun ((W4_arr m ρ c 3).trans
    (array1 (V3 m ρ) c _ _ _ (queries_eq m ρ c h wq e0 e3) (keys_eq m ρ c k e1) (values_eq m ρ c v e2))) _)

include e4 in
theorem out_weights : V5 m ρ c main_v8 = wo := by
  refine funext fun (i : S512x1024.Idx) => ?_
  have H (r : Fin 512) (l : Fin 1024) : V5 m ρ c main_v8 (ix2 r l) = W4 m ρ c (Proc.devRef .tc main_arg4) (ix2 r l) := by
    show StableHlo.after _ _ (Proc.devRef .tc main_v8) _ = _
    after_reads_simp
    pointwise []
  rw [eq_ix2 i]
  exact (H _ _).trans (congrFun ((W4_args m ρ c main_arg4 (by decide)).trans e4) _)

include e5 in
theorem gains : V5 m ρ c main_v9 = lone g := by
  refine funext fun (i : S1x1024.Idx) => ?_
  have H (r : Fin 1) (l : Fin 1024) : V5 m ρ c main_v9 (ix2 r l) = W4 m ρ c (Proc.devRef .tc main_arg5) (ix1 l) := by
    show StableHlo.after _ _ (Proc.devRef .tc main_v9) _ = _
    after_reads_simp
    pointwise []
  rw [eq_ix2 i]
  exact (H _ _).trans (congrFun ((W4_args m ρ c main_arg5 (by decide)).trans e5) _)

include e6 in
theorem offsets : V5 m ρ c main_v10 = lone b := by
  refine funext fun (i : S1x1024.Idx) => ?_
  have H (r : Fin 1) (l : Fin 1024) : V5 m ρ c main_v10 (ix2 r l) = W4 m ρ c (Proc.devRef .tc main_arg6) (ix1 l) := by
    show StableHlo.after _ _ (Proc.devRef .tc main_v10) _ = _
    after_reads_simp
    pointwise []
  rw [eq_ix2 i]
  exact (H _ _).trans (congrFun ((W4_args m ρ c main_arg6 (by decide)).trans e6) _)

include e0 in
theorem input_later : V5 m ρ c main_v0 = input h :=
  (W5_of m ρ c main_v0 (by decide)).trans ((W4_of m ρ c main_v0 (by decide)).trans
    ((W3_of m ρ c main_v0 (by decide)).trans ((W2_of m ρ c main_v0 (by decide)).trans (input_eq m ρ c h e0))))

include e0 e1 e2 e3 e4 e5 e6 in
theorem rows_eq : W6 m ρ c (Proc.devRef .tc main_v11) = rows (joined (attention h k v wq)) wo (input h) (lone g) (lone b) :=
  (W6_arr m ρ c 5).trans (array2 (V5 m ρ) c _ _ _ _ _ (attention_eq m ρ c h k v wq e0 e1 e2 e3) (out_weights m ρ c wo e4) (input_later m ρ c h e0)
    (gains m ρ c g e5) (offsets m ρ c b e6))

/-- The layer of the arguments. -/
def layer : FVec Ideal S4x4096x1024 .f32 := fun i =>
  rows (joined (attention h k v wq)) wo (input h) (lone g) (lone b) (ix2 (flat (i 0) (i 1)) (i 2))

include e0 e1 e2 e3 e4 e5 e6 in
theorem layer_eq : W7 m ρ c (Proc.devRef .tc main_v12) = layer h k v wq wo g b := by
  refine funext fun (i : S4x4096x1024.Idx) => ?_
  have H (s : Fin 4) (t : Fin 4096) (l : Fin 1024) : W7 m ρ c (Proc.devRef .tc main_v12) (ix3 s t l)
      = W6 m ρ c (Proc.devRef .tc main_v11) (ix2 (flat s t) l) := by
    show StableHlo.after _ _ (Proc.devRef .tc main_v12) _ = _
    after_reads_simp
    pointwise [flat]
  rw [eq_ix3 i]
  exact (H _ _ _).trans (congrFun (rows_eq m ρ c h k v wq wo g b e0 e1 e2 e3 e4 e5 e6) _)

/-- The run: the result at the layer of the arguments, the arguments unchanged. -/
theorem run_result : θ_run defs (onTc (τ := τ) (main (F := Ideal))) ⟨m, fun _ => 0, ρ⟩ fun r => ∀ c : Dev nD,
      r.2.mem ((c : Thread nD τ).loc main_v12) = layer (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c _ (mem_uc main_v12 (by decide))).trans (layer_eq m ρ c _ _ _ _ _ _ _ rfl rfl rfl rfl rfl rfl rfl),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (final m ρ)

end Cert.CrossIdeal.Layer
end
-- ==== Proof.CrossReference.lean ====
/- The cross-attention's reference, read at an index. -/
module
public import proofs.«01_k».proof.Proof.Gen.CrossReferenceIdeal.Run
public import proofs.«01_k».proof.Proof.CrossSoftmax
public import Idealize.ShloMosaic.Lib.IdealHost
@[expose] public section
noncomputable section
namespace Cert.CrossReferenceIdeal.Layer
open Cert.CrossReferenceIdeal Cert.CrossReferenceIdeal.Gen Cert.CrossReferenceIdeal.Value Cert.RowNorm Cert.CrossSoftmax Idealize.ShloMosaic

/-- The scores of all heads. -/
def scoring (h : FVec Ideal S4x4096x1024 .f32) (k : FVec Ideal S4x256x4x128 .f32) (wq : FVec Ideal S1024x512 .f32) : FVec Ideal S4x4x4096x256 .f32 :=
  mulf (Host.dotGeneral dot_S4x4096x4x128_S4x256x4x128_S4x4x4096x256_3_3_1_1_02_02 none (shapeCast _ (Host.dotGeneral dot_S4x4096x1024_S1024x512_S4x4096x512_2_0_01_1_n_n none h wq) shapeCasts_S4x4096x512_S4x4096x4x128) k) (broadcastInDim S4x4x4096x256 ![] bcast_S_S4x4x4096x256 (constant S_ .f32 0x3DB504F3#32))

/-- The largest score of every row. -/
def rowmax (s : FVec Ideal S4x4x4096x256 .f32) : FVec Ideal S4x4x4096 .f32 :=
  Host.reduce FloatOps.maximumf s (constant S_ .f32 0xFF800000#32) reducesTo_S4x4x4096x256_S4x4x4096_d3 h_S_

/-- The exponentials, over given row maxima. -/
def over (s : FVec Ideal S4x4x4096x256 .f32) (M : FVec Ideal S4x4x4096 .f32) : FVec Ideal S4x4x4096x256 .f32 :=
  Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) M))))

/-- The sum of every row. -/
def rowsum (w : FVec Ideal S4x4x4096x256 .f32) : FVec Ideal S4x4x4096 .f32 :=
  Host.reduceAdd w (constant S_ .f32 0x00000000#32) reducesTo_S4x4x4096x256_S4x4x4096_d3 h_S_

/-- The exponentials over given row sums, against the values. -/
def against (w : FVec Ideal S4x4x4096x256 .f32) (D : FVec Ideal S4x4x4096 .f32) (v : FVec Ideal S4x256x4x128 .f32) : FVec Ideal S4x4096x512 .f32 :=
  shapeCast _ (transpose S4x4096x4x128 [0, 3, 1, 2] (Host.dotGeneral dot_S4x256x4x128_S4x4x4096x256_S4x4x128x4096_1_3_3_2_02_01 none v (Host.divf w (broadcastInDim S4x4x4096x256 ![0, 1, 2, 3] bcast_S4x4x4096x1_S4x4x4096x256_0_1_2_3 (broadcastInDim S4x4x4096x1 ![0, 1, 2] bcast_S4x4x4096_S4x4x4096x1_0_1_2 D)))) transposes_S4x4x128x4096_S4x4096x4x128_0_3_1_2) shapeCasts_S4x4096x4x128_S4x4096x512

/-- The softmax of the scores against the values. -/
def attention (s : FVec Ideal S4x4x4096x256 .f32) (v : FVec Ideal S4x256x4x128 .f32) : FVec Ideal S4x4096x512 .f32 :=
  against (over s (rowmax s)) (rowsum (over s (rowmax s))) v

/-- The residual and the output projection. -/
def residual (h : FVec Ideal S4x4096x1024 .f32) (o : FVec Ideal S4x4096x512 .f32) (wo : FVec Ideal S512x1024 .f32) : FVec Ideal S4x4096x1024 .f32 :=
  addf (mulf (broadcastInDim S4x4096x1024 ![] bcast_S_S4x4096x1024 (constant S_ .f32 0x3FB504F3#32)) h) (Host.dotGeneral dot_S4x4096x512_S512x1024_S4x4096x1024_2_0_01_1_n_n none o wo)

/-- A row's mean, and its deviations from it. -/
def average (x : FVec Ideal S4x4096x1024 .f32) : FVec Ideal S4x4096x1 .f32 :=
  Host.divf (broadcastInDim S4x4096x1 ![0, 1] bcast_S4x4096_S4x4096x1_0_1 (Host.reduceAdd x (constant S_ .f32 0x00000000#32) reducesTo_S4x4096x1024_S4x4096_d2 h_S_)) (broadcastInDim S4x4096x1 ![] bcast_S_S4x4096x1 (constant S_ .f32 0x44800000#32))

def deviation (x : FVec Ideal S4x4096x1024 .f32) : FVec Ideal S4x4096x1024 .f32 :=
  subf x (broadcastInDim S4x4096x1024 ![0, 1, 2] bcast_S4x4096x1_S4x4096x1024_0_1_2 (average x))

/-- The normalized rows. -/
def normalized (x : FVec Ideal S4x4096x1024 .f32) (g b : FVec Ideal S1024 .f32) : FVec Ideal S4x4096x1024 .f32 :=
  addf (mulf (mulf (deviation x) (broadcastInDim S4x4096x1024 ![0, 1, 2] bcast_S4x4096x1_S4x4096x1024_0_1_2 (Host.rsqrt (addf (average (mulf (deviation x) (deviation x))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))

set_option maxRecDepth 8192 in
theorem result_eq (m : (ℓ : Loc nD τ sig) → Buf (Elt Ideal) ℓ) (c : Dev nD) :
    res_main_v46 m c = normalized (residual (m ((c.tc : Thread nD τ).loc main_arg0))
      (attention (scoring (m ((c.tc : Thread nD τ).loc main_arg0)) (m ((c.tc : Thread nD τ).loc main_arg1)) (m ((c.tc : Thread nD τ).loc main_arg3))) (m ((c.tc : Thread nD τ).loc main_arg2)))
      (m ((c.tc : Thread nD τ).loc main_arg4))) (m ((c.tc : Thread nD τ).loc main_arg5)) (m ((c.tc : Thread nD τ).loc main_arg6)) := rfl

theorem scoring_at (h : FVec Ideal S4x4096x1024 .f32) (k : FVec Ideal S4x256x4x128 .f32) (wq : FVec Ideal S1024x512 .f32) (s : Fin 4) (n : Fin 4) (t : Fin 4096) (j : Fin 256) :
    scoring h k wq (ix4 s n t j) = scores (fun i : Fin 128 => dot (fun a : Fin 1024 => h (ix3 s t a)) fun a => wq (ix2 a (⟨n.val * 128 + i.val, by omega⟩ : Fin 512)))
      (fun j i => k (ix4 s j n i)) j := by
  pointwise [scoring, scores, dot, scale]

/-- A row's maximum. -/
theorem rowmax_at {w : ℕ} (s : FVec Ideal ⟨4, ![4, 4, 4096, w]⟩ .f32) (i : FVec Ideal S_ .f32) (h : (⟨4, ![4, 4, 4096, w]⟩ : Shape).ReducesTo [3] S4x4x4096)
    (hu : 0 < S_.numel) (b : Fin 4) (n : Fin 4) (t : Fin 4096) :
    Host.reduce FloatOps.maximumf s i h hu (ix3 b n t) = Finset.univ.fold max (i (Shape.Idx.first hu)) fun k : Fin w => s (ix4 b n t k) := by
  simp only [pointwise]

/-- A row's sum. -/
theorem rowsum_at {w : ℕ} (s : FVec Ideal ⟨4, ![4, 4, 4096, w]⟩ .f32) (i : FVec Ideal S_ .f32) (h : (⟨4, ![4, 4, 4096, w]⟩ : Shape).ReducesTo [3] S4x4x4096)
    (hu : 0 < S_.numel) (b : Fin 4) (n : Fin 4) (t : Fin 4096) :
    Host.reduceAdd s i h hu (ix3 b n t) = i (Shape.Idx.first hu) + ∑ k : Fin w, s (ix4 b n t k) := by
  simp only [pointwise, Ideal.hostReduceAdd_def]

/-- The exponentials over given row maxima. -/
theorem over_at (s : FVec Ideal S4x4x4096x256 .f32) (M : FVec Ideal S4x4x4096 .f32) (b : Fin 4) (n : Fin 4) (t : Fin 4096) (j : Fin 256) :
    over s M (ix4 b n t j) = Ideal.exp (s (ix4 b n t j) - M (ix3 b n t)) := by
  pointwise [over]
  rw [ofBits_neg_inf, max_eq_right bot_le]

/-- The weights of a row whose scores are `S`, -/
theorem weights_at (s : FVec Ideal S4x4x4096x256 .f32) (b : Fin 4) (n : Fin 4) (t : Fin 4096) (S : Fin 256 → EReal) (hS : ∀ j, s (ix4 b n t j) = S j) (j : Fin 256) :
    over s (rowmax s) (ix4 b n t j) = weight S j := by
  refine (over_at s (rowmax s) b n t j).trans (congrArg₂ (fun x z => Ideal.exp (x - z)) (hS j) ?_)
  refine (rowmax_at s _ reducesTo_S4x4x4096x256_S4x4x4096_d3 h_S_ b n t).trans ?_
  exact congrArg (Finset.univ.fold max (Ideal.ofBits FTy.f32 0xFF800000#32)) (funext hS)

/-- and their sum. -/
theorem total_at (s : FVec Ideal S4x4x4096x256 .f32) (b : Fin 4) (n : Fin 4) (t : Fin 4096) (S : Fin 256 → EReal) (hS : ∀ j, s (ix4 b n t j) = S j) :
    rowsum (over s (rowmax s)) (ix3 b n t) = ∑ j, weight S j := by
  refine (rowsum_at (over s (rowmax s)) _ reducesTo_S4x4x4096x256_S4x4x4096_d3 h_S_ b n t).trans ?_
  rw [show constant (F := Ideal) S_ .f32 0x00000000#32 (Shape.Idx.first h_S_) = (0 : EReal) from Ideal.ofBits_zero_f32, zero_add]
  exact Finset.sum_congr rfl fun j _ => weights_at s b n t S hS j

/-- The quotients against the values, for given row sums. -/
theorem against_at (w : FVec Ideal S4x4x4096x256 .f32) (D : FVec Ideal S4x4x4096 .f32) (v : FVec Ideal S4x256x4x128 .f32) (s : Fin 4) (t : Fin 4096) (l : Fin 512) :
    against w D v (ix3 s t l) = ∑ j : Fin 256, v (ix4 s j (⟨l.val / 128, by omega⟩ : Fin 4) (⟨l.val % 128, by omega⟩ : Fin 128))
      * Ideal.div (w (ix4 s (⟨l.val / 128, by omega⟩ : Fin 4) t j)) (D (ix3 s (⟨l.val / 128, by omega⟩ : Fin 4) t)) := by
  pointwise [against]

/-- One entry of the attention. -/
theorem attention_at (h : FVec Ideal S4x4096x1024 .f32) (k v : FVec Ideal S4x256x4x128 .f32) (wq : FVec Ideal S1024x512 .f32) (s : Fin 4) (t : Fin 4096) (l : Fin 512) :
    attention (scoring h k wq) v (ix3 s t l) =
      early (scores (fun i : Fin 128 => dot (fun a : Fin 1024 => h (ix3 s t a)) fun a => wq (ix2 a (⟨l.val / 128 * 128 + i.val, by omega⟩ : Fin 512)))
          fun j i => k (ix4 s j (⟨l.val / 128, by omega⟩ : Fin 4) i))
        fun j => v (ix4 s j (⟨l.val / 128, by omega⟩ : Fin 4) (⟨l.val % 128, by omega⟩ : Fin 128)) := by
  have hS := scoring_at h k wq s ⟨l.val / 128, by omega⟩ t
  refine (against_at _ _ v s t l).trans (Finset.sum_congr rfl fun j _ => ?_)
  exact congrArg₂ (fun x y => v _ * Ideal.div x y) (weights_at _ s _ t _ hS j) (total_at _ s _ t _ hS)

theorem residual_at (h : FVec Ideal S4x4096x1024 .f32) (o : FVec Ideal S4x4096x512 .f32) (wo : FVec Ideal S512x1024 .f32) (s : Fin 4) (t : Fin 4096) (j : Fin 1024) :
    residual h o wo (ix3 s t j) = skip (fun j => h (ix3 s t j)) (fun j => dot (fun l : Fin 512 => o (ix3 s t l)) fun l => wo (ix2 l j)) j := by
  pointwise [residual, skip, dot, alpha]

theorem normalized_at (x : FVec Ideal S4x4096x1024 .f32) (g b : FVec Ideal S1024 .f32) (s : Fin 4) (t : Fin 4096) (l : Fin 1024) :
    normalized x g b (ix3 s t l) = normed (fun j => x (ix3 s t j)) (fun j => g (ix1 j)) (fun j => b (ix1 j)) l := by
  pointwise [normalized, deviation, average, normed, mean, width, eps]

/-- One entry of the result. -/
theorem result_at (m : (ℓ : Loc nD τ sig) → Buf (Elt Ideal) ℓ) (c : Dev nD) (h : FVec Ideal S4x4096x1024 .f32) (k v : FVec Ideal S4x256x4x128 .f32)
    (wq : FVec Ideal S1024x512 .f32) (wo : FVec Ideal S512x1024 .f32) (g b : FVec Ideal S1024 .f32)
    (e0 : m ((c.tc : Thread nD τ).loc main_arg0) = h) (e1 : m ((c.tc : Thread nD τ).loc main_arg1) = k) (e2 : m ((c.tc : Thread nD τ).loc main_arg2) = v)
    (e3 : m ((c.tc : Thread nD τ).loc main_arg3) = wq) (e4 : m ((c.tc : Thread nD τ).loc main_arg4) = wo) (e5 : m ((c.tc : Thread nD τ).loc main_arg5) = g)
    (e6 : m ((c.tc : Thread nD τ).loc main_arg6) = b) (s : Fin 4) (t : Fin 4096) (l : Fin 1024) :
    (res_main_v46 m c : FVec Ideal S4x4096x1024 .f32) (ix3 s t l) =
      normed (skip (fun j => h (ix3 s t j)) fun j => dot (fun l : Fin 512 =>
          early (scores (fun i : Fin 128 => dot (fun a : Fin 1024 => h (ix3 s t a)) fun a => wq (ix2 a (⟨l.val / 128 * 128 + i.val, by omega⟩ : Fin 512)))
              fun j i => k (ix4 s j (⟨l.val / 128, by omega⟩ : Fin 4) i))
            fun j => v (ix4 s j (⟨l.val / 128, by omega⟩ : Fin 4) (⟨l.val % 128, by omega⟩ : Fin 128))) fun l => wo (ix2 l j))
        (fun j => g (ix1 j)) (fun j => b (ix1 j)) l := by
  rw [result_eq, e0, e1, e2, e3, e4, e5, e6]
  refine (normalized_at _ g b s t l).trans ?_
  refine congrArg (fun x : Fin 1024 → EReal => normed x (fun j => g (ix1 j)) (fun j => b (ix1 j)) l) (funext fun j => ?_)
  refine (residual_at h _ wo s t j).trans ?_
  refine congrArg (fun y : Fin 1024 → EReal => skip (fun j => h (ix3 s t j)) y j) (funext fun j => ?_)
  exact dot_congr (fun l => attention_at h k v wq s t l) fun _ => rfl

end Cert.CrossReferenceIdeal.Layer
end
-- ==== Proof.CrossFinite.lean ====
/- What the precondition `finite` says: the memory's keys and the queries' weights are finite. -/
module
public import proofs.«01_k».proof.Proof.Gen.Pre_finite
public import proofs.«01_k».proof.Proof.Preconditions
@[expose] public section
noncomputable section
namespace Cert.CrossClaims
open Idealize.ShloMosaic Cert.Attend

theorem of_finite (h : FVec Ideal Pre_finite.S4x4096x1024 .f32) (k v : FVec Ideal Pre_finite.S4x256x4x128 .f32) (wq : FVec Ideal Pre_finite.S1024x512 .f32)
    (wo : FVec Ideal Pre_finite.S512x1024 .f32) (g b : FVec Ideal Pre_finite.S1024 .f32)
    (e : Pre_finite.fn (F := Ideal) h k v wq wo g b = fun _ => 1#1) :
    (∀ i, k i ≠ ⊤ ∧ k i ≠ ⊥) ∧ (∀ i, wq i ≠ ⊤ ∧ wq i ≠ ⊥) := by
  have e0 := congrFun e (fun a => a.elim0)
  obtain ⟨hk, hw⟩ := IntOp.andi_eq_one.1 (show IntOp.andi _ _ = 1#1 from e0)
  exact ⟨fun i => finite_of_abs _ (Host.reduce_andi_all _ _ _ _ _ hk i), fun i => finite_of_abs _ (Host.reduce_andi_all _ _ _ _ _ hw i)⟩

end Cert.CrossClaims

end
-- ==== Proof.RowInfinite.lean ====
/- A row with an infinite entry, normalized: every deviation from its mean is infinite, the root's reciprocal is zero, and the
   offsets are left. -/
module
public import proofs.«01_k».proof.Proof.RowNorm
@[expose] public section
noncomputable section
namespace Cert.RowNorm
open Idealize.ShloMosaic

theorem width_eq : width = ((1024 : ℝ) : EReal) := by
  simp [width, Ideal.ofBits, Ideal.ieee, -EReal.coe_mul]; norm_num

theorem eps_ne_bot : eps ≠ ⊥ := by
  simp [eps, Ideal.ofBits, Ideal.ieee, -EReal.coe_mul]

theorem alpha_pos : ∃ r : ℝ, 0 < r ∧ alpha = (r : EReal) := by
  refine ⟨11863283 / 8388608, by norm_num, ?_⟩
  simp [alpha, Ideal.ofBits, Ideal.ieee, -EReal.coe_mul]; norm_num

/-- An infinite number. -/
def Infinite (x : EReal) : Prop := x = ⊤ ∨ x = ⊥

/-- The sum of a row with an infinite entry is infinite, -/
theorem sum_infinite {n : ℕ} (r : Fin n → EReal) (k : Fin n) (h : Infinite (r k)) : Infinite (∑ j, r j) := by
  by_cases hb : ∃ j, r j = ⊥
  · obtain ⟨j, hj⟩ := hb
    refine Or.inr ?_
    rw [← Finset.add_sum_erase _ _ (Finset.mem_univ j), hj, EReal.bot_add]
  · have hb' : ∀ j, r j ≠ ⊥ := fun j e => hb ⟨j, e⟩
    refine Or.inl ?_
    rw [← Finset.add_sum_erase _ _ (Finset.mem_univ k), h.resolve_right (hb' k)]
    refine EReal.top_add_of_ne_bot ?_
    exact Finset.sum_induction r (· ≠ ⊥) (fun a b ha hb => by rw [Ne, EReal.add_eq_bot_iff]; exact not_or.2 ⟨ha, hb⟩) (by simp) fun j _ => hb' j

/-- and so is its mean. -/
theorem mean_infinite (r : Fin 1024 → EReal) (k : Fin 1024) (h : Infinite (r k)) : Infinite (mean r) := by
  have p : (0 : ℝ) < 1 / 1024 := by norm_num
  rw [mean, width_eq, Ideal.div_coe (by norm_num)]
  rcases sum_infinite r k h with e | e
  · exact Or.inl (by rw [e, EReal.top_mul_coe_of_pos p])
  · exact Or.inr (by rw [e, EReal.bot_mul_coe_of_pos p])

theorem sub_infinite (x : EReal) {y : EReal} (h : Infinite y) : Infinite (x - y) := by
  rcases h with rfl | rfl
  · exact Or.inr (EReal.sub_top x)
  · by_cases hx : x = ⊥
    · exact Or.inr (by rw [hx, sub_eq_add_neg, EReal.bot_add])
    · exact Or.inl (by rw [sub_eq_add_neg, EReal.neg_bot, EReal.add_top_of_ne_bot hx])

theorem square_infinite {x : EReal} (h : Infinite x) : x * x = ⊤ := by
  rcases h with rfl | rfl
  · exact EReal.top_mul_top
  · exact EReal.bot_mul_bot

theorem mean_top : mean (fun _ => ⊤) = ⊤ := by
  have e : ∑ _j : Fin 1024, (⊤ : EReal) = ⊤ := by
    rw [← Finset.add_sum_erase _ _ (Finset.mem_univ 0)]
    exact EReal.top_add_of_ne_bot (Finset.sum_induction (fun _ => (⊤ : EReal)) (· ≠ ⊥)
      (fun a b ha hb => by rw [Ne, EReal.add_eq_bot_iff]; exact not_or.2 ⟨ha, hb⟩) (by simp) fun _ _ => by simp)
  rw [mean, width_eq, Ideal.div_coe (by norm_num), e, EReal.top_mul_coe_of_pos (by norm_num)]

/-- A row with an infinite entry, normalized. -/
theorem normed_infinite (r g b : Fin 1024 → EReal) (k : Fin 1024) (h : Infinite (r k)) (l : Fin 1024) : normed r g b l = b l := by
  have M := mean_infinite r k h
  have sq : (fun j => (r j - mean r) * (r j - mean r)) = fun _ => (⊤ : EReal) := funext fun j => square_infinite (sub_infinite (r j) M)
  rw [normed, sq, mean_top, EReal.top_add_of_ne_bot eps_ne_bot, show Ideal.rsqrt ⊤ = 0 from rfl, mul_zero, zero_mul, zero_add]

/-- A residual with an infinite entry makes the row's entry infinite. -/
theorem skip_infinite (h y : Fin 1024 → EReal) (k : Fin 1024) (e : Infinite (h k)) : Infinite (skip h y k) := by
  obtain ⟨r, hr, ha⟩ := alpha_pos
  rw [skip, ha]
  rcases e with e | e
  · rw [e, EReal.coe_mul_top_of_pos hr]
    by_cases hy : y k = ⊥
    · exact Or.inr (by rw [hy, EReal.add_bot])
    · exact Or.inl (EReal.top_add_of_ne_bot hy)
  · exact Or.inr (by rw [e, EReal.coe_mul_bot_of_pos hr, EReal.bot_add])

end Cert.RowNorm
end
-- ==== Proof.CrossClaims.lean ====
/- The claims about the cross-attention. -/
module
public import proofs.«01_k».proof.Defs
public import proofs.«01_k».proof.Proof.CrossResult
public import proofs.«01_k».proof.Proof.CrossReference
public import proofs.«01_k».proof.Proof.CrossFinite
public import proofs.«01_k».proof.Proof.RowInfinite
public import proofs.«01_k».proof.Proof.Gen.Cross.Frame
@[expose] public section
noncomputable section
namespace Cert.CrossClaims
open Idealize.ShloMosaic Idealize.SL.Sem Cert.RowNorm Cert.CrossSoftmax Cert.CrossIdeal.Layer

theorem kernel : Cert.quiescent_Cross := fun m g _ => Cert.Cross.Gen.frame m g

theorem frame : Cert.quiescent_CrossIdeal := fun m g _ => Cert.CrossIdeal.Gen.frame m g

theorem frame_finite : Cert.quiescent_CrossIdeal_pre_finite := fun m g _ => Cert.CrossIdeal.Gen.frame m g

theorem reference : Cert.quiescent_CrossReferenceIdeal := fun m g _ =>
  (θ_run Cert.CrossReferenceIdeal.defs _ _).mono (fun r h => ⟨fun c => (h c).2, Idealize.ShloMosaic.sem_eq_zero_of_no_sems (by decide) r.2⟩)
    (Cert.CrossReferenceIdeal.Value.run (F := Ideal) m g)

theorem reference_finite : Cert.quiescent_CrossReferenceIdeal_pre_finite := fun m g _ => reference m g trivial

theorem preserves : Cert.preserves_Cross_CrossIdeal := trivial

open Cert.CrossIdeal in
/-- A token's row of the flattened input is the token's row. -/
theorem input_flat (h : FVec Ideal S4x4096x1024 .f32) (s : Fin 4) (t : Fin 4096) (j : Fin 1024) : input h (ix2 (flat s t) j) = h (ix3 s t j) := by
  have e0 : (⟨(flat s t).val / 4096, by have := (flat s t).isLt; omega⟩ : Fin 4) = s := Fin.ext (show (s.val * 4096 + t.val) / 4096 = s.val by omega)
  have e1 : (⟨(flat s t).val % 4096, by omega⟩ : Fin 4096) = t := Fin.ext (show (s.val * 4096 + t.val) % 4096 = t.val by omega)
  exact congrArg₂ (fun a b => h (ix3 a b j)) e0 e1

open Cert.CrossIdeal in
/-- The same of the attention's rows. -/
theorem joined_flat (x : FVec Ideal S4x4096x512 .f32) (s : Fin 4) (t : Fin 4096) (j : Fin 512) : joined x (ix2 (flat s t) j) = x (ix3 s t j) := by
  have e0 : (⟨(flat s t).val / 4096, by have := (flat s t).isLt; omega⟩ : Fin 4) = s := Fin.ext (show (s.val * 4096 + t.val) / 4096 = s.val by omega)
  have e1 : (⟨(flat s t).val % 4096, by omega⟩ : Fin 4096) = t := Fin.ext (show (s.val * 4096 + t.val) % 4096 = t.val by omega)
  exact congrArg₂ (fun a b => x (ix3 a b j)) e0 e1

open Cert.CrossIdeal in
/-- A head's keys and values, in the merged arrays. -/
theorem merged_lane (k : FVec Ideal S4x256x4x128 .f32) (s : Fin 4) (j : Fin 256) (l : Fin 512) (i : Fin 128) :
    merged k (ix3 s j (lane l i)) = k (ix4 s j (⟨l.val / 128, by omega⟩ : Fin 4) i) := by
  have e0 : (⟨(lane l i).val / 128, by have := (lane l i).isLt; omega⟩ : Fin 4) = ⟨l.val / 128, by omega⟩ := Fin.ext (show (l.val / 128 * 128 + i.val) / 128 = l.val / 128 by omega)
  have e1 : (⟨(lane l i).val % 128, by omega⟩ : Fin 128) = i := Fin.ext (show (l.val / 128 * 128 + i.val) % 128 = i.val by omega)
  exact congrArg₂ (fun a b => k (ix4 s j a b)) e0 e1

open Cert.CrossIdeal in
/-- One entry of the attention, in the arguments. -/
theorem attention_at (h : FVec Ideal S4x4096x1024 .f32) (k v : FVec Ideal S4x256x4x128 .f32) (wq : FVec Ideal S1024x512 .f32)
    (s : Fin 4) (t : Fin 4096) (l : Fin 512) :
    attention h k v wq (ix3 s t l) =
      late (scores (fun i : Fin 128 => dot (fun a : Fin 1024 => h (ix3 s t a)) fun a => wq (ix2 a (lane l i))) fun j i => k (ix4 s j (⟨l.val / 128, by omega⟩ : Fin 4) i))
        fun j => v (ix4 s j (⟨l.val / 128, by omega⟩ : Fin 4) (⟨l.val % 128, by omega⟩ : Fin 128)) := by
  show late (scores (fun i : Fin 128 => dot (fun a : Fin 1024 => input h (ix2 (flat s t) a)) fun a => wq (ix2 a (lane l i))) fun j i => merged k (ix3 s j (lane l i)))
    (fun j => merged v (ix3 s j l)) = _
  refine congrArg₂ late ?_ rfl
  exact congrArg₂ (scores (n := 128)) (funext fun i => dot_congr (fun a => input_flat h s t a) fun _ => rfl) (funext fun j => funext fun i => merged_lane k s j l i)

open Cert.CrossIdeal in
/-- One entry of the layer, for finite keys and query weights. A token with an infinite entry has the offsets, whatever the attention. -/
theorem layer_at (h : FVec Ideal S4x4096x1024 .f32) (k v : FVec Ideal S4x256x4x128 .f32) (wq : FVec Ideal S1024x512 .f32) (wo : FVec Ideal S512x1024 .f32) (g b : FVec Ideal S1024 .f32)
    (fk : ∀ i, k i ≠ ⊤ ∧ k i ≠ ⊥) (fw : ∀ i, wq i ≠ ⊤ ∧ wq i ≠ ⊥) (s : Fin 4) (t : Fin 4096) (l : Fin 1024) :
    layer h k v wq wo g b (ix3 s t l) =
      normed (skip (fun j => h (ix3 s t j)) fun j => dot (fun l : Fin 512 =>
          early (scores (fun i : Fin 128 => dot (fun a : Fin 1024 => h (ix3 s t a)) fun a => wq (ix2 a (lane l i))) fun j i => k (ix4 s j (⟨l.val / 128, by omega⟩ : Fin 4) i))
            fun j => v (ix4 s j (⟨l.val / 128, by omega⟩ : Fin 4) (⟨l.val % 128, by omega⟩ : Fin 128))) fun l => wo (ix2 l j))
        (fun j => g (ix1 j)) (fun j => b (ix1 j)) l := by
  show normed (skip (fun j => input h (ix2 (flat s t) j)) fun j => dot (fun l => joined (attention h k v wq) (ix2 (flat s t) l)) fun l => wo (ix2 l j))
    (fun j => g (ix1 j)) (fun j => b (ix1 j)) l = _
  by_cases inf : ∃ a, Infinite (h (ix3 s t a))
  · obtain ⟨a, ha⟩ := inf
    rw [normed_infinite _ _ _ a (skip_infinite _ _ a (by rw [input_flat]; exact ha)), normed_infinite _ _ _ a (skip_infinite _ _ a ha)]
  have fh : ∀ a, h (ix3 s t a) ≠ ⊤ ∧ h (ix3 s t a) ≠ ⊥ := fun a => not_or.1 fun e => inf ⟨a, e⟩
  refine normed_congr (input_flat h s t) (fun j => dot_congr (fun l => ?_) fun _ => rfl) (fun _ => rfl) (fun _ => rfl) l
  refine (joined_flat _ s t l).trans ((attention_at h k v wq s t l).trans (late_eq _ _ ?_))
  exact finite_scores _ _ (fun i => finite_dot _ _ (fun _ => fh _) fun _ => fw _) fun _ _ => fk _

/-- The kernel's result is the reference's. -/
theorem algebraic : Cert.algebraic_CrossIdeal_CrossReferenceIdeal_pre_finite := fun m g m' g' hp hm => by
  refine ⟨fun c => _, run_result m g, ?_⟩
  refine (θ_run Cert.CrossReferenceIdeal.defs _ _).mono (fun r h c => ⟨(h c).1.trans ?_, (h c).2⟩) (Cert.CrossReferenceIdeal.Value.run (F := Ideal) m' g')
  obtain ⟨e0, e1, e2, e3, e4, e5, e6⟩ := hm c
  obtain ⟨fk, fw⟩ := of_finite _ _ _ _ _ _ _ (hp c)
  refine funext fun (i : Cert.CrossIdeal.S4x4096x1024.Idx) => ?_
  rw [eq_ix3 i]
  exact (Cert.CrossReferenceIdeal.Layer.result_at m' c _ _ _ _ _ _ _ e0 e1 e2 e3 e4 e5 e6 (i 0) (i 1) (i 2)).trans (layer_at _ _ _ _ _ _ _ fk fw (i 0) (i 1) (i 2)).symm

end Cert.CrossClaims

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_pool
public import proofs.«01_k».proof.Proof.Gen.Pre_attends
public import proofs.«01_k».proof.Proof.Gen.FeedForward
public import proofs.«01_k».proof.Proof.Gen.FeedForward.Frame
public import proofs.«01_k».proof.Proof.Gen.FeedForwardIdeal
public import proofs.«01_k».proof.Proof.Gen.FeedForwardIdeal.Frame
public import proofs.«01_k».proof.Proof.Gen.FeedForwardReferenceIdeal
public import proofs.«01_k».proof.Proof.Gen.FeedForwardReferenceIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutReferenceIdeal
public import proofs.«01_k».proof.Proof.Gen.MixOutReferenceIdeal.Run
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryReferenceIdeal
public import proofs.«01_k».proof.Proof.Gen.MemoryReferenceIdeal.Run
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossReferenceIdeal
public import proofs.«01_k».proof.Proof.Gen.CrossReferenceIdeal.Run
public import proofs.«01_k».proof.Proof.Gen.Pre_finite
public import proofs.«01_k».proof.Proof.AttendClaims
public import proofs.«01_k».proof.Proof.AttendFrame
public import proofs.«01_k».proof.Proof.FeedForwardClaims
public import proofs.«01_k».proof.Proof.ProjectClaims
public import proofs.«01_k».proof.Proof.MixOutClaims
public import proofs.«01_k».proof.Proof.MemoryClaims
public import proofs.«01_k».proof.Proof.CrossClaims

@[expose] public section

noncomputable section

namespace Cert.Proof

theorem claim : Cert.Claim :=
  ⟨Cert.Kernel.Gen.facts, Cert.KernelIdeal.Gen.facts, Cert.ReferenceIdeal.Gen.facts,
    Cert.FeedForward.Gen.facts, Cert.FeedForwardIdeal.Gen.facts, Cert.FeedForwardReferenceIdeal.Gen.facts,
    Cert.Project.Gen.facts, Cert.ProjectIdeal.Gen.facts, Cert.ProjectReferenceIdeal.Gen.facts,
    Cert.MixOut.Gen.facts, Cert.MixOutIdeal.Gen.facts, Cert.MixOutReferenceIdeal.Gen.facts,
    Cert.Memory.Gen.facts, Cert.MemoryIdeal.Gen.facts, Cert.MemoryReferenceIdeal.Gen.facts,
    Cert.Cross.Gen.facts, Cert.CrossIdeal.Gen.facts, Cert.CrossReferenceIdeal.Gen.facts,
    Cert.Pre_in_pool.Gen.facts, Cert.Pre_attends.Gen.facts, Cert.Pre_finite.Gen.facts,
    Cert.AttendFrame.kernel, Cert.AttendClaims.frame, Cert.AttendClaims.frame_attends, Cert.AttendClaims.reference, Cert.AttendClaims.reference_attends,
    Cert.FeedForwardClaims.kernel, Cert.FeedForwardClaims.frame, Cert.FeedForwardClaims.reference,
    Cert.ProjectClaims.kernel, Cert.ProjectClaims.frame, Cert.ProjectClaims.reference,
    Cert.MixOutClaims.kernel, Cert.MixOutClaims.frame, Cert.MixOutClaims.reference,
    Cert.MemoryClaims.kernel, Cert.MemoryClaims.frame, Cert.MemoryClaims.reference,
    Cert.CrossClaims.kernel, Cert.CrossClaims.frame, Cert.CrossClaims.frame_finite, Cert.CrossClaims.reference, Cert.CrossClaims.reference_finite,
    Cert.AttendClaims.preserves, Cert.AttendClaims.algebraic,
    Cert.FeedForwardClaims.preserves, Cert.FeedForwardClaims.algebraic,
    Cert.ProjectClaims.preserves, Cert.ProjectClaims.algebraic,
    Cert.MixOutClaims.preserves, Cert.MixOutClaims.algebraic,
    Cert.MemoryClaims.preserves, Cert.MemoryClaims.algebraic,
    Cert.CrossClaims.preserves, Cert.CrossClaims.algebraic⟩

end Cert.Proof

end
